-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_and_ones [hPre_finite_scores_and_ones : Cert.Pre_finite_scores_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_and_ones [hPre_finite_scores_and_ones : Cert.Pre_finite_scores_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_and_ones [hKernelIdeal : Cert.KernelIdeal.Facts] [hPre_finite_scores_and_ones : Cert.Pre_finite_scores_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_and_ones [hReferenceIdeal : Cert.ReferenceIdeal.Facts] [hPre_finite_scores_and_ones : Cert.Pre_finite_scores_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite_scores_and_ones [hKernelIdeal : Cert.KernelIdeal.Facts] [hReferenceIdeal : Cert.ReferenceIdeal.Facts] [hPre_finite_scores_and_ones : Cert.Pre_finite_scores_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v24) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v26) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v103) = v0 c
          ∧ r.2.mem ((c.tc : Thread Cert.Reference6Ideal.nD Cert.Reference6Ideal.τ).loc Cert.Reference6Ideal.main_v125) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v84) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "unit" .f32 0x38800200#32 ((1 / 16383 : ℝ) : EReal)
  ∧ IdealRules.named_const.Statement Cert.Kernel9Ideal.κ "band" .f32 0x3F7FFF90#32 ((412314111637 / 412316860416 : ℝ) : EReal)
  ∧ IdealRules.named_const.Statement Cert.Kernel9Ideal.κ "decay" .f32 0xBD4541FF#32 ((-10301591 / 213909504 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  IdealRules.named_const.Statement Cert.Kernel10Ideal.κ "unit" .f32 0x3B808081#32 ((1 / 255 : ℝ) : EReal)
  ∧ IdealRules.named_const.Statement Cert.Kernel10Ideal.κ "band" .f32 0x3F7FFF90#32 ((412314111637 / 412316860416 : ℝ) : EReal)
  ∧ IdealRules.named_const.Statement Cert.Kernel10Ideal.κ "decay" .f32 0xBD4541FF#32 ((-10301591 / 213909504 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v47) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores_and_ones : Cert.Pre_finite_scores_and_ones.Facts),
    quiescent_Kernel (hKernel := hKernel)
    ∧ quiescent_KernelIdeal (hKernelIdeal := hKernelIdeal)
    ∧ quiescent_KernelIdeal_pre_finite_scores_and_ones (hKernelIdeal := hKernelIdeal) (hPre_finite_scores_and_ones := hPre_finite_scores_and_ones)
    ∧ quiescent_ReferenceIdeal (hReferenceIdeal := hReferenceIdeal)
    ∧ quiescent_ReferenceIdeal_pre_finite_scores_and_ones (hReferenceIdeal := hReferenceIdeal) (hPre_finite_scores_and_ones := hPre_finite_scores_and_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_scores_and_ones (hKernelIdeal := hKernelIdeal) (hReferenceIdeal := hReferenceIdeal) (hPre_finite_scores_and_ones := hPre_finite_scores_and_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_scores_and_ones.lean ====
abbrev S4x128x16640 : Shape := ⟨3, ![4, 128, 16640]⟩
abbrev S16640x128 : Shape := ⟨2, ![16640, 128]⟩
abbrev S65x80x256 : Shape := ⟨3, ![65, 80, 256]⟩
abbrev S4x128x16384 : Shape := ⟨3, ![4, 128, 16384]⟩
abbrev S_ : Shape := ⟨0, ![]⟩
abbrev S65x1x256 : Shape := ⟨3, ![65, 1, 256]⟩
abbrev S65x256 : Shape := ⟨2, ![65, 256]⟩

class Facts : Prop where
  slices_S4x128x16640_S4x128x16384_0_0_0 : S4x128x16640.Slices ![0, 0, 0] S4x128x16384
  bitsLt_bf16_f32 : FTy.bits .bf16 < FTy.bits .f32
  bcast_S_S4x128x16384 : S_.BroadcastsInDim S4x128x16384 (![] : Fin 0 → Fin S4x128x16384.rank)
  reducesTo_S4x128x16384_S_d0_1_2 : S4x128x16384.ReducesTo [0, 1, 2] S_
  h_S_ : 0 < S_.numel
  bcast_S_S16640x128 : S_.BroadcastsInDim S16640x128 (![] : Fin 0 → Fin S16640x128.rank)
  reducesTo_S16640x128_S_d0_1 : S16640x128.ReducesTo [0, 1] S_
  slices_S65x80x256_S65x1x256_0_64_0 : S65x80x256.Slices ![0, 64, 0] S65x1x256
  shapeCasts_S65x1x256_S65x256 : S65x1x256.ShapeCasts S65x256
  bcast_S_S65x256 : S_.BroadcastsInDim S65x256 (![] : Fin 0 → Fin S65x256.rank)
  reducesTo_S65x256_S_d0_1 : S65x256.ReducesTo [0, 1] S_

variable [Facts]

def fn_part1 {F : FTy → Type} [FloatOps F] (main_arg3 : FVec F S65x80x256 .bf16) (main_v11 : IVec S_ 1) (main_v17 : IVec S_ 1) : IVec S_ 1 :=
  let main_v18 : IVec S_ 1 := andi main_v11 main_v17
  let main_v19 : FVec F S65x1x256 .bf16 := (extractStridedSlice S65x1x256 ![0, 64, 0] · slices_S65x80x256_S65x1x256_0_64_0) main_arg3
  let main_v20 : FVec F S65x256 .bf16 := shapeCast S65x256 main_v19 shapeCasts_S65x1x256_S65x256
  let main_v21 : FVec F S65x256 .f32 := (extf .f32 · bitsLt_bf16_f32) main_v20
  let main_cst_4 : FVec F S_ .f32 := constant S_ .f32 0x3F800000#32
  let main_v22 : FVec F S65x256 .f32 := broadcastInDim S65x256 ![] bcast_S_S65x256 main_cst_4
  let main_v23 : IVec S65x256 1 := cmpf .oeq main_v21 main_v22
  let main_c_5 : IVec S_ 1 := constantI S_ 1 1#1
  let main_v24 : IVec S_ 1 := (fun x v => Host.reduce IntOp.andi x v reducesTo_S65x256_S_d0_1 h_S_) main_v23 main_c_5
  let main_v25 : IVec S_ 1 := andi main_v18 main_v24
  main_v25

def fn {F : FTy → Type} [FloatOps F] (main_arg0 : FVec F S4x128x16640 .bf16) (main_arg1 : FVec F S16640x128 .bf16) (main_arg2 : FVec F S65x80x256 .bf16) (main_arg3 : FVec F S65x80x256 .bf16) : IVec S_ 1 :=
  let main_v0 : FVec F S4x128x16384 .bf16 := (extractStridedSlice S4x128x16384 ![0, 0, 0] · slices_S4x128x16640_S4x128x16384_0_0_0) main_arg0
  let main_v1 : FVec F S4x128x16384 .f32 := (extf .f32 · bitsLt_bf16_f32) main_v0
  let main_v2 : FVec F S4x128x16384 .f32 := Host.absf main_v1
  let main_cst : FVec F S_ .f32 := constant S_ .f32 0x7F800000#32
  let main_v3 : FVec F S4x128x16384 .f32 := broadcastInDim S4x128x16384 ![] bcast_S_S4x128x16384 main_cst
  let main_v4 : IVec S4x128x16384 1 := cmpf .olt main_v2 main_v3
  let main_c : IVec S_ 1 := constantI S_ 1 1#1
  let main_v5 : IVec S_ 1 := (fun x v => Host.reduce IntOp.andi x v reducesTo_S4x128x16384_S_d0_1_2 h_S_) main_v4 main_c
  let main_v6 : FVec F S16640x128 .f32 := (extf .f32 · bitsLt_bf16_f32) main_arg1
  let main_v7 : FVec F S16640x128 .f32 := Host.absf main_v6
  let main_cst_0 : FVec F S_ .f32 := constant S_ .f32 0x7F800000#32
  let main_v8 : FVec F S16640x128 .f32 := broadcastInDim S16640x128 ![] bcast_S_S16640x128 main_cst_0
  let main_v9 : IVec S16640x128 1 := cmpf .olt main_v7 main_v8
  let main_c_1 : IVec S_ 1 := constantI S_ 1 1#1
  let main_v10 : IVec S_ 1 := (fun x v => Host.reduce IntOp.andi x v reducesTo_S16640x128_S_d0_1 h_S_) main_v9 main_c_1
  let main_v11 : IVec S_ 1 := andi main_v5 main_v10
  let main_v12 : FVec F S65x1x256 .bf16 := (extractStridedSlice S65x1x256 ![0, 64, 0] · slices_S65x80x256_S65x1x256_0_64_0) main_arg2
  let main_v13 : FVec F S65x256 .bf16 := shapeCast S65x256 main_v12 shapeCasts_S65x1x256_S65x256
  let main_v14 : FVec F S65x256 .f32 := (extf .f32 · bitsLt_bf16_f32) main_v13
  let main_cst_2 : FVec F S_ .f32 := constant S_ .f32 0x3F800000#32
  let main_v15 : FVec F S65x256 .f32 := broadcastInDim S65x256 ![] bcast_S_S65x256 main_cst_2
  let main_v16 : IVec S65x256 1 := cmpf .oeq main_v14 main_v15
  let main_c_3 : IVec S_ 1 := constantI S_ 1 1#1
  let main_v17 : IVec S_ 1 := (fun x v => Host.reduce IntOp.andi x v reducesTo_S65x256_S_d0_1 h_S_) main_v16 main_c_3
  fn_part1 (F := F) main_arg3 main_v11 main_v17
-- ==== Kernel.lean ====
abbrev S4x128x16640 : Shape := ⟨3, ![4, 128, 16640]⟩
abbrev S16640x128 : Shape := ⟨2, ![16640, 128]⟩
abbrev S65x80x256 : Shape := ⟨3, ![65, 80, 256]⟩
abbrev S16384x256 : Shape := ⟨2, ![16384, 256]⟩
abbrev S4x128x512 : Shape := ⟨3, ![4, 128, 512]⟩
abbrev S512x256 : Shape := ⟨2, ![512, 256]⟩
abbrev S2x2x1280x1024 : Shape := ⟨4, ![2, 2, 1280, 1024]⟩
abbrev S1x128x512 : Shape := ⟨3, ![1, 128, 512]⟩
abbrev S128x512 : Shape := ⟨2, ![128, 512]⟩
abbrev S128x1024 : Shape := ⟨2, ![128, 1024]⟩
abbrev S1280x128 : Shape := ⟨2, ![1280, 128]⟩
abbrev S1280x1024 : Shape := ⟨2, ![1280, 1024]⟩
abbrev S1x1x1280x1024 : Shape := ⟨4, ![1, 1, 1280, 1024]⟩
abbrev S1x1024 : Shape := ⟨2, ![1, 1024]⟩
abbrev S80x1024 : Shape := ⟨2, ![80, 1024]⟩
abbrev S1024 : Shape := ⟨1, ![1024]⟩
abbrev S1x80x256 : Shape := ⟨3, ![1, 80, 256]⟩
abbrev S80x256 : Shape := ⟨2, ![80, 256]⟩
abbrev S256x1024 : Shape := ⟨2, ![256, 1024]⟩
abbrev S512x128 : Shape := ⟨2, ![512, 128]⟩
abbrev S64x1024 : Shape := ⟨2, ![64, 1024]⟩
abbrev S1024x128 : Shape := ⟨2, ![1024, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x128x16640, .bf16⟩
  | .hbm, ⟨1, _⟩ => ⟨S16640x128, .bf16⟩
  | .hbm, ⟨2, _⟩ => ⟨S65x80x256, .bf16⟩
  | .hbm, ⟨3, _⟩ => ⟨S65x80x256, .bf16⟩
  | .hbm, ⟨4, _⟩ => ⟨S16384x256, .f32⟩
  | .local _ .vmem, ⟨0, _⟩ => ⟨S4x128x512, .bf16⟩
  | .local _ .vmem, ⟨1, _⟩ => ⟨S4x128x512, .bf16⟩
  | .local _ .vmem, ⟨2, _⟩ => ⟨S16640x128, .bf16⟩
  | .local _ .vmem, ⟨3, _⟩ => ⟨S65x80x256, .bf16⟩
  | .local _ .vmem, ⟨4, _⟩ => ⟨S65x80x256, .bf16⟩
  | .local _ .vmem, ⟨5, _⟩ => ⟨S512x256, .f32⟩
  | .local _ .vmem, ⟨6, _⟩ => ⟨S512x256, .f32⟩
  | .local _ .vmem, ⟨7, _⟩ => ⟨S2x2x1280x1024, .f32⟩
  | _, _ => ⟨S4x128x16640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  c0_i32
@[reducible] def k0_t1_loop : Scf.Loop 32 :=
  let c0_i32_22 : BitVec 32 := 0#32
  let c6_i32 : BitVec 32 := 6#32
  let v25 : BitVec 32 := Scalar.addi c0_i32_22 c6_i32
  let c1_i32 : BitVec 32 := 1#32
  ⟨c0_i32_22, v25, c1_i32⟩
def k0_mult2 (k0_t1 : Fin k0_t1_loop.trips) : BitVec 32 :=
  let c2_i32 : BitVec 32 := 2#32
  let c0_i32_22 : BitVec 32 := 0#32
  let c1_i32 : BitVec 32 := 1#32
  let arg7 : BitVec 32 := Scf.iv c0_i32_22 c1_i32 k0_t1
  let v132 : BitVec 32 := Scalar.muli c2_i32 arg7
  let c1_i32_76 : BitVec 32 := 1#32
  let v133 : BitVec 32 := Scalar.addi v132 c1_i32_76
  let c1280_i32 : BitVec 32 := 1280#32
  let v134 : BitVec 32 := Scalar.muli v133 c1280_i32
  v134
def k0_off1 (k0_t1 : Fin k0_t1_loop.trips) (c1_i32_76 : BitVec 32) : Fin 2 → Nat :=
  let c2_i32 : BitVec 32 := 2#32
  let c0_i32_22 : BitVec 32 := 0#32
  let c1_i32 : BitVec 32 := 1#32
  let arg7 : BitVec 32 := Scf.iv c0_i32_22 c1_i32 k0_t1
  let v132 : BitVec 32 := Scalar.muli c2_i32 arg7
  let v133 : BitVec 32 := Scalar.addi v132 c1_i32_76
  let c1280_i32 : BitVec 32 := 1280#32
  let v134 : BitVec 32 := Scalar.muli v133 c1280_i32
  let v135 : BitVec 32 := v134
  let v136 : Index := Scalar.indexCast v135
  let c0_77 : Index := 0#32
  ![v136.toNat, 0]
def k0_off2 (k0_t1 : Fin k0_t1_loop.trips) : Fin 3 → Nat :=
  let c2_i32_88 : BitVec 32 := 2#32
  let c0_i32_22 : BitVec 32 := 0#32
  let c1_i32 : BitVec 32 := 1#32
  let arg7 : BitVec 32 := Scf.iv c0_i32_22 c1_i32 k0_t1
  let v146 : BitVec 32 := Scalar.muli c2_i32_88 arg7
  let c5_i32 : BitVec 32 := 5#32
  let v156 : BitVec 32 := Scalar.muli v146 c5_i32
  let v157 : Index := Scalar.indexCast v156
  let c0_94 : Index := 0#32
  let c0_95 : Index := 0#32
  ![v157.toNat, 0, 0]
def k0_off3 (k0_t1 : Fin k0_t1_loop.trips) (c1_i32_98 : BitVec 32) : Fin 3 → Nat :=
  let c2_i32_88 : BitVec 32 := 2#32
  let c0_i32_22 : BitVec 32 := 0#32
  let c1_i32 : BitVec 32 := 1#32
  let arg7 : BitVec 32 := Scf.iv c0_i32_22 c1_i32 k0_t1
  let v146 : BitVec 32 := Scalar.muli c2_i32_88 arg7
  let c5_i32_97 : BitVec 32 := 5#32
  let v162 : BitVec 32 := Scalar.muli v146 c5_i32_97
  let v163 : BitVec 32 := Scalar.addi v162 c1_i32_98
  let v164 : Index := Scalar.indexCast v163
  let c0_99 : Index := 0#32
  let c0_100 : Index := 0#32
  ![v164.toNat, 0, 0]
def k0_mult3 (k0_t1 : Fin k0_t1_loop.trips) : BitVec 32 :=
  let c2_i32_144 : BitVec 32 := 2#32
  let c0_i32_22 : BitVec 32 := 0#32
  let c1_i32 : BitVec 32 := 1#32
  let arg7 : BitVec 32 := Scf.iv c0_i32_22 c1_i32 k0_t1
  let v251 : BitVec 32 := Scalar.muli c2_i32_144 arg7
  let c2_i32_145 : BitVec 32 := 2#32
  let v252 : BitVec 32 := Scalar.addi v251 c2_i32_145
  let c1280_i32_146 : BitVec 32 := 1280#32
  let v253 : BitVec 32 := Scalar.muli v252 c1280_i32_146
  v253
def k0_off4 (k0_t1 : Fin k0_t1_loop.trips) : Fin 3 → Nat :=
  let c2_i32_158 : BitVec 32 := 2#32
  let c0_i32_22 : BitVec 32 := 0#32
  let c1_i32 : BitVec 32 := 1#32
  let arg7 : BitVec 32 := Scf.iv c0_i32_22 c1_i32 k0_t1
  let v265 : BitVec 32 := Scalar.muli c2_i32_158 arg7
  let c1_i32_159 : BitVec 32 := 1#32
  let v266 : BitVec 32 := Scalar.addi v265 c1_i32_159
  let c5_i32_165 : BitVec 32 := 5#32
  let v276 : BitVec 32 := Scalar.muli v266 c5_i32_165
  let v277 : Index := Scalar.indexCast v276
  let c0_166 : Index := 0#32
  let c0_167 : Index := 0#32
  ![v277.toNat, 0, 0]
def k0_off5 (k0_t1 : Fin k0_t1_loop.trips) (c1_i32_170 : BitVec 32) : Fin 3 → Nat :=
  let c2_i32_158 : BitVec 32 := 2#32
  let c0_i32_22 : BitVec 32 := 0#32
  let c1_i32 : BitVec 32 := 1#32
  let arg7 : BitVec 32 := Scf.iv c0_i32_22 c1_i32 k0_t1
  let v265 : BitVec 32 := Scalar.muli c2_i32_158 arg7
  let c1_i32_159 : BitVec 32 := 1#32
  let v266 : BitVec 32 := Scalar.addi v265 c1_i32_159
  let c5_i32_169 : BitVec 32 := 5#32
  let v282 : BitVec 32 := Scalar.muli v266 c5_i32_169
  let v283 : BitVec 32 := Scalar.addi v282 c1_i32_170
  let v284 : Index := Scalar.indexCast v283
  let c0_171 : Index := 0#32
  let c0_172 : Index := 0#32
  ![v284.toNat, 0, 0]
def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x80x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S65x80x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x128x16640 : Shape := ⟨3, ![4, 128, 16640]⟩
abbrev S16640x128 : Shape := ⟨2, ![16640, 128]⟩
abbrev S65x80x256 : Shape := ⟨3, ![65, 80, 256]⟩
abbrev S1x128x16384 : Shape := ⟨3, ![1, 128, 16384]⟩
abbrev S128x16384 : Shape := ⟨2, ![128, 16384]⟩
abbrev S16384x128 : Shape := ⟨2, ![16384, 128]⟩
abbrev S128x16640 : Shape := ⟨2, ![128, 16640]⟩
abbrev S16384x16640 : Shape := ⟨2, ![16384, 16640]⟩
abbrev S_ : Shape := ⟨0, ![]⟩
abbrev S16384 : Shape := ⟨1, ![16384]⟩
abbrev S16384x1 : Shape := ⟨2, ![16384, 1]⟩
abbrev S65x256x80 : Shape := ⟨3, ![65, 256, 80]⟩
abbrev S16640x80 : Shape := ⟨2, ![16640, 80]⟩
abbrev S16640x64 : Shape := ⟨2, ![16640, 64]⟩
abbrev S16384x64 : Shape := ⟨2, ![16384, 64]⟩
abbrev S16384x256 : Shape := ⟨2, ![16384, 256]⟩

abbrev nBuf : Space → Nat
  | .hbm => 102
  | .vmem => 0
  | .smem => 0
  | _ => 0

abbrev bufTy : (tb : Table) → Fin (tcTables nBuf tb) → BufTy
  | .hbm, ⟨0, _⟩ => ⟨S4x128x16640, .bf16⟩
  | .hbm, ⟨1, _⟩ => ⟨S16640x128, .bf16⟩
  | .hbm, ⟨2, _⟩ => ⟨S65x80x256, .bf16⟩
  | .hbm, ⟨3, _⟩ => ⟨S65x80x256, .bf16⟩
  | .hbm, ⟨4, _⟩ => ⟨S16640x128, .f32⟩
  | .hbm, ⟨5, _⟩ => ⟨S1x128x16384, .bf16⟩
  | .hbm, ⟨6, _⟩ => ⟨S128x16384, .bf16⟩
  | .hbm, ⟨7, _⟩ => ⟨S128x16384, .f32⟩
  | .hbm, ⟨8, _⟩ => ⟨S16384x128, .f32⟩
  | .hbm, ⟨9, _⟩ => ⟨S128x16640, .f32⟩
  | .hbm, ⟨10, _⟩ => ⟨S16384x16640, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x16640, .f32⟩
  | .hbm, ⟨16, _⟩ => ⟨S16384x16640, .f32⟩
  | .hbm, ⟨17, _⟩ => ⟨S16384x16640, .f32⟩
  | .hbm, ⟨18, _⟩ => ⟨S16384x16640, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x16640, .f32⟩
  | .hbm, ⟨23, _⟩ => ⟨S16384x16640, .f32⟩
  | .hbm, ⟨24, _⟩ => ⟨S65x80x256, .f32⟩
  | .hbm, ⟨25, _⟩ => ⟨S65x256x80, .f32⟩
  | .hbm, ⟨26, _⟩ => ⟨S16640x80, .f32⟩
  | .hbm, ⟨27, _⟩ => ⟨S16640x64, .f32⟩
  | .hbm, ⟨28, _⟩ => ⟨S16384x64, .f32⟩
  | .hbm, ⟨29, _⟩ => ⟨S1x128x16384, .bf16⟩
  | .hbm, ⟨30, _⟩ => ⟨S128x16384, .bf16⟩
  | .hbm, ⟨31, _⟩ => ⟨S128x16384, .f32⟩
  | .hbm, ⟨32, _⟩ => ⟨S16384x128, .f32⟩
  | .hbm, ⟨33, _⟩ => ⟨S128x16640, .f32⟩
  | .hbm, ⟨34, _⟩ => ⟨S16384x16640, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x16640, .f32⟩
  | .hbm, ⟨40, _⟩ => ⟨S16384x16640, .f32⟩
  | .hbm, ⟨41, _⟩ => ⟨S16384x16640, .f32⟩
  | .hbm, ⟨42, _⟩ => ⟨S16384x16640, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x16640, .f32⟩
  | .hbm, ⟨47, _⟩ => ⟨S16384x16640, .f32⟩
  | .hbm, ⟨48, _⟩ => ⟨S65x80x256, .f32⟩
  | .hbm, ⟨49, _⟩ => ⟨S65x256x80, .f32⟩
  | .hbm, ⟨50, _⟩ => ⟨S16640x80, .f32⟩
  | .hbm, ⟨51, _⟩ => ⟨S16640x64, .f32⟩
  | .hbm, ⟨52, _⟩ => ⟨S16384x64, .f32⟩
  | .hbm, ⟨53, _⟩ => ⟨S1x128x16384, .bf16⟩
  | .hbm, ⟨54, _⟩ => ⟨S128x16384, .bf16⟩
  | .hbm, ⟨55, _⟩ => ⟨S128x16384, .f32⟩
  | .hbm, ⟨56, _⟩ => ⟨S16384x128, .f32⟩
  | .hbm, ⟨57, _⟩ => ⟨S128x16640, .f32⟩
  | .hbm, ⟨58, _⟩ => ⟨S16384x16640, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x16640, .f32⟩
  | .hbm, ⟨64, _⟩ => ⟨S16384x16640, .f32⟩
  | .hbm, ⟨65, _⟩ => ⟨S16384x16640, .f32⟩
  | .hbm, ⟨66, _⟩ => ⟨S16384x16640, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x16640, .f32⟩
  | .hbm, ⟨71, _⟩ => ⟨S16384x16640, .f32⟩
  | .hbm, ⟨72, _⟩ => ⟨S65x80x256, .f32⟩
  | .hbm, ⟨73, _⟩ => ⟨S65x256x80, .f32⟩
  | .hbm, ⟨74, _⟩ => ⟨S16640x80, .f32⟩
  | .hbm, ⟨75, _⟩ => ⟨S16640x64, .f32⟩
  | .hbm, ⟨76, _⟩ => ⟨S16384x64, .f32⟩
  | .hbm, ⟨77, _⟩ => ⟨S1x128x16384, .bf16⟩
  | .hbm, ⟨78, _⟩ => ⟨S128x16384, .bf16⟩
  | .hbm, ⟨79, _⟩ => ⟨S128x16384, .f32⟩
  | .hbm, ⟨80, _⟩ => ⟨S16384x128, .f32⟩
  | .hbm, ⟨81, _⟩ => ⟨S128x16640, .f32⟩
  | .hbm, ⟨82, _⟩ => ⟨S16384x16640, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x16640, .f32⟩
  | .hbm, ⟨88, _⟩ => ⟨S16384x16640, .f32⟩
  | .hbm, ⟨89, _⟩ => ⟨S16384x16640, .f32⟩
  | .hbm, ⟨90, _⟩ => ⟨S16384x16640, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x16640, .f32⟩
  | .hbm, ⟨95, _⟩ => ⟨S16384x16640, .f32⟩
  | .hbm, ⟨96, _⟩ => ⟨S65x80x256, .f32⟩
  | .hbm, ⟨97, _⟩ => ⟨S65x256x80, .f32⟩
  | .hbm, ⟨98, _⟩ => ⟨S16640x80, .f32⟩
  | .hbm, ⟨99, _⟩ => ⟨S16640x64, .f32⟩
  | .hbm, ⟨100, _⟩ => ⟨S16384x64, .f32⟩
  | .hbm, ⟨101, _⟩ => ⟨S16384x256, .f32⟩
  | _, _ => ⟨S4x128x16640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_cst_9 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_10 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩

abbrev nD : Nat := 1
abbrev τ : Topo := Topo.v7x

variable {F : FTy → Type} [FloatOps F]
-- ==== Kernel2.lean ====
abbrev S16640x1024 : Shape := ⟨2, ![16640, 1024]⟩
abbrev S2x1x1024 : Shape := ⟨3, ![2, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S256x1024 : Shape := ⟨2, ![256, 1024]⟩
abbrev S16x1024 : Shape := ⟨2, ![16, 1024]⟩
abbrev S1x1x1024 : Shape := ⟨3, ![1, 1, 1024]⟩
abbrev S288x1024 : Shape := ⟨2, ![288, 1024]⟩
abbrev S1024x512 : Shape := ⟨2, ![1024, 512]⟩
abbrev S288x512 : Shape := ⟨2, ![288, 512]⟩
abbrev S3x512 : Shape := ⟨2, ![3, 512]⟩
abbrev S256x512 : Shape := ⟨2, ![256, 512]⟩
abbrev S1x512 : Shape := ⟨2, ![1, 512]⟩
abbrev S512x1024 : Shape := ⟨2, ![512, 1024]⟩
abbrev S1024x256 : Shape := ⟨2, ![1024, 256]⟩
abbrev S288x256 : Shape := ⟨2, ![288, 256]⟩
abbrev S3x256 : Shape := ⟨2, ![3, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S2x1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16640x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16640x1024 : Shape := ⟨2, ![16640, 1024]⟩
abbrev S2x1x1024 : Shape := ⟨3, ![2, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S16640x5632 : Shape := ⟨2, ![16640, 5632]⟩
abbrev S_ : Shape := ⟨0, ![]⟩
abbrev S16383x5632 : Shape := ⟨2, ![16383, 5632]⟩
abbrev S255x5632 : Shape := ⟨2, ![255, 5632]⟩
abbrev S5632 : Shape := ⟨1, ![5632]⟩
abbrev S16640x2816 : Shape := ⟨2, ![16640, 2816]⟩
abbrev S1x1x1024 : Shape := ⟨3, ![1, 1, 1024]⟩
abbrev S16384x1024 : Shape := ⟨2, ![16384, 1024]⟩
abbrev S256x1024 : Shape := ⟨2, ![256, 1024]⟩
abbrev S16640 : Shape := ⟨1, ![16640]⟩
abbrev S16640x1 : Shape := ⟨2, ![16640, 1]⟩

abbrev nBuf : Space → Nat
  | .hbm => 92
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S2x1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16640x1024, .f32⟩
  | .hbm, ⟨10, _⟩ => ⟨S1024x5632, .f32⟩
  | .hbm, ⟨11, _⟩ => ⟨S16640x5632, .f32⟩
  | .hbm, ⟨12, _⟩ => ⟨S_, .f32⟩
  | .hbm, ⟨13, _⟩ => ⟨S1x5632, .f32⟩
  | .hbm, ⟨14, _⟩ => ⟨S16383x5632, .f32⟩
  | .hbm, ⟨15, _⟩ => ⟨S255x5632, .f32⟩
  | .hbm, ⟨16, _⟩ => ⟨S16640x5632, .f32⟩
  | .hbm, ⟨17, _⟩ => ⟨S16383x5632, .f32⟩
  | .hbm, ⟨18, _⟩ => ⟨S255x5632, .f32⟩
  | .hbm, ⟨19, _⟩ => ⟨S16640x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S16640x5632, .f32⟩
  | .hbm, ⟨24, _⟩ => ⟨S16640x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S16640x5632, .f32⟩
  | .hbm, ⟨29, _⟩ => ⟨S16640x5632, .f32⟩
  | .hbm, ⟨30, _⟩ => ⟨S16640x5632, .f32⟩
  | .hbm, ⟨31, _⟩ => ⟨S1x5632, .f32⟩
  | .hbm, ⟨32, _⟩ => ⟨S5632, .f32⟩
  | .hbm, ⟨33, _⟩ => ⟨S1x5632, .f32⟩
  | .hbm, ⟨34, _⟩ => ⟨S16640x5632, .f32⟩
  | .hbm, ⟨35, _⟩ => ⟨S16640x5632, .f32⟩
  | .hbm, ⟨36, _⟩ => ⟨S16640x5632, .f32⟩
  | .hbm, ⟨37, _⟩ => ⟨S16640x5632, .f32⟩
  | .hbm, ⟨38, _⟩ => ⟨S16640x5632, .f32⟩
  | .hbm, ⟨39, _⟩ => ⟨S16640x2816, .f32⟩
  | .hbm, ⟨40, _⟩ => ⟨S16640x2816, .f32⟩
  | .hbm, ⟨41, _⟩ => ⟨S16640x2816, .f32⟩
  | .hbm, ⟨42, _⟩ => ⟨S16640x2816, .f32⟩
  | .hbm, ⟨43, _⟩ => ⟨S_, .f32⟩
  | .hbm, ⟨44, _⟩ => ⟨S16640x2816, .f32⟩
  | .hbm, ⟨45, _⟩ => ⟨S16640x2816, .f32⟩
  | .hbm, ⟨46, _⟩ => ⟨S_, .f32⟩
  | .hbm, ⟨47, _⟩ => ⟨S16640x2816, .f32⟩
  | .hbm, ⟨48, _⟩ => ⟨S16640x2816, .f32⟩
  | .hbm, ⟨49, _⟩ => ⟨S16640x2816, .f32⟩
  | .hbm, ⟨50, _⟩ => ⟨S16640x2816, .f32⟩
  | .hbm, ⟨51, _⟩ => ⟨S2816x1024, .f32⟩
  | .hbm, ⟨52, _⟩ => ⟨S16640x1024, .f32⟩
  | .hbm, ⟨53, _⟩ => ⟨S1x1x1024, .f32⟩
  | .hbm, ⟨54, _⟩ => ⟨S1x1024, .f32⟩
  | .hbm, ⟨55, _⟩ => ⟨S16384x1024, .f32⟩
  | .hbm, ⟨56, _⟩ => ⟨S1x1x1024, .f32⟩
  | .hbm, ⟨57, _⟩ => ⟨S1x1024, .f32⟩
  | .hbm, ⟨58, _⟩ => ⟨S256x1024, .f32⟩
  | .hbm, ⟨59, _⟩ => ⟨S16640x1024, .f32⟩
  | .hbm, ⟨60, _⟩ => ⟨S_, .f32⟩
  | .hbm, ⟨61, _⟩ => ⟨S16640x1024, .f32⟩
  | .hbm, ⟨62, _⟩ => ⟨S16640x1024, .f32⟩
  | .hbm, ⟨63, _⟩ => ⟨S16640x1024, .f32⟩
  | .hbm, ⟨64, _⟩ => ⟨S16640x1024, .f32⟩
  | .hbm, ⟨65, _⟩ => ⟨S_, .f32⟩
  | .hbm, ⟨66, _⟩ => ⟨S16640, .f32⟩
  | .hbm, ⟨67, _⟩ => ⟨S16640x1, .f32⟩
  | .hbm, ⟨68, _⟩ => ⟨S_, .f32⟩
  | .hbm, ⟨69, _⟩ => ⟨S16640x1, .f32⟩
  | .hbm, ⟨70, _⟩ => ⟨S16640x1, .f32⟩
  | .hbm, ⟨71, _⟩ => ⟨S16640x1024, .f32⟩
  | .hbm, ⟨72, _⟩ => ⟨S16640x1024, .f32⟩
  | .hbm, ⟨73, _⟩ => ⟨S16640x1024, .f32⟩
  | .hbm, ⟨74, _⟩ => ⟨S_, .f32⟩
  | .hbm, ⟨75, _⟩ => ⟨S16640, .f32⟩
  | .hbm, ⟨76, _⟩ => ⟨S16640x1, .f32⟩
  | .hbm, ⟨77, _⟩ => ⟨S_, .f32⟩
  | .hbm, ⟨78, _⟩ => ⟨S16640x1, .f32⟩
  | .hbm, ⟨79, _⟩ => ⟨S16640x1, .f32⟩
  | .hbm, ⟨80, _⟩ => ⟨S16640x1024, .f32⟩
  | .hbm, ⟨81, _⟩ => ⟨S16640x1024, .f32⟩
  | .hbm, ⟨82, _⟩ => ⟨S_, .f32⟩
  | .hbm, ⟨83, _⟩ => ⟨S16640x1, .f32⟩
  | .hbm, ⟨84, _⟩ => ⟨S16640x1, .f32⟩
  | .hbm, ⟨85, _⟩ => ⟨S16640x1, .f32⟩
  | .hbm, ⟨86, _⟩ => ⟨S16640x1024, .f32⟩
  | .hbm, ⟨87, _⟩ => ⟨S16640x1024, .f32⟩
  | .hbm, ⟨88, _⟩ => ⟨S16640x1024, .f32⟩
  | .hbm, ⟨89, _⟩ => ⟨S16640x1024, .f32⟩
  | .hbm, ⟨90, _⟩ => ⟨S16640x1024, .f32⟩
  | .hbm, ⟨91, _⟩ => ⟨S16640x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_cst_4 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel3.lean ====
abbrev S16384x1024 : Shape := ⟨2, ![16384, 1024]⟩
abbrev S2x1x1024 : Shape := ⟨3, ![2, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S256x1024 : Shape := ⟨2, ![256, 1024]⟩
abbrev S16x1024 : Shape := ⟨2, ![16, 1024]⟩
abbrev S1x1x1024 : Shape := ⟨3, ![1, 1, 1024]⟩
abbrev S288x1024 : Shape := ⟨2, ![288, 1024]⟩
abbrev S1024x512 : Shape := ⟨2, ![1024, 512]⟩
abbrev S288x512 : Shape := ⟨2, ![288, 512]⟩
abbrev S3x512 : Shape := ⟨2, ![3, 512]⟩
abbrev S256x512 : Shape := ⟨2, ![256, 512]⟩
abbrev S1x512 : Shape := ⟨2, ![1, 512]⟩
abbrev S512x1024 : Shape := ⟨2, ![512, 1024]⟩
abbrev S1024x256 : Shape := ⟨2, ![1024, 256]⟩
abbrev S288x256 : Shape := ⟨2, ![288, 256]⟩
abbrev S3x256 : Shape := ⟨2, ![3, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S2x1x1024 : Shape := ⟨3, ![2, 1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S16384x5632 : Shape := ⟨2, ![16384, 5632]⟩
abbrev S_ : Shape := ⟨0, ![]⟩
abbrev S16383x5632 : Shape := ⟨2, ![16383, 5632]⟩
abbrev S5632 : Shape := ⟨1, ![5632]⟩
abbrev S16384x2816 : Shape := ⟨2, ![16384, 2816]⟩
abbrev S1x1x1024 : Shape := ⟨3, ![1, 1, 1024]⟩
abbrev S16384 : Shape := ⟨1, ![16384]⟩
abbrev S16384x1 : Shape := ⟨2, ![16384, 1]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S1024x5632, .f32⟩
  | .hbm, ⟨11, _⟩ => ⟨S16384x5632, .f32⟩
  | .hbm, ⟨12, _⟩ => ⟨S_, .f32⟩
  | .hbm, ⟨13, _⟩ => ⟨S1x5632, .f32⟩
  | .hbm, ⟨14, _⟩ => ⟨S16383x5632, .f32⟩
  | .hbm, ⟨15, _⟩ => ⟨S16384x5632, .f32⟩
  | .hbm, ⟨16, _⟩ => ⟨S16383x5632, .f32⟩
  | .hbm, ⟨17, _⟩ => ⟨S16384x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S2816x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S1x1x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel4.lean ====
abbrev S16384x1024 : Shape := ⟨2, ![16384, 1024]⟩
abbrev S256x1024 : Shape := ⟨2, ![256, 1024]⟩
abbrev S2x1x1024 : Shape := ⟨3, ![2, 1, 1024]⟩
abbrev S1024x2832 : Shape := ⟨2, ![1024, 2832]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x2176 : Shape := ⟨2, ![1024, 2176]⟩
abbrev S1024x768 : Shape := ⟨2, ![1024, 768]⟩
abbrev S768x1024 : Shape := ⟨2, ![768, 1024]⟩
abbrev S768x16640 : Shape := ⟨2, ![768, 16640]⟩
abbrev S16640x512 : Shape := ⟨2, ![16640, 512]⟩
abbrev S16640x1024 : Shape := ⟨2, ![16640, 1024]⟩
abbrev S16640x128 : Shape := ⟨2, ![16640, 128]⟩
abbrev S1x1x1024 : Shape := ⟨3, ![1, 1, 1024]⟩
abbrev S768x256 : Shape := ⟨2, ![768, 256]⟩
abbrev S256x512 : Shape := ⟨2, ![256, 512]⟩
abbrev S256x128 : Shape := ⟨2, ![256, 128]⟩
abbrev S1x1024 : Shape := ⟨2, ![1, 1024]⟩
abbrev S256x2176 : Shape := ⟨2, ![256, 2176]⟩

abbrev nBuf : Space → Nat
  | .hbm => 22
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x1x1024, .f32⟩
  | .hbm, ⟨3, _⟩ => ⟨S2x1x1024, .f32⟩
  | .hbm, ⟨4, _⟩ => ⟨S1024x2832, .f32⟩
  | .hbm, ⟨5, _⟩ => ⟨S1024x512, .f32⟩
  | .hbm, ⟨6, _⟩ => ⟨S1024x1024, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x512, .f32⟩
  | .hbm, ⟨12, _⟩ => ⟨S1024x2176, .f32⟩
  | .hbm, ⟨13, _⟩ => ⟨S1024x2176, .bf16⟩
  | .hbm, ⟨14, _⟩ => ⟨S1024x768, .f32⟩
  | .hbm, ⟨15, _⟩ => ⟨S768x1024, .f32⟩
  | .hbm, ⟨16, _⟩ => ⟨S768x1024, .bf16⟩
  | .hbm, ⟨17, _⟩ => ⟨S768x16640, .f32⟩
  | .hbm, ⟨18, _⟩ => ⟨S16640x512, .f32⟩
  | .hbm, ⟨19, _⟩ => ⟨S16640x1024, .f32⟩
  | .hbm, ⟨20, _⟩ => ⟨S16640x128, .f32⟩
  | .hbm, ⟨21, _⟩ => ⟨S16640x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S768x1024, .bf16⟩
  | .local _ .vmem, ⟨9, _⟩ => ⟨S768x256, .f32⟩
  | .local _ .vmem, ⟨10, _⟩ => ⟨S768x256, .f32⟩
  | .local _ .vmem, ⟨11, _⟩ => ⟨S256x512, .f32⟩
  | .local _ .vmem, ⟨12, _⟩ => ⟨S256x512, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S256x512, .f32⟩
  | .local _ .vmem, ⟨18, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S256x1024 : Shape := ⟨2, ![256, 1024]⟩
abbrev S2x1x1024 : Shape := ⟨3, ![2, 1, 1024]⟩
abbrev S1024x2832 : Shape := ⟨2, ![1024, 2832]⟩
abbrev S1x1x1024 : Shape := ⟨3, ![1, 1, 1024]⟩
abbrev S1x1024 : Shape := ⟨2, ![1, 1024]⟩
abbrev S_ : Shape := ⟨0, ![]⟩
abbrev S16640x1024 : Shape := ⟨2, ![16640, 1024]⟩
abbrev S16640x2832 : Shape := ⟨2, ![16640, 2832]⟩
abbrev S16640x16 : Shape := ⟨2, ![16640, 16]⟩
abbrev S16640x112 : Shape := ⟨2, ![16640, 112]⟩
abbrev S16640x128 : Shape := ⟨2, ![16640, 128]⟩
abbrev S16640x768 : Shape := ⟨2, ![16640, 768]⟩
abbrev S768x16640 : Shape := ⟨2, ![768, 16640]⟩
abbrev S16640x512 : Shape := ⟨2, ![16640, 512]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x1x1024, .f32⟩
  | .hbm, ⟨3, _⟩ => ⟨S2x1x1024, .f32⟩
  | .hbm, ⟨4, _⟩ => ⟨S1024x2832, .f32⟩
  | .hbm, ⟨5, _⟩ => ⟨S1x1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S1x1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S1x1x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S16640x1024, .f32⟩
  | .hbm, ⟨28, _⟩ => ⟨S16640x2832, .f32⟩
  | .hbm, ⟨29, _⟩ => ⟨S16640x16, .f32⟩
  | .hbm, ⟨30, _⟩ => ⟨S_, .f32⟩
  | .hbm, ⟨31, _⟩ => ⟨S16640x112, .f32⟩
  | .hbm, ⟨32, _⟩ => ⟨S16640x128, .f32⟩
  | .hbm, ⟨33, _⟩ => ⟨S16640x768, .f32⟩
  | .hbm, ⟨34, _⟩ => ⟨S768x16640, .f32⟩
  | .hbm, ⟨35, _⟩ => ⟨S16640x512, .f32⟩
  | .hbm, ⟨36, _⟩ => ⟨S16640x1024, .f32⟩
  | .hbm, ⟨37, _⟩ => ⟨S16640x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S16640x1024 : Shape := ⟨2, ![16640, 1024]⟩
abbrev S2x1x1024 : Shape := ⟨3, ![2, 1, 1024]⟩
abbrev S1024x2832 : Shape := ⟨2, ![1024, 2832]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x2176 : Shape := ⟨2, ![1024, 2176]⟩
abbrev S1024x768 : Shape := ⟨2, ![1024, 768]⟩
abbrev S768x1024 : Shape := ⟨2, ![768, 1024]⟩
abbrev S768x16640 : Shape := ⟨2, ![768, 16640]⟩
abbrev S16640x512 : Shape := ⟨2, ![16640, 512]⟩
abbrev S16640x128 : Shape := ⟨2, ![16640, 128]⟩
abbrev S256x1024 : Shape := ⟨2, ![256, 1024]⟩
abbrev S1x1x1024 : Shape := ⟨3, ![1, 1, 1024]⟩
abbrev S768x256 : Shape := ⟨2, ![768, 256]⟩
abbrev S256x512 : Shape := ⟨2, ![256, 512]⟩
abbrev S256x128 : Shape := ⟨2, ![256, 128]⟩
abbrev S1x1024 : Shape := ⟨2, ![1, 1024]⟩
abbrev S256x2176 : Shape := ⟨2, ![256, 2176]⟩

abbrev nBuf : Space → Nat
  | .hbm => 21
  | .vmem => 18
  | .smem => 0
  | _ => 0

abbrev bufTy : (tb : Table) → Fin (tcTables nBuf tb) → BufTy
  | .hbm, ⟨0, _⟩ => ⟨S16640x1024, .f32⟩
  | .hbm, ⟨1, _⟩ => ⟨S2x1x1024, .f32⟩
  | .hbm, ⟨2, _⟩ => ⟨S2x1x1024, .f32⟩
  | .hbm, ⟨3, _⟩ => ⟨S1024x2832, .f32⟩
  | .hbm, ⟨4, _⟩ => ⟨S1024x512, .f32⟩
  | .hbm, ⟨5, _⟩ => ⟨S1024x1024, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x512, .f32⟩
  | .hbm, ⟨11, _⟩ => ⟨S1024x2176, .f32⟩
  | .hbm, ⟨12, _⟩ => ⟨S1024x2176, .bf16⟩
  | .hbm, ⟨13, _⟩ => ⟨S1024x768, .f32⟩
  | .hbm, ⟨14, _⟩ => ⟨S768x1024, .f32⟩
  | .hbm, ⟨15, _⟩ => ⟨S768x1024, .bf16⟩
  | .hbm, ⟨16, _⟩ => ⟨S768x16640, .f32⟩
  | .hbm, ⟨17, _⟩ => ⟨S16640x512, .f32⟩
  | .hbm, ⟨18, _⟩ => ⟨S16640x1024, .f32⟩
  | .hbm, ⟨19, _⟩ => ⟨S16640x128, .f32⟩
  | .hbm, ⟨20, _⟩ => ⟨S16640x512, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2176, .bf16⟩
  | .local _ .vmem, ⟨7, _⟩ => ⟨S768x1024, .bf16⟩
  | .local _ .vmem, ⟨8, _⟩ => ⟨S768x256, .f32⟩
  | .local _ .vmem, ⟨9, _⟩ => ⟨S768x256, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x128, .f32⟩
  | .local _ .vmem, ⟨15, _⟩ => ⟨S256x128, .f32⟩
  | .local _ .vmem, ⟨16, _⟩ => ⟨S256x512, .f32⟩
  | .local _ .vmem, ⟨17, _⟩ => ⟨S256x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16640x1024 : Shape := ⟨2, ![16640, 1024]⟩
abbrev S2x1x1024 : Shape := ⟨3, ![2, 1, 1024]⟩
abbrev S1024x2832 : Shape := ⟨2, ![1024, 2832]⟩
abbrev S16384x1024 : Shape := ⟨2, ![16384, 1024]⟩
abbrev S1x1x1024 : Shape := ⟨3, ![1, 1, 1024]⟩
abbrev S1x1024 : Shape := ⟨2, ![1, 1024]⟩
abbrev S_ : Shape := ⟨0, ![]⟩
abbrev S256x1024 : Shape := ⟨2, ![256, 1024]⟩
abbrev S16640x2832 : Shape := ⟨2, ![16640, 2832]⟩
abbrev S16640x16 : Shape := ⟨2, ![16640, 16]⟩
abbrev S16640x112 : Shape := ⟨2, ![16640, 112]⟩
abbrev S16640x128 : Shape := ⟨2, ![16640, 128]⟩
abbrev S16640x768 : Shape := ⟨2, ![16640, 768]⟩
abbrev S768x16640 : Shape := ⟨2, ![768, 16640]⟩
abbrev S16640x512 : Shape := ⟨2, ![16640, 512]⟩

abbrev nBuf : Space → Nat
  | .hbm => 39
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S2x1x1024, .f32⟩
  | .hbm, ⟨2, _⟩ => ⟨S2x1x1024, .f32⟩
  | .hbm, ⟨3, _⟩ => ⟨S1024x2832, .f32⟩
  | .hbm, ⟨4, _⟩ => ⟨S16384x1024, .f32⟩
  | .hbm, ⟨5, _⟩ => ⟨S1x1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S256x1024, .f32⟩
  | .hbm, ⟨17, _⟩ => ⟨S1x1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1x1x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S16640x1024, .f32⟩
  | .hbm, ⟨29, _⟩ => ⟨S16640x2832, .f32⟩
  | .hbm, ⟨30, _⟩ => ⟨S16640x16, .f32⟩
  | .hbm, ⟨31, _⟩ => ⟨S_, .f32⟩
  | .hbm, ⟨32, _⟩ => ⟨S16640x112, .f32⟩
  | .hbm, ⟨33, _⟩ => ⟨S16640x128, .f32⟩
  | .hbm, ⟨34, _⟩ => ⟨S16640x768, .f32⟩
  | .hbm, ⟨35, _⟩ => ⟨S768x16640, .f32⟩
  | .hbm, ⟨36, _⟩ => ⟨S16640x512, .f32⟩
  | .hbm, ⟨37, _⟩ => ⟨S16640x1024, .f32⟩
  | .hbm, ⟨38, _⟩ => ⟨S16640x512, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel6.lean ====
abbrev S256x16384 : Shape := ⟨2, ![256, 16384]⟩
abbrev S256x256 : Shape := ⟨2, ![256, 256]⟩
abbrev S16640x512 : Shape := ⟨2, ![16640, 512]⟩
abbrev S16384x256 : Shape := ⟨2, ![16384, 256]⟩
abbrev S16384x1024 : Shape := ⟨2, ![16384, 1024]⟩
abbrev S256x1024 : Shape := ⟨2, ![256, 1024]⟩
abbrev S2x1x1024 : Shape := ⟨3, ![2, 1, 1024]⟩
abbrev S1024x1024 : Shape := ⟨2, ![1024, 1024]⟩
abbrev S1x512 : Shape := ⟨2, ![1, 512]⟩
abbrev S1x1024 : Shape := ⟨2, ![1, 1024]⟩
abbrev S16640x1024 : Shape := ⟨2, ![16640, 1024]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩
abbrev S512x1024 : Shape := ⟨2, ![512, 1024]⟩

abbrev nBuf : Space → Nat
  | .hbm => 18
  | .vmem => 29
  | .smem => 0
  | _ => 0

abbrev bufTy : (tb : Table) → Fin (tcTables nBuf tb) → BufTy
  | .hbm, ⟨0, _⟩ => ⟨S256x16384, .f32⟩
  | .hbm, ⟨1, _⟩ => ⟨S256x256, .f32⟩
  | .hbm, ⟨2, _⟩ => ⟨S16640x512, .f32⟩
  | .hbm, ⟨3, _⟩ => ⟨S16640x512, .f32⟩
  | .hbm, ⟨4, _⟩ => ⟨S16640x512, .f32⟩
  | .hbm, ⟨5, _⟩ => ⟨S16384x256, .f32⟩
  | .hbm, ⟨6, _⟩ => ⟨S256x256, .f32⟩
  | .hbm, ⟨7, _⟩ => ⟨S16384x1024, .f32⟩
  | .hbm, ⟨8, _⟩ => ⟨S256x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S1024x1024, .bf16⟩
  | .hbm, ⟨13, _⟩ => ⟨S1x512, .f32⟩
  | .hbm, ⟨14, _⟩ => ⟨S1x1024, .f32⟩
  | .hbm, ⟨15, _⟩ => ⟨S1x1024, .f32⟩
  | .hbm, ⟨16, _⟩ => ⟨S16640x1024, .f32⟩
  | .hbm, ⟨17, _⟩ => ⟨S16640x1024, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x1024, .bf16⟩
  | .local _ .vmem, ⟨22, _⟩ => ⟨S1x512, .f32⟩
  | .local _ .vmem, ⟨23, _⟩ => ⟨S1x1024, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S256x16384 : Shape := ⟨2, ![256, 16384]⟩
abbrev S256x256 : Shape := ⟨2, ![256, 256]⟩
abbrev S16640x512 : Shape := ⟨2, ![16640, 512]⟩
abbrev S16384x256 : Shape := ⟨2, ![16384, 256]⟩
abbrev S16384x1024 : Shape := ⟨2, ![16384, 1024]⟩
abbrev S256x1024 : Shape := ⟨2, ![256, 1024]⟩
abbrev S2x1x1024 : Shape := ⟨3, ![2, 1, 1024]⟩
abbrev S1024x1024 : Shape := ⟨2, ![1024, 1024]⟩
abbrev S1x512 : Shape := ⟨2, ![1, 512]⟩
abbrev S1x1024 : Shape := ⟨2, ![1, 1024]⟩
abbrev S256x16640 : Shape := ⟨2, ![256, 16640]⟩
abbrev S16640x256 : Shape := ⟨2, ![16640, 256]⟩
abbrev S_ : Shape := ⟨0, ![]⟩
abbrev S16640 : Shape := ⟨1, ![16640]⟩
abbrev S16640x1 : Shape := ⟨2, ![16640, 1]⟩
abbrev S1x256 : Shape := ⟨2, ![1, 256]⟩
abbrev S16640x1024 : Shape := ⟨2, ![16640, 1024]⟩
abbrev S1x1x1024 : Shape := ⟨3, ![1, 1, 1024]⟩
abbrev S16384 : Shape := ⟨1, ![16384]⟩
abbrev S16384x1 : Shape := ⟨2, ![16384, 1]⟩
abbrev S256 : Shape := ⟨1, ![256]⟩
abbrev S256x1 : Shape := ⟨2, ![256, 1]⟩

abbrev nBuf : Space → Nat
  | .hbm => 164
  | .vmem => 0
  | .smem => 0
  | _ => 0

abbrev hbmTy0_0 (i : Nat) : BufTy := match i % 128 with
  | 0 => ⟨S256x16384, .f32⟩
  | 1 => ⟨S256x256, .f32⟩
  | 2 => ⟨S16640x512, .f32⟩
  | 3 => ⟨S16640x512, .f32⟩
  | 4 => ⟨S16640x512, .f32⟩
  | 5 => ⟨S16384x256, .f32⟩
  | 6 => ⟨S256x256, .f32⟩
  | 7 => ⟨S16384x1024, .f32⟩
  | 8 => ⟨S256x1024, .f32⟩
  | 9 => ⟨S2x1x1024, .f32⟩
  | 10 => ⟨S2x1x1024, .f32⟩
  | 11 => ⟨S2x1x1024, .f32⟩
  | 12 => ⟨S1024x1024, .bf16⟩
  | 13 => ⟨S1x512, .f32⟩
  | 14 => ⟨S1x1024, .f32⟩
  | 15 => ⟨S1x1024, .f32⟩
  | 16 => ⟨S256x16640, .f32⟩
  | 17 => ⟨S16640x256, .f32⟩
  | 18 => ⟨S16640x512, .f32⟩
  | 19 => ⟨S16640x512, .f32⟩
  | 20 => ⟨S16640x512, .f32⟩
  | 21 => ⟨S_, .f32⟩
  | 22 => ⟨S16640x512, .f32⟩
  | 23 => ⟨S16640x512, .f32⟩
  | 24 => ⟨S_, .f32⟩
  | 25 => ⟨S16640x512, .f32⟩
  | 26 => ⟨S16640x512, .f32⟩
  | 27 => ⟨S16640x512, .f32⟩
  | 28 => ⟨S16640x512, .f32⟩
  | 29 => ⟨S16640x256, .f32⟩
  | 30 => ⟨S16640x256, .f32⟩
  | 31 => ⟨S16640x256, .f32⟩
  | 32 => ⟨S_, .f32⟩
  | 33 => ⟨S16640, .f32⟩
  | 34 => ⟨S16640x1, .f32⟩
  | 35 => ⟨S_, .f32⟩
  | 36 => ⟨S16640x1, .f32⟩
  | 37 => ⟨S16640x1, .f32⟩
  | 38 => ⟨S_, .f32⟩
  | 39 => ⟨S16640x1, .f32⟩
  | 40 => ⟨S16640x1, .f32⟩
  | 41 => ⟨S16640x1, .f32⟩
  | 42 => ⟨S16640x256, .f32⟩
  | 43 => ⟨S16640x256, .f32⟩
  | 44 => ⟨S1x256, .f32⟩
  | 45 => ⟨S16640x256, .f32⟩
  | 46 => ⟨S16640x256, .f32⟩
  | 47 => ⟨S16640x256, .f32⟩
  | 48 => ⟨S_, .f32⟩
  | 49 => ⟨S16640, .f32⟩
  | 50 => ⟨S16640x1, .f32⟩
  | 51 => ⟨S_, .f32⟩
  | 52 => ⟨S16640x1, .f32⟩
  | 53 => ⟨S16640x1, .f32⟩
  | 54 => ⟨S_, .f32⟩
  | 55 => ⟨S16640x1, .f32⟩
  | 56 => ⟨S16640x1, .f32⟩
  | 57 => ⟨S16640x1, .f32⟩
  | 58 => ⟨S16640x256, .f32⟩
  | 59 => ⟨S16640x256, .f32⟩
  | 60 => ⟨S1x256, .f32⟩
  | 61 => ⟨S16640x256, .f32⟩
  | 62 => ⟨S16640x256, .f32⟩
  | 63 => ⟨S16640x256, .f32⟩
  | 64 => ⟨S16640x1024, .f32⟩
  | 65 => ⟨S1024x1024, .f32⟩
  | 66 => ⟨S16640x1024, .f32⟩
  | 67 => ⟨S_, .f32⟩
  | 68 => ⟨S16384x1024, .f32⟩
  | 69 => ⟨S16384x1024, .f32⟩
  | 70 => ⟨S1x1x1024, .f32⟩
  | 71 => ⟨S1x1024, .f32⟩
  | 72 => ⟨S16384x1024, .f32⟩
  | 73 => ⟨S16384x1024, .f32⟩
  | 74 => ⟨S16384x1024, .f32⟩
  | 75 => ⟨S16384x1024, .f32⟩
  | 76 => ⟨S_, .f32⟩
  | 77 => ⟨S16384, .f32⟩
  | 78 => ⟨S16384x1, .f32⟩
  | 79 => ⟨S_, .f32⟩
  | 80 => ⟨S16384x1, .f32⟩
  | 81 => ⟨S16384x1, .f32⟩
  | 82 => ⟨S16384x1024, .f32⟩
  | 83 => ⟨S16384x1024, .f32⟩
  | 84 => ⟨S16384x1024, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S16384x1024, .f32⟩
  | 92 => ⟨S16384x1024, .f32⟩
  | 93 => ⟨S_, .f32⟩
  | 94 => ⟨S16384x1, .f32⟩
  | 95 => ⟨S16384x1, .f32⟩
  | 96 => ⟨S16384x1, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S_, .f32⟩
  | 104 => ⟨S256x1024, .f32⟩
  | 105 => ⟨S256x1024, .f32⟩
  | 106 => ⟨S1x1x1024, .f32⟩
  | 107 => ⟨S1x1024, .f32⟩
  | 108 => ⟨S256x1024, .f32⟩
  | 109 => ⟨S256x1024, .f32⟩
  | 110 => ⟨S256x1024, .f32⟩
  | 111 => ⟨S256x1024, .f32⟩
  | 112 => ⟨S_, .f32⟩
  | 113 => ⟨S256, .f32⟩
  | 114 => ⟨S256x1, .f32⟩
  | 115 => ⟨S_, .f32⟩
  | 116 => ⟨S256x1, .f32⟩
  | 117 => ⟨S256x1, .f32⟩
  | 118 => ⟨S256x1024, .f32⟩
  | 119 => ⟨S256x1024, .f32⟩
  | 120 => ⟨S256x1024, .f32⟩
  | 121 => ⟨S_, .f32⟩
  | 122 => ⟨S256, .f32⟩
  | 123 => ⟨S256x1, .f32⟩
  | 124 => ⟨S_, .f32⟩
  | 125 => ⟨S256x1, .f32⟩
  | 126 => ⟨S256x1, .f32⟩
  | 127 => ⟨S256x1024, .f32⟩
  | _ => ⟨S256x16384, .f32⟩

abbrev hbmTy0_1 (i : Nat) : BufTy := match i % 128 with
  | 0 => ⟨S256x1024, .f32⟩
  | 1 => ⟨S_, .f32⟩
  | 2 => ⟨S256x1, .f32⟩
  | 3 => ⟨S256x1, .f32⟩
  | 4 => ⟨S256x1, .f32⟩
  | 5 => ⟨S256x1024, .f32⟩
  | 6 => ⟨S256x1024, .f32⟩
  | 7 => ⟨S256x1024, .f32⟩
  | 8 => ⟨S256x1024, .f32⟩
  | 9 => ⟨S256x1024, .f32⟩
  | 10 => ⟨S256x1024, .f32⟩
  | 11 => ⟨S16640x1024, .f32⟩
  | 12 => ⟨S1x1x1024, .f32⟩
  | 13 => ⟨S1x1024, .f32⟩
  | 14 => ⟨S_, .f32⟩
  | 15 => ⟨S1x1024, .f32⟩
  | 16 => ⟨S1x1024, .f32⟩
  | 17 => ⟨S16384x1024, .f32⟩
  | 18 => ⟨S16384x1024, .f32⟩
  | 19 => ⟨S1x1x1024, .f32⟩
  | 20 => ⟨S1x1024, .f32⟩
  | 21 => ⟨S16384x1024, .f32⟩
  | 22 => ⟨S16384x1024, .f32⟩
  | 23 => ⟨S1x1x1024, .f32⟩
  | 24 => ⟨S1x1024, .f32⟩
  | 25 => ⟨S_, .f32⟩
  | 26 => ⟨S1x1024, .f32⟩
  | 27 => ⟨S1x1024, .f32⟩
  | 28 => ⟨S256x1024, .f32⟩
  | 29 => ⟨S256x1024, .f32⟩
  | 30 => ⟨S1x1x1024, .f32⟩
  | 31 => ⟨S1x1024, .f32⟩
  | 32 => ⟨S256x1024, .f32⟩
  | 33 => ⟨S256x1024, .f32⟩
  | 34 => ⟨S16640x1024, .f32⟩
  | 35 => ⟨S16640x1024, .bf16⟩
  | _ => ⟨S256x16384, .f32⟩

abbrev hbmTy (i : Nat) : BufTy := match i / 128 with
  | 0 => hbmTy0_0 i
  | 1 => hbmTy0_1 i
  | _ => ⟨S256x16384, .f32⟩

abbrev bufTy : (tb : Table) → Fin (tcTables nBuf tb) → BufTy
  | .hbm, ⟨i, _⟩ => hbmTy i
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_19 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_20 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== Kernel7.lean ====
abbrev S256x16384 : Shape := ⟨2, ![256, 16384]⟩
abbrev S16640x512 : Shape := ⟨2, ![16640, 512]⟩
abbrev S16384x256 : Shape := ⟨2, ![16384, 256]⟩
abbrev S16640x1024 : Shape := ⟨2, ![16640, 1024]⟩
abbrev S2x1x1024 : Shape := ⟨3, ![2, 1, 1024]⟩
abbrev S1024x1024 : Shape := ⟨2, ![1024, 1024]⟩
abbrev S1x512 : Shape := ⟨2, ![1, 512]⟩
abbrev S1x1024 : Shape := ⟨2, ![1, 1024]⟩
abbrev S16384x1024 : Shape := ⟨2, ![16384, 1024]⟩
abbrev S256x256 : Shape := ⟨2, ![256, 256]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S512x1024 : Shape := ⟨2, ![512, 1024]⟩

abbrev nBuf : Space → Nat
  | .hbm => 15
  | .vmem => 26
  | .smem => 0
  | _ => 0

abbrev bufTy : (tb : Table) → Fin (tcTables nBuf tb) → BufTy
  | .hbm, ⟨0, _⟩ => ⟨S256x16384, .f32⟩
  | .hbm, ⟨1, _⟩ => ⟨S16640x512, .f32⟩
  | .hbm, ⟨2, _⟩ => ⟨S16640x512, .f32⟩
  | .hbm, ⟨3, _⟩ => ⟨S16640x512, .f32⟩
  | .hbm, ⟨4, _⟩ => ⟨S16384x256, .f32⟩
  | .hbm, ⟨5, _⟩ => ⟨S16640x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1024x1024, .bf16⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .bf16⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .bf16⟩
  | .local _ .vmem, ⟨19, _⟩ => ⟨S1x512, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let c64_i32 : BitVec 32 := 64#32
  let v0 : BitVec 1 := Scalar.cmpi .eq arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S256x16384 : Shape := ⟨2, ![256, 16384]⟩
abbrev S16640x512 : Shape := ⟨2, ![16640, 512]⟩
abbrev S16384x256 : Shape := ⟨2, ![16384, 256]⟩
abbrev S16640x1024 : Shape := ⟨2, ![16640, 1024]⟩
abbrev S2x1x1024 : Shape := ⟨3, ![2, 1, 1024]⟩
abbrev S1024x1024 : Shape := ⟨2, ![1024, 1024]⟩
abbrev S1x512 : Shape := ⟨2, ![1, 512]⟩
abbrev S1x1024 : Shape := ⟨2, ![1, 1024]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S16384x1024 : Shape := ⟨2, ![16384, 1024]⟩
abbrev S1x1x1024 : Shape := ⟨3, ![1, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S16640x512, .f32⟩
  | .hbm, ⟨2, _⟩ => ⟨S16640x512, .f32⟩
  | .hbm, ⟨3, _⟩ => ⟨S16640x512, .f32⟩
  | .hbm, ⟨4, _⟩ => ⟨S16384x256, .f32⟩
  | .hbm, ⟨5, _⟩ => ⟨S16640x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1024x1024, .bf16⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x256, .f32⟩
  | .hbm, ⟨41, _⟩ => ⟨S16384x256, .f32⟩
  | .hbm, ⟨42, _⟩ => ⟨S1x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x256, .f32⟩
  | .hbm, ⟨57, _⟩ => ⟨S16384x256, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S16384x1024, .f32⟩
  | .hbm, ⟨63, _⟩ => ⟨S1024x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S1x1x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S1x1x1024, .f32⟩
  | .hbm, ⟨102, _⟩ => ⟨S1x1024, .f32⟩
  | .hbm, ⟨103, _⟩ => ⟨S_, .f32⟩
  | .hbm, ⟨104, _⟩ => ⟨S1x1024, .f32⟩
  | .hbm, ⟨105, _⟩ => ⟨S1x1024, .f32⟩
  | .hbm, ⟨106, _⟩ => ⟨S16384x1024, .f32⟩
  | .hbm, ⟨107, _⟩ => ⟨S16384x1024, .f32⟩
  | .hbm, ⟨108, _⟩ => ⟨S1x1x1024, .f32⟩
  | .hbm, ⟨109, _⟩ => ⟨S1x1024, .f32⟩
  | .hbm, ⟨110, _⟩ => ⟨S16384x1024, .f32⟩
  | .hbm, ⟨111, _⟩ => ⟨S16384x1024, .f32⟩
  | .hbm, ⟨112, _⟩ => ⟨S16384x1024, .bf16⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Kernel8.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Kernel9.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S32x64 : Shape := ⟨2, ![32, 64]⟩
abbrev S1x64 : Shape := ⟨2, ![1, 64]⟩
abbrev S64x33 : Shape := ⟨2, ![64, 33]⟩
abbrev S_ : Shape := ⟨0, ![]⟩
abbrev S64x128 : Shape := ⟨2, ![64, 128]⟩
abbrev S64x1 : Shape := ⟨2, ![64, 1]⟩
abbrev S1024x64 : Shape := ⟨2, ![1024, 64]⟩
abbrev S4x256x16384 : Shape := ⟨3, ![4, 256, 16384]⟩
abbrev S4x256x2048 : Shape := ⟨3, ![4, 256, 2048]⟩
abbrev S1x2048 : Shape := ⟨2, ![1, 2048]⟩
abbrev S16x2048 : Shape := ⟨2, ![16, 2048]⟩
abbrev S8x2048 : Shape := ⟨2, ![8, 2048]⟩
abbrev S88x2048 : Shape := ⟨2, ![88, 2048]⟩
abbrev S128x2048 : Shape := ⟨2, ![128, 2048]⟩
abbrev S64x2048 : Shape := ⟨2, ![64, 2048]⟩
abbrev S1024x2048 : Shape := ⟨2, ![1024, 2048]⟩
abbrev S256x2048 : Shape := ⟨2, ![256, 2048]⟩
abbrev S1x256x2048 : Shape := ⟨3, ![1, 256, 2048]⟩

abbrev nBuf : Space → Nat
  | .hbm => 19
  | .vmem => 8
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S32x64, .f32⟩
  | .hbm, ⟨7, _⟩ => ⟨S1x64, .f32⟩
  | .hbm, ⟨8, _⟩ => ⟨S33x64, .f32⟩
  | .hbm, ⟨9, _⟩ => ⟨S64x33, .f32⟩
  | .hbm, ⟨10, _⟩ => ⟨S_, .i32⟩
  | .hbm, ⟨11, _⟩ => ⟨S_, .f32⟩
  | .hbm, ⟨12, _⟩ => ⟨S64x128, .f32⟩
  | .hbm, ⟨13, _⟩ => ⟨S64x1, .f32⟩
  | .hbm, ⟨14, _⟩ => ⟨S64x64, .f32⟩
  | .hbm, ⟨15, _⟩ => ⟨S64x1, .f32⟩
  | .hbm, ⟨16, _⟩ => ⟨S1024x64, .f32⟩
  | .hbm, ⟨17, _⟩ => ⟨S64x1, .f32⟩
  | .hbm, ⟨18, _⟩ => ⟨S4x256x16384, .f32⟩
  | .local _ .vmem, ⟨0, _⟩ => ⟨S64x128, .f32⟩
  | .local _ .vmem, ⟨1, _⟩ => ⟨S64x1, .f32⟩
  | .local _ .vmem, ⟨2, _⟩ => ⟨S64x64, .f32⟩
  | .local _ .vmem, ⟨3, _⟩ => ⟨S64x1, .f32⟩
  | .local _ .vmem, ⟨4, _⟩ => ⟨S1024x64, .f32⟩
  | .local _ .vmem, ⟨5, _⟩ => ⟨S64x1, .f32⟩
  | .local _ .vmem, ⟨6, _⟩ => ⟨S4x256x2048, .f32⟩
  | .local _ .vmem, ⟨7, _⟩ => ⟨S4x256x2048, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
variable {F : FTy → Type} [FloatOps F] [Named F]
def κ : String → Option EReal := fun
  | "band" => some ((412314111637 / 412316860416 : ℝ) : EReal)
  | "decay" => some ((-10301591 / 213909504 : ℝ) : EReal)
  | "unit" => some ((1 / 16383 : ℝ) : EReal)
  | _ => none
-- ==== Reference9Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S16383 : Shape := ⟨1, ![16383]⟩
abbrev S1 : Shape := ⟨1, ![1]⟩
abbrev S16384 : Shape := ⟨1, ![16384]⟩
abbrev S16384x1 : Shape := ⟨2, ![16384, 1]⟩
abbrev S15 : Shape := ⟨1, ![15]⟩
abbrev S16 : Shape := ⟨1, ![16]⟩
abbrev S1x16 : Shape := ⟨2, ![1, 16]⟩
abbrev S16384x16 : Shape := ⟨2, ![16384, 16]⟩
abbrev S16384x33 : Shape := ⟨2, ![16384, 33]⟩
abbrev S16384x64 : Shape := ⟨2, ![16384, 64]⟩
abbrev S1x64 : Shape := ⟨2, ![1, 64]⟩
abbrev S16384x1024 : Shape := ⟨2, ![16384, 1024]⟩
abbrev S255 : Shape := ⟨1, ![255]⟩
abbrev S256 : Shape := ⟨1, ![256]⟩
abbrev S1x256 : Shape := ⟨2, ![1, 256]⟩
abbrev S16384x256 : Shape := ⟨2, ![16384, 256]⟩
abbrev S16384x4x256 : Shape := ⟨3, ![16384, 4, 256]⟩
abbrev S16384x1x256 : Shape := ⟨3, ![16384, 1, 256]⟩
abbrev S4x256x16384 : Shape := ⟨3, ![4, 256, 16384]⟩

abbrev nBuf : Space → Nat
  | .hbm => 121
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16383, .f32⟩
  | .hbm, ⟨14, _⟩ => ⟨S_, .f32⟩
  | .hbm, ⟨15, _⟩ => ⟨S16383, .f32⟩
  | .hbm, ⟨16, _⟩ => ⟨S16383, .f32⟩
  | .hbm, ⟨17, _⟩ => ⟨S1, .f32⟩
  | .hbm, ⟨18, _⟩ => ⟨S_, .f32⟩
  | .hbm, ⟨19, _⟩ => ⟨S16383, .f32⟩
  | .hbm, ⟨20, _⟩ => ⟨S16383, .f32⟩
  | .hbm, ⟨21, _⟩ => ⟨S16383, .f32⟩
  | .hbm, ⟨22, _⟩ => ⟨S16383, .f32⟩
  | .hbm, ⟨23, _⟩ => ⟨S1, .f32⟩
  | .hbm, ⟨24, _⟩ => ⟨S16383, .f32⟩
  | .hbm, ⟨25, _⟩ => ⟨S16383, .f32⟩
  | .hbm, ⟨26, _⟩ => ⟨S16383, .f32⟩
  | .hbm, ⟨27, _⟩ => ⟨S1, .f32⟩
  | .hbm, ⟨28, _⟩ => ⟨S16384, .f32⟩
  | .hbm, ⟨29, _⟩ => ⟨S16384x1, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S15, .f32⟩
  | .hbm, ⟨43, _⟩ => ⟨S_, .f32⟩
  | .hbm, ⟨44, _⟩ => ⟨S15, .f32⟩
  | .hbm, ⟨45, _⟩ => ⟨S15, .f32⟩
  | .hbm, ⟨46, _⟩ => ⟨S1, .f32⟩
  | .hbm, ⟨47, _⟩ => ⟨S_, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S15, .f32⟩
  | .hbm, ⟨52, _⟩ => ⟨S1, .f32⟩
  | .hbm, ⟨53, _⟩ => ⟨S15, .f32⟩
  | .hbm, ⟨54, _⟩ => ⟨S15, .f32⟩
  | .hbm, ⟨55, _⟩ => ⟨S15, .f32⟩
  | .hbm, ⟨56, _⟩ => ⟨S1, .f32⟩
  | .hbm, ⟨57, _⟩ => ⟨S16, .f32⟩
  | .hbm, ⟨58, _⟩ => ⟨S1x16, .f32⟩
  | .hbm, ⟨59, _⟩ => ⟨S16384x16, .f32⟩
  | .hbm, ⟨60, _⟩ => ⟨S16384x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x33, .f32⟩
  | .hbm, ⟨69, _⟩ => ⟨S16384x64, .f32⟩
  | .hbm, ⟨70, _⟩ => ⟨S1x64, .f32⟩
  | .hbm, ⟨71, _⟩ => ⟨S16384x64, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S1x64, .f32⟩
  | .hbm, ⟨79, _⟩ => ⟨S16384x64, .f32⟩
  | .hbm, ⟨80, _⟩ => ⟨S16384x64, .f32⟩
  | .hbm, ⟨81, _⟩ => ⟨S1x64, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S16384x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S255, .f32⟩
  | .hbm, ⟨94, _⟩ => ⟨S_, .f32⟩
  | .hbm, ⟨95, _⟩ => ⟨S255, .f32⟩
  | .hbm, ⟨96, _⟩ => ⟨S255, .f32⟩
  | .hbm, ⟨97, _⟩ => ⟨S1, .f32⟩
  | .hbm, ⟨98, _⟩ => ⟨S_, .f32⟩
  | .hbm, ⟨99, _⟩ => ⟨S255, .f32⟩
  | .hbm, ⟨100, _⟩ => ⟨S255, .f32⟩
  | .hbm, ⟨101, _⟩ => ⟨S255, .f32⟩
  | .hbm, ⟨102, _⟩ => ⟨S255, .f32⟩
  | .hbm, ⟨103, _⟩ => ⟨S1, .f32⟩
  | .hbm, ⟨104, _⟩ => ⟨S255, .f32⟩
  | .hbm, ⟨105, _⟩ => ⟨S255, .f32⟩
  | .hbm, ⟨106, _⟩ => ⟨S255, .f32⟩
  | .hbm, ⟨107, _⟩ => ⟨S1, .f32⟩
  | .hbm, ⟨108, _⟩ => ⟨S256, .f32⟩
  | .hbm, ⟨109, _⟩ => ⟨S256, .f32⟩
  | .hbm, ⟨110, _⟩ => ⟨S16384x1, .f32⟩
  | .hbm, ⟨111, _⟩ => ⟨S1x256, .f32⟩
  | .hbm, ⟨112, _⟩ => ⟨S16384x256, .f32⟩
  | .hbm, ⟨113, _⟩ => ⟨S16384x256, .f32⟩
  | .hbm, ⟨114, _⟩ => ⟨S16384x256, .f32⟩
  | .hbm, ⟨115, _⟩ => ⟨S16384x256, .f32⟩
  | .hbm, ⟨116, _⟩ => ⟨S16384x4x256, .f32⟩
  | .hbm, ⟨117, _⟩ => ⟨S16384x1x256, .f32⟩
  | .hbm, ⟨118, _⟩ => ⟨S16384x4x256, .f32⟩
  | .hbm, ⟨119, _⟩ => ⟨S16384x4x256, .f32⟩
  | .hbm, ⟨120, _⟩ => ⟨S4x256x16384, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_cst : Ref sig .tc := ⟨.hbm, 40, rfl⟩
abbrev main_call1_v3 : Ref sig .tc := ⟨.hbm, 41, rfl⟩
abbrev main_call1_v4 : Ref sig .tc := ⟨.hbm, 42, rfl⟩
abbrev main_call1_cst_0 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_v15 : Ref sig .tc := ⟨.hbm, 55, rfl⟩
abbrev main_call1_v16 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_4 : Ref sig .tc := ⟨.hbm, 86, rfl⟩
abbrev main_cst_5 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_cst : Ref sig .tc := ⟨.hbm, 91, rfl⟩
abbrev main_call2_v3 : Ref sig .tc := ⟨.hbm, 92, rfl⟩
abbrev main_call2_v4 : Ref sig .tc := ⟨.hbm, 93, rfl⟩
abbrev main_call2_cst_0 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_v15 : Ref sig .tc := ⟨.hbm, 106, rfl⟩
abbrev main_call2_v16 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩

abbrev nD : Nat := 1
abbrev τ : Topo := Topo.v7x

variable {F : FTy → Type} [FloatOps F]
-- ==== Kernel10.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S32x64 : Shape := ⟨2, ![32, 64]⟩
abbrev S1x64 : Shape := ⟨2, ![1, 64]⟩
abbrev S64x33 : Shape := ⟨2, ![64, 33]⟩
abbrev S_ : Shape := ⟨0, ![]⟩
abbrev S64x128 : Shape := ⟨2, ![64, 128]⟩
abbrev S64x1 : Shape := ⟨2, ![64, 1]⟩
abbrev S1024x64 : Shape := ⟨2, ![1024, 64]⟩
abbrev S4x256x256 : Shape := ⟨3, ![4, 256, 256]⟩
abbrev S1x256 : Shape := ⟨2, ![1, 256]⟩
abbrev S16x256 : Shape := ⟨2, ![16, 256]⟩
abbrev S8x256 : Shape := ⟨2, ![8, 256]⟩
abbrev S88x256 : Shape := ⟨2, ![88, 256]⟩
abbrev S128x256 : Shape := ⟨2, ![128, 256]⟩
abbrev S64x256 : Shape := ⟨2, ![64, 256]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 19
  | .vmem => 7
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S32x64, .f32⟩
  | .hbm, ⟨7, _⟩ => ⟨S1x64, .f32⟩
  | .hbm, ⟨8, _⟩ => ⟨S33x64, .f32⟩
  | .hbm, ⟨9, _⟩ => ⟨S64x33, .f32⟩
  | .hbm, ⟨10, _⟩ => ⟨S_, .i32⟩
  | .hbm, ⟨11, _⟩ => ⟨S_, .f32⟩
  | .hbm, ⟨12, _⟩ => ⟨S64x128, .f32⟩
  | .hbm, ⟨13, _⟩ => ⟨S64x1, .f32⟩
  | .hbm, ⟨14, _⟩ => ⟨S64x64, .f32⟩
  | .hbm, ⟨15, _⟩ => ⟨S64x1, .f32⟩
  | .hbm, ⟨16, _⟩ => ⟨S1024x64, .f32⟩
  | .hbm, ⟨17, _⟩ => ⟨S64x1, .f32⟩
  | .hbm, ⟨18, _⟩ => ⟨S4x256x256, .f32⟩
  | .local _ .vmem, ⟨0, _⟩ => ⟨S64x128, .f32⟩
  | .local _ .vmem, ⟨1, _⟩ => ⟨S64x1, .f32⟩
  | .local _ .vmem, ⟨2, _⟩ => ⟨S64x64, .f32⟩
  | .local _ .vmem, ⟨3, _⟩ => ⟨S64x1, .f32⟩
  | .local _ .vmem, ⟨4, _⟩ => ⟨S1024x64, .f32⟩
  | .local _ .vmem, ⟨5, _⟩ => ⟨S64x1, .f32⟩
  | .local _ .vmem, ⟨6, _⟩ => ⟨S4x256x256, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel10Ideal.lean ====
variable {F : FTy → Type} [FloatOps F] [Named F]
def κ : String → Option EReal := fun
  | "band" => some ((412314111637 / 412316860416 : ℝ) : EReal)
  | "decay" => some ((-10301591 / 213909504 : ℝ) : EReal)
  | "unit" => some ((1 / 255 : ℝ) : EReal)
  | _ => none
-- ==== Reference10Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S255 : Shape := ⟨1, ![255]⟩
abbrev S1 : Shape := ⟨1, ![1]⟩
abbrev S256 : Shape := ⟨1, ![256]⟩
abbrev S256x1 : Shape := ⟨2, ![256, 1]⟩
abbrev S15 : Shape := ⟨1, ![15]⟩
abbrev S16 : Shape := ⟨1, ![16]⟩
abbrev S1x16 : Shape := ⟨2, ![1, 16]⟩
abbrev S256x16 : Shape := ⟨2, ![256, 16]⟩
abbrev S256x33 : Shape := ⟨2, ![256, 33]⟩
abbrev S256x64 : Shape := ⟨2, ![256, 64]⟩
abbrev S1x64 : Shape := ⟨2, ![1, 64]⟩
abbrev S256x1024 : Shape := ⟨2, ![256, 1024]⟩
abbrev S1x256 : Shape := ⟨2, ![1, 256]⟩
abbrev S256x256 : Shape := ⟨2, ![256, 256]⟩
abbrev S256x4x256 : Shape := ⟨3, ![256, 4, 256]⟩
abbrev S256x1x256 : Shape := ⟨3, ![256, 1, 256]⟩
abbrev S4x256x256 : Shape := ⟨3, ![4, 256, 256]⟩

abbrev nBuf : Space → Nat
  | .hbm => 121
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S255, .f32⟩
  | .hbm, ⟨14, _⟩ => ⟨S_, .f32⟩
  | .hbm, ⟨15, _⟩ => ⟨S255, .f32⟩
  | .hbm, ⟨16, _⟩ => ⟨S255, .f32⟩
  | .hbm, ⟨17, _⟩ => ⟨S1, .f32⟩
  | .hbm, ⟨18, _⟩ => ⟨S_, .f32⟩
  | .hbm, ⟨19, _⟩ => ⟨S255, .f32⟩
  | .hbm, ⟨20, _⟩ => ⟨S255, .f32⟩
  | .hbm, ⟨21, _⟩ => ⟨S255, .f32⟩
  | .hbm, ⟨22, _⟩ => ⟨S255, .f32⟩
  | .hbm, ⟨23, _⟩ => ⟨S1, .f32⟩
  | .hbm, ⟨24, _⟩ => ⟨S255, .f32⟩
  | .hbm, ⟨25, _⟩ => ⟨S255, .f32⟩
  | .hbm, ⟨26, _⟩ => ⟨S255, .f32⟩
  | .hbm, ⟨27, _⟩ => ⟨S1, .f32⟩
  | .hbm, ⟨28, _⟩ => ⟨S256, .f32⟩
  | .hbm, ⟨29, _⟩ => ⟨S256x1, .f32⟩
  | .hbm, ⟨30, _⟩ => ⟨S256, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S15, .f32⟩
  | .hbm, ⟨43, _⟩ => ⟨S_, .f32⟩
  | .hbm, ⟨44, _⟩ => ⟨S15, .f32⟩
  | .hbm, ⟨45, _⟩ => ⟨S15, .f32⟩
  | .hbm, ⟨46, _⟩ => ⟨S1, .f32⟩
  | .hbm, ⟨47, _⟩ => ⟨S_, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S15, .f32⟩
  | .hbm, ⟨52, _⟩ => ⟨S1, .f32⟩
  | .hbm, ⟨53, _⟩ => ⟨S15, .f32⟩
  | .hbm, ⟨54, _⟩ => ⟨S15, .f32⟩
  | .hbm, ⟨55, _⟩ => ⟨S15, .f32⟩
  | .hbm, ⟨56, _⟩ => ⟨S1, .f32⟩
  | .hbm, ⟨57, _⟩ => ⟨S16, .f32⟩
  | .hbm, ⟨58, _⟩ => ⟨S1x16, .f32⟩
  | .hbm, ⟨59, _⟩ => ⟨S256x16, .f32⟩
  | .hbm, ⟨60, _⟩ => ⟨S256x16, .f32⟩
  | .hbm, ⟨61, _⟩ => ⟨S256x16, .f32⟩
  | .hbm, ⟨62, _⟩ => ⟨S256x16, .f32⟩
  | .hbm, ⟨63, _⟩ => ⟨S256x16, .f32⟩
  | .hbm, ⟨64, _⟩ => ⟨S256x16, .f32⟩
  | .hbm, ⟨65, _⟩ => ⟨S256x16, .f32⟩
  | .hbm, ⟨66, _⟩ => ⟨S256x16, .f32⟩
  | .hbm, ⟨67, _⟩ => ⟨S256x16, .f32⟩
  | .hbm, ⟨68, _⟩ => ⟨S256x33, .f32⟩
  | .hbm, ⟨69, _⟩ => ⟨S256x64, .f32⟩
  | .hbm, ⟨70, _⟩ => ⟨S1x64, .f32⟩
  | .hbm, ⟨71, _⟩ => ⟨S256x64, .f32⟩
  | .hbm, ⟨72, _⟩ => ⟨S256x64, .f32⟩
  | .hbm, ⟨73, _⟩ => ⟨S1x64, .f32⟩
  | .hbm, ⟨74, _⟩ => ⟨S256x64, .f32⟩
  | .hbm, ⟨75, _⟩ => ⟨S256x64, .f32⟩
  | .hbm, ⟨76, _⟩ => ⟨S256x64, .f32⟩
  | .hbm, ⟨77, _⟩ => ⟨S256x64, .f32⟩
  | .hbm, ⟨78, _⟩ => ⟨S1x64, .f32⟩
  | .hbm, ⟨79, _⟩ => ⟨S256x64, .f32⟩
  | .hbm, ⟨80, _⟩ => ⟨S256x64, .f32⟩
  | .hbm, ⟨81, _⟩ => ⟨S1x64, .f32⟩
  | .hbm, ⟨82, _⟩ => ⟨S256x64, .f32⟩
  | .hbm, ⟨83, _⟩ => ⟨S256x64, .f32⟩
  | .hbm, ⟨84, _⟩ => ⟨S256x64, .f32⟩
  | .hbm, ⟨85, _⟩ => ⟨S256x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S255, .f32⟩
  | .hbm, ⟨94, _⟩ => ⟨S_, .f32⟩
  | .hbm, ⟨95, _⟩ => ⟨S255, .f32⟩
  | .hbm, ⟨96, _⟩ => ⟨S255, .f32⟩
  | .hbm, ⟨97, _⟩ => ⟨S1, .f32⟩
  | .hbm, ⟨98, _⟩ => ⟨S_, .f32⟩
  | .hbm, ⟨99, _⟩ => ⟨S255, .f32⟩
  | .hbm, ⟨100, _⟩ => ⟨S255, .f32⟩
  | .hbm, ⟨101, _⟩ => ⟨S255, .f32⟩
  | .hbm, ⟨102, _⟩ => ⟨S255, .f32⟩
  | .hbm, ⟨103, _⟩ => ⟨S1, .f32⟩
  | .hbm, ⟨104, _⟩ => ⟨S255, .f32⟩
  | .hbm, ⟨105, _⟩ => ⟨S255, .f32⟩
  | .hbm, ⟨106, _⟩ => ⟨S255, .f32⟩
  | .hbm, ⟨107, _⟩ => ⟨S1, .f32⟩
  | .hbm, ⟨108, _⟩ => ⟨S256, .f32⟩
  | .hbm, ⟨109, _⟩ => ⟨S256, .f32⟩
  | .hbm, ⟨110, _⟩ => ⟨S256x1, .f32⟩
  | .hbm, ⟨111, _⟩ => ⟨S1x256, .f32⟩
  | .hbm, ⟨112, _⟩ => ⟨S256x256, .f32⟩
  | .hbm, ⟨113, _⟩ => ⟨S256x256, .f32⟩
  | .hbm, ⟨114, _⟩ => ⟨S256x256, .f32⟩
  | .hbm, ⟨115, _⟩ => ⟨S256x256, .f32⟩
  | .hbm, ⟨116, _⟩ => ⟨S256x4x256, .f32⟩
  | .hbm, ⟨117, _⟩ => ⟨S256x1x256, .f32⟩
  | .hbm, ⟨118, _⟩ => ⟨S256x4x256, .f32⟩
  | .hbm, ⟨119, _⟩ => ⟨S256x4x256, .f32⟩
  | .hbm, ⟨120, _⟩ => ⟨S4x256x256, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_cst : Ref sig .tc := ⟨.hbm, 40, rfl⟩
abbrev main_call1_v3 : Ref sig .tc := ⟨.hbm, 41, rfl⟩
abbrev main_call1_v4 : Ref sig .tc := ⟨.hbm, 42, rfl⟩
abbrev main_call1_cst_0 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_v15 : Ref sig .tc := ⟨.hbm, 55, rfl⟩
abbrev main_call1_v16 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_4 : Ref sig .tc := ⟨.hbm, 86, rfl⟩
abbrev main_cst_5 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_cst : Ref sig .tc := ⟨.hbm, 91, rfl⟩
abbrev main_call2_v3 : Ref sig .tc := ⟨.hbm, 92, rfl⟩
abbrev main_call2_v4 : Ref sig .tc := ⟨.hbm, 93, rfl⟩
abbrev main_call2_cst_0 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_v15 : Ref sig .tc := ⟨.hbm, 106, rfl⟩
abbrev main_call2_v16 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩

abbrev nD : Nat := 1
abbrev τ : Topo := Topo.v7x

variable {F : FTy → Type} [FloatOps F]
-- ==== Proof.RunIdeal.lean ====
/-
  The flash-attention body's run on any staging memrefs, and the frame of the whole program.

  `kernelRun` runs the body once through its skeleton, the counted loop taken by the generated invariant; what the body
  leaves in the result's block is a value the run finds, a function of what the score scratch held before.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- What the body leaves in the result's block, as a function of the scratch's former contents, with its triple. -/
noncomputable def kernelRun (c : Dev nD) (i : grid0.Coords)
    (M1 : Memref sig .tc .vmem S4x128x512 .bf16) (h1 : M1.IsWhole)
    (M2 : Memref sig .tc .vmem S16640x128 .bf16) (h2 : M2.IsWhole)
    (M3 : Memref sig .tc .vmem S65x80x256 .bf16) (h3 : M3.IsWhole)
    (M4 : Memref sig .tc .vmem S65x80x256 .bf16) (h4 : M4.IsWhole)
    (M5 : Memref sig .tc .vmem S512x256 .f32) (h5 : M5.IsWhole)
    (M6 : Memref sig .tc .vmem S2x2x1280x1024 .f32) (h6 : M6.IsWhole)
    (x1 : Vec F S4x128x512 .bf16) (x2 : Vec F S16640x128 .bf16) (x3 x4 : Vec F S65x80x256 .bf16) :
    { Y : Vec F S2x2x1280x1024 .f32 → Vec F S512x256 .f32 //
      ∀ (E : Set ℕ) (x6 : Vec F S2x2x1280x1024 .f32) (K : PUnit → sProp 𝕄),
        iprop(owns (c : Thread nD τ) M1 fullShare x1 ∗ owns (c : Thread nD τ) M2 fullShare x2
            ∗ owns (c : Thread nD τ) M3 fullShare x3 ∗ owns (c : Thread nD τ) M4 fullShare x4
            ∗ (∃ d, owns (c : Thread nD τ) M5 fullShare d) ∗ owns (c : Thread nD τ) M6 fullShare x6
            ∗ (iprop(owns (c : Thread nD τ) M1 fullShare x1 ∗ owns (c : Thread nD τ) M2 fullShare x2
                ∗ owns (c : Thread nD τ) M3 fullShare x3 ∗ owns (c : Thread nD τ) M4 fullShare x4
                ∗ owns (c : Thread nD τ) M5 fullShare (Y x6) ∗ (∃ d, owns (c : Thread nD τ) M6 fullShare d)) -∗ K ⟨⟩))
          ⊢ wp frame (wpE (defs₀ (F := F)) 𝒱₀ c none) E (cc0_flash_attention i M1 h1 M2 h2 M3 h3 M4 h4 M5 h5 M6 h6) K } := by
  refine ⟨?_, fun E x6 K => ?run⟩
  case run =>
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := h1.eq_unread hf1; obtain rfl := h2.eq_unread hf2; obtain rfl := h3.eq_unread hf3
    obtain rfl := h4.eq_unread hf4; obtain rfl := h6.eq_unread hf6
    sl_unfold [cc0_flash_attention]
    sl_exec!
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; swap; · iexact H5
      ipureintro; rfl
    iexists _; iexists _; isplitr; swap; · iexact H6
    ipureintro; rfl

/-! ## The staging memrefs at a point, and the scratch -/

abbrev ms1 (t : Fin cfg0.N) : Memref sig .tc .vmem S4x128x512 .bf16 := win0_0.stage (cfg0.slots t 0)
abbrev hs1 (t : Fin cfg0.N) : (ms1 t).IsWhole := hstage0_0 ((cfg0.slots t 0).cast nbuf0_0)
abbrev ms2 (t : Fin cfg0.N) : Memref sig .tc .vmem S16640x128 .bf16 := win0_1.stage (cfg0.slots t 1)
abbrev hs2 (t : Fin cfg0.N) : (ms2 t).IsWhole := hstage0_1 ((cfg0.slots t 1).cast nbuf0_1)
abbrev ms3 (t : Fin cfg0.N) : Memref sig .tc .vmem S65x80x256 .bf16 := win0_2.stage (cfg0.slots t 2)
abbrev hs3 (t : Fin cfg0.N) : (ms3 t).IsWhole := hstage0_2 ((cfg0.slots t 2).cast nbuf0_2)
abbrev ms4 (t : Fin cfg0.N) : Memref sig .tc .vmem S65x80x256 .bf16 := win0_3.stage (cfg0.slots t 3)
abbrev hs4 (t : Fin cfg0.N) : (ms4 t).IsWhole := hstage0_3 ((cfg0.slots t 3).cast nbuf0_3)
abbrev ms5 (t : Fin cfg0.N) : Memref sig .tc .vmem S512x256 .f32 := win0_4.stage (cfg0.slots t 4)
abbrev hs5 (t : Fin cfg0.N) : (ms5 t).IsWhole := hstage0_4 ((cfg0.slots t 4).cast nbuf0_4)
abbrev scr : Memref sig .tc .vmem S2x2x1280x1024 .f32 := Memref.whole cc0_scratch0

/-- What the run finds for the result's block at point `t`, from the blocks of the arguments there. -/
def outFound (c : Dev nD) (t : Fin cfg0.N) : Vec F S2x2x1280x1024 .f32 → Vec F S512x256 .f32 :=
  (kernelRun c (grid0.coords t) (ms1 t) (hs1 t) (ms2 t) (hs2 t) (ms3 t) (hs3 t) (ms4 t) (hs4 t) (ms5 t) (hs5 t)
    scr (Memref.isWhole_whole _) (X0_0 m c t) (iblk m c 1 t) (iblk m c 2 t) (iblk m c 3 t)).1

/-- The body's triple at a point, the scratch as the region's invariant holds it. -/
theorem sound_body (c : Dev nD) (t : Fin cfg0.N) (P5 : Vec F S512x256 .f32 → Prop) (hP : ∀ x6, P5 (outFound m c t x6))
    (K : PUnit → sProp 𝕄) :
    iprop(Pipeline.ΦA spec0 c ∗ owns (c : Thread nD τ) (ms1 t) fullShare (X0_0 m c t) ∗ owns (c : Thread nD τ) (ms2 t) fullShare (iblk m c 1 t)
        ∗ owns (c : Thread nD τ) (ms3 t) fullShare (iblk m c 2 t) ∗ owns (c : Thread nD τ) (ms4 t) fullShare (iblk m c 3 t)
        ∗ (∃ d, owns (c : Thread nD τ) (ms5 t) fullShare d)
        ∗ (iprop(Pipeline.ΦA spec0 c ∗ owns (c : Thread nD τ) (ms1 t) fullShare (X0_0 m c t) ∗ owns (c : Thread nD τ) (ms2 t) fullShare (iblk m c 1 t)
            ∗ owns (c : Thread nD τ) (ms3 t) fullShare (iblk m c 2 t) ∗ owns (c : Thread nD τ) (ms4 t) fullShare (iblk m c 3 t)
            ∗ (∃ d, ⌜P5 d⌝ ∗ owns (c : Thread nD τ) (ms5 t) fullShare d)) -∗ K ⟨⟩))
      ⊢ wp frame (wpE (defs₀ (F := F)) 𝒱₀ c none) Set.univ (bodyAt0 t) K := by
  unfold Pipeline.ΦA
  rw [scopedRest0_eq]
  iintro ⟨⟨⟨%f6, H6⟩, Hr⟩, H1, H2, H3, H4, H5, Hk⟩
  iapply ((kernelRun c (grid0.coords t) (ms1 t) (hs1 t) (ms2 t) (hs2 t) (ms3 t) (hs3 t) (ms4 t) (hs4 t) (ms5 t) (hs5 t)
    scr (Memref.isWhole_whole _) (X0_0 m c t) (iblk m c 1 t) (iblk m c 2 t) (iblk m c 3 t)).2 Set.univ f6 K)
  isplitl [H1]; · iexact H1
  isplitl [H2]; · iexact H2
  isplitl [H3]; · iexact H3
  isplitl [H4]; · iexact H4
  isplitl [H5]; · iexact H5
  isplitl [H6]
  · ihave H6 := (Entails.of_eq (owns_whole (c : Thread nD τ) cc0_scratch0 fullShare f6).symm) $$ H6
    iexact H6
  iintro ⟨H1, H2, H3, H4, H5, ⟨%d6, H6⟩⟩
  ihave H6 := (Entails.of_eq (owns_whole (c : Thread nD τ) cc0_scratch0 fullShare d6)) $$ H6
  iapply Hk
  isplitl [H6 Hr]
  · isplitl [H6]
    · iexists _; iexact H6
    iexact Hr
  isplitl [H1]; · iexact H1
  isplitl [H2]; · iexact H2
  isplitl [H3]; · iexact H3
  isplitl [H4]; · iexact H4
  iexists _; isplitr; swap; · iexact H5
  ipureintro; exact hP f6

/-! ## The frame, the result's window forgotten -/

/-- The pipeline's proof data: each argument's buffer is left at its block; the result's block is `out`. -/
def dats (out : (c : Dev nD) → Fin cfg0.N → Vec F S512x256 .f32) (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => out c t
  Φ _ := Pipeline.ΦA spec0 c
  q _ := fullShare
  owed _ := 0

variable (out : (c : Dev nD) → Fin cfg0.N → Vec F S512x256 .f32)

theorem A_eq (c : Dev nD) (w : Fin cfg0.W) : (dats m out 0 c).A w = V m c (Pipeline.arrRef spec0 w) := rfl
theorem after0_0 (c : Dev nD) (t : Fin cfg0.N) : (dats m out 0 c).after 0 t = X0_0 m c t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = out c t := by dsimp only [dats]

theorem before0_0 (c : Dev nD) (t : Fin cfg0.N) (d) : (dats m out 0 c).before 0 t d = X0_0 m c t :=
  before0_0_of m (dats m out 0 c) (A_eq m out c 0) (after0_0 m out c) t d
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d
theorem before0_3 (c : Dev nD) (t : Fin cfg0.N) (d) : (dats m out 0 c).before 3 t d = iblk m c 3 t :=
  before0_3_of m (dats m out 0 c) (A_eq m out c 3) (after0_3 m out c) t d

/-- The windows of which nothing is said: the result's. -/
def fgt : Fin cfg0.W → Bool := ![false, false, false, false, true]

theorem body_forget (c : Dev nD) :
    BodyObligation (dats (F := F) m out 0 c) (defs₀ (F := F)) 𝒱₀ () Set.univ fgt := fun t => by
  rw [bigSep_W0, bigSep_W0]
  sl_whnfR [defs₀, Defs.onTc]
  simp only [show fgt (0 : Fin 5) = false from rfl, show fgt (1 : Fin 5) = false from rfl, show fgt (2 : Fin 5) = false from rfl,
    show fgt (3 : Fin 5) = false from rfl, show fgt (4 : Fin 5) = true from rfl]
  simp only [before0_0, before0_1, before0_2, before0_3]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl, after0_0, after0_1, after0_2, after0_3]
  iintro ⟨HΦ, Ho, ⟨%d1, H1⟩, ⟨%d2, H2⟩, ⟨%d3, H3⟩, ⟨%d4, H4⟩, H5⟩
  iapply (sound_body m c t (fun _ => True) (fun _ => trivial) _)
  isplitl [HΦ]; · iexact HΦ
  isplitl [H1]; · iexact H1
  isplitl [H2]; · iexact H2
  isplitl [H3]; · iexact H3
  isplitl [H4]; · iexact H4
  isplitl [H5]; · iexact H5
  iintro ⟨HΦ, H1, H2, H3, H4, ⟨%d5, -, H5⟩⟩
  isplitl [HΦ]; · iexact HΦ
  isplitl [Ho]; · iexact Ho
  isplitl [H1]; · iexact H1
  isplitl [H2]; · iexact H2
  isplitl [H3]; · iexact H3
  isplitl [H4]; · iexact H4
  iexists d5; iexact H5

/-! ## The run with its result, where what the body leaves does not depend on the scratch -/

theorem body_value (hout : ∀ c t x6, outFound m c t x6 = out c t) (c : Dev nD) :
    BodyObligation (dats (F := F) m out 0 c) (defs₀ (F := F)) 𝒱₀ () Set.univ := fun t => by
  rw [bigSep_W0, bigSep_W0]
  sl_whnfR [defs₀, Defs.onTc]
  simp only [before0_0, before0_1, before0_2, before0_3]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl, after0_0, after0_1, after0_2, after0_3, after0_4]
  iintro ⟨HΦ, Ho, ⟨%d1, H1⟩, ⟨%d2, H2⟩, ⟨%d3, H3⟩, ⟨%d4, H4⟩, ⟨%d5, H5⟩⟩
  iapply (sound_body m c t (fun d => d = out c t) (hout c t) _)
  isplitl [HΦ]; · iexact HΦ
  isplitl [H1]; · iexact H1
  isplitl [H2]; · iexact H2
  isplitl [H3]; · iexact H3
  isplitl [H4]; · iexact H4
  isplitl [H5]; · iexists _; iexact H5
  iintro ⟨HΦ, H1, H2, H3, H4, ⟨%d5, %h5, H5⟩⟩
  subst h5
  isplitl [HΦ]; · iexact HΦ
  isplitl [Ho]; · iexact Ho
  isplitl [H1]; · iexact H1
  isplitl [H2]; · iexact H2
  isplitl [H3]; · iexact H3
  isplitl [H4]; · iexact H4
  iexact H5

set_option backward.isDefEq.respectTransparency.types false in
/-- Every weakly fair execution terminates, every array of the pipeline at what the proof data say. -/
theorem run_main (hout : ∀ c t x6, outFound m c t x6 = out c t) : θ_run defs (onTc (τ := τ) (main (F := F))) (s₀ m ρ)
    (fun r => Pipeline.FramePost cfgs (dats m out) 0 (V m) r ∧ r.2.sem = fun _ => 0) :=
  Pipeline.θ_run_frame (Q' := _) cfgs (dats m out) (0 : Fin 1) launch0 defs₀ 𝒱₀ m ρ main
    (hbody := fun c => (body_value m out hout c).loose) (hshare := fun c => (dats m out 0 c).share_full fun _ => rfl)
    (howed := fun _ _ => rfl) (V := V m) (hmain := hmain m 𝒱₀) (hA := fun _ _ => rfl) (hΦ := fun _ _ => rfl)

end Cert.KernelIdeal.Run

end
-- ==== Proof.Model.lean ====
/-
  The flash-attention body's value in closed form: the running maxima and sums after thirteen chunks of keys, read off the
  run without its views, its piece lists or the score scratch's former contents.
-/
module

public import proofs.«01_k».proof.Proof.RunIdeal
public import Idealize.ShloMosaic.Lib.WritesUnit
public import Idealize.ShloMosaic.Lib.VecWindow
public import Idealize.ShloMosaic.Lib.ValueIdx

@[expose] public section

set_option maxRecDepth 16384

noncomputable section

namespace Cert.KernelIdeal.Model

open Cert.KernelIdeal Cert.KernelIdeal.Gen Cert.KernelIdeal.Run

open Idealize.ShloMosaic
open Idealize.ShloMosaic.TcCoe Idealize.ShloMosaic.Tactic Idealize.ShloMosaic.ValueIdx

variable {F : FTy → Type} [FloatOps F]

/-! ## The vocabulary -/

/-- Chunk `n` of the keys: rows 1280 n … 1280 n + 1279. -/
def kch (x : Vec F S16640x128 .bf16) (n : ℕ) : Vec F S1280x128 .bf16 := fun j =>
  x (ix2 ⟨(1280 * n + (j 0).val) % 16640, Nat.mod_lt _ (by norm_num)⟩ ⟨(j 1).val, (j 1).isLt⟩)

/-- Block `n` of the values. -/
def vbk (x : Vec F S65x80x256 .bf16) (n : ℕ) : Vec F S1x80x256 .bf16 := fun j =>
  x (ix3 ⟨n % 65, Nat.mod_lt _ (by norm_num)⟩ ⟨(j 1).val, (j 1).isLt⟩ ⟨(j 2).val, (j 2).isLt⟩)

/-- Head `h`'s queries in the tile. -/
def qhd (x : Vec F S4x128x512 .bf16) (h : Fin 4) : Vec F S1x128x512 .bf16 := fun j =>
  x (ix3 h ⟨(j 1).val, (j 1).isLt⟩ ⟨(j 2).val, (j 2).isLt⟩)

/-- The two heads of a group, side by side. -/
def qgrp (x : Vec F S4x128x512 .bf16) (g : Fin 2) : FVec F S128x1024 .bf16 :=
  k0_pay26 (qhd x ⟨2 * g.val, by omega⟩) (qhd x ⟨2 * g.val + 1, by omega⟩)

/-- One update of the running maximum and the running sums by a chunk's scores and its five blocks of values. -/
def upd (p : FVec F S1x1024 .f32 × FVec F S80x1024 .f32) (s : Vec F S1x1x1280x1024 .f32) (v : ℕ → Vec F S1x80x256 .bf16) :
    FVec F S1x1024 .f32 × FVec F S80x1024 .f32 :=
  (k0_pay5 p.1 s, k0_pay8 p.1 p.2 (k0_pay5 p.1 s) (k0_pay6 p.1 s) (k0_pay7 p.1 s (v 0)) (v 1) (v 2) (v 3) (v 4))

/-- The running maximum and sums of one group after the first `n` chunks. -/
def carry (q : FVec F S128x1024 .bf16) (x2 : Vec F S16640x128 .bf16) (x3 : Vec F S65x80x256 .bf16) :
    ℕ → FVec F S1x1024 .f32 × FVec F S80x1024 .f32
  | 0 => (k0_pay30, k0_pay31)
  | n + 1 => upd (carry q x2 x3 n) (k0_pay2 q (kch x2 n)) (fun a => vbk x3 (5 * n + a))

/-- The score chunk in a slot of the scratch. -/
def slot (M6 : Memref sig .tc .vmem S2x2x1280x1024 .f32) (f : BufTy.Contents (Elt F) M6.view.ty) (g : Fin 2) :
    Vec F S1x1x1280x1024 .f32 := fun j =>
  View.read (Elt F) M6.view f (ix4 0 g ⟨(j 2).val, (j 2).isLt⟩ ⟨(j 3).val, (j 3).isLt⟩)

/-! ## Loads of the operands -/

theorem rd_k (M2 : Memref sig .tc .vmem S16640x128 .bf16) (h2 : M2.IsWhole) (x2 : Vec F S16640x128 .bf16) (n : ℕ)
    (hn : n < 13) (off : Fin 2 → ℕ) (inb : ∀ a, off a + S1280x128.size a ≤ S16640x128.size a) (ho : off = ![1280 * n, 0]) :
    View.readAt (Elt F) M2.view (Rect.unit (s := S16640x128) off S1280x128.size inb).toLoadRect (h2.unread x2) = kch x2 n := by
  subst ho
  funext j
  rw [View.readAt_apply, h2.read_unread]
  unfold kch
  have h0 : (j 0).val < 1280 := (j 0).isLt
  congr 1
  funext a
  apply Fin.ext
  fin_cases a
  · show 1280 * n + 1 * (j 0).val = (1280 * n + (j 0).val) % 16640
    rw [Nat.mod_eq_of_lt (by omega)]; omega
  · show 0 + 1 * (j 1).val = (j 1).val
    omega

theorem rd_v (M3 : Memref sig .tc .vmem S65x80x256 .bf16) (h3 : M3.IsWhole) (x3 : Vec F S65x80x256 .bf16) (n : ℕ)
    (hn : n < 65) (off : Fin 3 → ℕ) (inb : ∀ a, off a + S1x80x256.size a ≤ S65x80x256.size a) (ho : off = ![n, 0, 0]) :
    View.readAt (Elt F) M3.view (Rect.unit (s := S65x80x256) off S1x80x256.size inb).toLoadRect (h3.unread x3) = vbk x3 n := by
  subst ho
  funext j
  rw [View.readAt_apply, h3.read_unread]
  unfold vbk
  have h0 : (j 0).val < 1 := (j 0).isLt
  congr 1
  funext a
  apply Fin.ext
  fin_cases a
  · show n + 1 * (j 0).val = n % 65
    rw [Nat.mod_eq_of_lt (by omega)]; omega
  · show 0 + 1 * (j 1).val = (j 1).val
    omega
  · show 0 + 1 * (j 2).val = (j 2).val
    omega

theorem rd_q (M1 : Memref sig .tc .vmem S4x128x512 .bf16) (h1 : M1.IsWhole) (x1 : Vec F S4x128x512 .bf16) (n : Fin 4)
    (off : Fin 3 → ℕ) (inb : ∀ a, off a + S1x128x512.size a ≤ S4x128x512.size a) (ho : off = ![n.val, 0, 0]) :
    View.readAt (Elt F) M1.view (Rect.unit (s := S4x128x512) off S1x128x512.size inb).toLoadRect (h1.unread x1) = qhd x1 n := by
  subst ho
  funext j
  rw [View.readAt_apply, h1.read_unread]
  unfold qhd
  have h0 : (j 0).val < 1 := (j 0).isLt
  congr 1
  funext a
  apply Fin.ext
  fin_cases a
  · show n.val + 1 * (j 0).val = n.val
    omega
  · show 0 + 1 * (j 1).val = (j 1).val
    omega
  · show 0 + 1 * (j 2).val = (j 2).val
    omega

/-! ## The offsets of a trip -/

theorem off1_1 (k : Fin k0_t1_loop.trips) : k0_off1 k 1#32 = ![1280 * (2 * k.val + 1), 0] :=
  (k0_off1_eq k ⟨0, by decide⟩).trans (congrArg (fun n : ℕ => (![n, 0])) (show 2560 * k.val + 1280 * 0 + 1280 = 1280 * (2 * k.val + 1) by omega))
theorem off1_2 (k : Fin k0_t1_loop.trips) : k0_off1 k 2#32 = ![1280 * (2 * k.val + 2), 0] :=
  (k0_off1_eq k ⟨1, by decide⟩).trans (congrArg (fun n : ℕ => (![n, 0])) (show 2560 * k.val + 1280 * 1 + 1280 = 1280 * (2 * k.val + 2) by omega))
theorem off2_0 (k : Fin k0_t1_loop.trips) : k0_off2 k = ![5 * (2 * k.val) + 0, 0, 0] :=
  (k0_off2_eq k).trans (congrArg (fun n : ℕ => (![n, 0, 0])) (show 10 * k.val = 5 * (2 * k.val) + 0 by omega))
theorem off3_1 (k : Fin k0_t1_loop.trips) : k0_off3 k 1#32 = ![5 * (2 * k.val) + 1, 0, 0] :=
  (k0_off3_eq k ⟨0, by decide⟩).trans (congrArg (fun n : ℕ => (![n, 0, 0])) (show 10 * k.val + 0 + 1 = 5 * (2 * k.val) + 1 by omega))
theorem off3_2 (k : Fin k0_t1_loop.trips) : k0_off3 k 2#32 = ![5 * (2 * k.val) + 2, 0, 0] :=
  (k0_off3_eq k ⟨1, by decide⟩).trans (congrArg (fun n : ℕ => (![n, 0, 0])) (show 10 * k.val + 1 + 1 = 5 * (2 * k.val) + 2 by omega))
theorem off3_3 (k : Fin k0_t1_loop.trips) : k0_off3 k 3#32 = ![5 * (2 * k.val) + 3, 0, 0] :=
  (k0_off3_eq k ⟨2, by decide⟩).trans (congrArg (fun n : ℕ => (![n, 0, 0])) (show 10 * k.val + 2 + 1 = 5 * (2 * k.val) + 3 by omega))
theorem off3_4 (k : Fin k0_t1_loop.trips) : k0_off3 k 4#32 = ![5 * (2 * k.val) + 4, 0, 0] :=
  (k0_off3_eq k ⟨3, by decide⟩).trans (congrArg (fun n : ℕ => (![n, 0, 0])) (show 10 * k.val + 3 + 1 = 5 * (2 * k.val) + 4 by omega))
theorem off4_0 (k : Fin k0_t1_loop.trips) : k0_off4 k = ![5 * (2 * k.val + 1) + 0, 0, 0] :=
  (k0_off4_eq k).trans (congrArg (fun n : ℕ => (![n, 0, 0])) (show 10 * k.val + 5 = 5 * (2 * k.val + 1) + 0 by omega))
theorem off5_1 (k : Fin k0_t1_loop.trips) : k0_off5 k 1#32 = ![5 * (2 * k.val + 1) + 1, 0, 0] :=
  (k0_off5_eq k ⟨0, by decide⟩).trans (congrArg (fun n : ℕ => (![n, 0, 0])) (show 10 * k.val + 0 + 6 = 5 * (2 * k.val + 1) + 1 by omega))
theorem off5_2 (k : Fin k0_t1_loop.trips) : k0_off5 k 2#32 = ![5 * (2 * k.val + 1) + 2, 0, 0] :=
  (k0_off5_eq k ⟨1, by decide⟩).trans (congrArg (fun n : ℕ => (![n, 0, 0])) (show 10 * k.val + 1 + 6 = 5 * (2 * k.val + 1) + 2 by omega))
theorem off5_3 (k : Fin k0_t1_loop.trips) : k0_off5 k 3#32 = ![5 * (2 * k.val + 1) + 3, 0, 0] :=
  (k0_off5_eq k ⟨2, by decide⟩).trans (congrArg (fun n : ℕ => (![n, 0, 0])) (show 10 * k.val + 2 + 6 = 5 * (2 * k.val + 1) + 3 by omega))
theorem off5_4 (k : Fin k0_t1_loop.trips) : k0_off5 k 4#32 = ![5 * (2 * k.val + 1) + 4, 0, 0] :=
  (k0_off5_eq k ⟨3, by decide⟩).trans (congrArg (fun n : ℕ => (![n, 0, 0])) (show 10 * k.val + 3 + 6 = 5 * (2 * k.val + 1) + 4 by omega))

/-! ## The scratch's slots -/

/-- The rectangle of a slot. -/
abbrev slotRect (a b : ℕ) (ha : a < 2) (hb : b < 2) : Rect S2x2x1280x1024 :=
  Rect.unit (s := S2x2x1280x1024) ![a, b, 0, 0] S1x1x1280x1024.size (by
    intro x; fin_cases x
    · show a + 1 ≤ 2; omega
    · show b + 1 ≤ 2; omega
    · show 0 + 1280 ≤ 1280; omega
    · show 0 + 1024 ≤ 1024; omega)

/-- A load of a slot, past a store of another slot. -/
theorem rd_slot_miss (M6 : Memref sig .tc .vmem S2x2x1280x1024 .f32) (f : BufTy.Contents (Elt F) M6.view.ty) (a b a' b' : ℕ)
    (ha : a < 2) (hb : b < 2) (ha' : a' < 2) (hb' : b' < 2) (hne : a ≠ a' ∨ b ≠ b')
    (w : (slotRect a' b' ha' hb').shape.Idx → Elt F .f32) (L : List (View.Piece (Elt F) S2x2x1280x1024 .f32)) :
    View.readAt (Elt F) M6.view (slotRect a b ha hb).toLoadRect (M6.view.writes (Elt F) f (⟨slotRect a' b' ha' hb', w⟩ :: L))
      = View.readAt (Elt F) M6.view (slotRect a b ha hb).toLoadRect (M6.view.writes (Elt F) f L) := by
  funext j
  rw [View.readAt_apply, View.readAt_apply]
  have h0 : (j 0).val < 1 := (j 0).isLt
  have h1 : (j 1).val < 1 := (j 1).isLt
  rcases hne with hne | hne
  · refine View.read_writes_cons_unit_of_not_mem M6.view f _ w L _ rfl (0 : Fin 4) ?_
    show a + 1 * (j 0).val < a' ∨ a' + 1 ≤ a + 1 * (j 0).val
    omega
  · refine View.read_writes_cons_unit_of_not_mem M6.view f _ w L _ rfl (1 : Fin 4) ?_
    show b + 1 * (j 1).val < b' ∨ b' + 1 ≤ b + 1 * (j 1).val
    omega

/-- A load of a slot just stored. -/
theorem rd_slot_hit (M6 : Memref sig .tc .vmem S2x2x1280x1024 .f32) (f : BufTy.Contents (Elt F) M6.view.ty) (a b : ℕ)
    (ha : a < 2) (hb : b < 2)
    (w : (slotRect a b ha hb).shape.Idx → Elt F .f32) (L : List (View.Piece (Elt F) S2x2x1280x1024 .f32)) :
    View.readAt (Elt F) M6.view (slotRect a b ha hb).toLoadRect (M6.view.writes (Elt F) f (⟨slotRect a b ha hb, w⟩ :: L))
      = w := by
  funext j
  rw [View.readAt_apply]
  exact View.read_writes_cons_emb M6.view f (slotRect a b ha hb) w L j

/-! ## One trip -/

/-- Two group's state, as the loop carries it. -/
abbrev Carry (F : FTy → Type) : Type :=
  FVec F S1x1024 .f32 × FVec F S80x1024 .f32 × FVec F S1x1024 .f32 × FVec F S80x1024 .f32

theorem trip_val (c : Dev nD) (i : grid0.Coords)
    (M1 : Memref sig .tc .vmem S4x128x512 .bf16) (h1 : M1.IsWhole)
    (M2 : Memref sig .tc .vmem S16640x128 .bf16) (h2 : M2.IsWhole)
    (M3 : Memref sig .tc .vmem S65x80x256 .bf16) (h3 : M3.IsWhole)
    (M4 : Memref sig .tc .vmem S65x80x256 .bf16) (h4 : M4.IsWhole)
    (M5 : Memref sig .tc .vmem S512x256 .f32) (h5 : M5.IsWhole)
    (M6 : Memref sig .tc .vmem S2x2x1280x1024 .f32) (h6 : M6.IsWhole)
    (x2 : Vec F S16640x128 .bf16) (x3 x4 : Vec F S65x80x256 .bf16)
    (v4 v9 : FVec F S128x1024 .bf16) (v21 v23 : FVec F S1x1024 .f32) (v22 v24 : FVec F S80x1024 .f32) (a b : BitVec 32)
    (k : Fin k0_t1_loop.trips) (acc : Carry F) (f : BufTy.Contents (Elt F) M6.view.ty)
    (s0 s1 : Vec F S1x1x1280x1024 .f32)
    (hs0 : View.readAt (Elt F) M6.view (slotRect 0 0 (by decide) (by decide)).toLoadRect f = s0)
    (hs1 : View.readAt (Elt F) M6.view (slotRect 0 1 (by decide) (by decide)).toLoadRect f = s1) :
    tripR_k0_t1 (F := F) 𝒱₀ c none i M1 h1 M2 h2 M3 h3 M4 h4 M5 h5 M6 h6 v4 v9 v21 v22 v23 v24 a b (h2.unread x2)
        (h3.unread x3) (h4.unread x4) k acc f
      = ((upd (upd (acc.1, acc.2.1) s0 (fun a => vbk x3 (5 * (2 * k.val) + a))) (k0_pay2 v4 (kch x2 (2 * k.val + 1)))
            (fun a => vbk x3 (5 * (2 * k.val + 1) + a))).1,
          (upd (upd (acc.1, acc.2.1) s0 (fun a => vbk x3 (5 * (2 * k.val) + a))) (k0_pay2 v4 (kch x2 (2 * k.val + 1)))
            (fun a => vbk x3 (5 * (2 * k.val + 1) + a))).2,
          (upd (upd (acc.2.2.1, acc.2.2.2) s1 (fun a => vbk x4 (5 * (2 * k.val) + a))) (k0_pay2 v9 (kch x2 (2 * k.val + 1)))
            (fun a => vbk x4 (5 * (2 * k.val + 1) + a))).1,
          (upd (upd (acc.2.2.1, acc.2.2.2) s1 (fun a => vbk x4 (5 * (2 * k.val) + a))) (k0_pay2 v9 (kch x2 (2 * k.val + 1)))
            (fun a => vbk x4 (5 * (2 * k.val + 1) + a))).2)
    ∧ tripL_k0_t1 (F := F) 𝒱₀ c none i M1 h1 M2 h2 M3 h3 M4 h4 M5 h5 M6 h6 v4 v9 v21 v22 v23 v24 a b (h2.unread x2)
        (h3.unread x3) (h4.unread x4) k acc f
      = [⟨slotRect 0 1 (by decide) (by decide), k0_pay2 v9 (kch x2 (2 * k.val + 2))⟩,
          ⟨slotRect 0 0 (by decide) (by decide), k0_pay2 v4 (kch x2 (2 * k.val + 2))⟩,
          ⟨slotRect 1 1 (by decide) (by decide), k0_pay2 v9 (kch x2 (2 * k.val + 1))⟩,
          ⟨slotRect 1 0 (by decide) (by decide), k0_pay2 v4 (kch x2 (2 * k.val + 1))⟩] := by
  have hk : k.val < 6 := Nat.lt_of_lt_of_le k.isLt k0_t1_abs.2.1
  have e1 := fun inb => rd_k (F := F) M2 h2 x2 (2 * k.val + 1) (by omega) _ inb (off1_1 k)
  have e2 := fun inb => rd_k (F := F) M2 h2 x2 (2 * k.val + 2) (by omega) _ inb (off1_2 k)
  have g0 := fun M h x inb => rd_v (F := F) M h x (5 * (2 * k.val) + 0) (by omega) _ inb (off2_0 k)
  have g1 := fun M h x inb => rd_v (F := F) M h x (5 * (2 * k.val) + 1) (by omega) _ inb (off3_1 k)
  have g2 := fun M h x inb => rd_v (F := F) M h x (5 * (2 * k.val) + 2) (by omega) _ inb (off3_2 k)
  have g3 := fun M h x inb => rd_v (F := F) M h x (5 * (2 * k.val) + 3) (by omega) _ inb (off3_3 k)
  have g4 := fun M h x inb => rd_v (F := F) M h x (5 * (2 * k.val) + 4) (by omega) _ inb (off3_4 k)
  have g5 := fun M h x inb => rd_v (F := F) M h x (5 * (2 * k.val + 1) + 0) (by omega) _ inb (off4_0 k)
  have g6 := fun M h x inb => rd_v (F := F) M h x (5 * (2 * k.val + 1) + 1) (by omega) _ inb (off5_1 k)
  have g7 := fun M h x inb => rd_v (F := F) M h x (5 * (2 * k.val + 1) + 2) (by omega) _ inb (off5_2 k)
  have g8 := fun M h x inb => rd_v (F := F) M h x (5 * (2 * k.val + 1) + 3) (by omega) _ inb (off5_3 k)
  have g9 := fun M h x inb => rd_v (F := F) M h x (5 * (2 * k.val + 1) + 4) (by omega) _ inb (off5_4 k)
  have hv147 : trip_k0_t1.sl.v147 M6 f = s0 := hs0
  have hv199 : trip_k0_t1.sl.v199 M6 f = s1 := hs1
  have hL : trip_k0_t1.sl.HW_arg6_4 M2 v4 v9 (h2.unread x2) k
      = [⟨slotRect 0 1 (by decide) (by decide), k0_pay2 v9 (kch x2 (2 * k.val + 2))⟩,
          ⟨slotRect 0 0 (by decide) (by decide), k0_pay2 v4 (kch x2 (2 * k.val + 2))⟩,
          ⟨slotRect 1 1 (by decide) (by decide), k0_pay2 v9 (kch x2 (2 * k.val + 1))⟩,
          ⟨slotRect 1 0 (by decide) (by decide), k0_pay2 v4 (kch x2 (2 * k.val + 1))⟩] := by
    unfold trip_k0_t1.sl.HW_arg6_4
    rw [e1, e2]
    rfl
  have hv267 : trip_k0_t1.sl.v267 M2 M6 v4 v9 (h2.unread x2) k = k0_pay2 v4 (kch x2 (2 * k.val + 1)) := by
    unfold trip_k0_t1.sl.v267
    rw [hL]
    exact (rd_slot_miss M6 _ 1 0 0 1 (by decide) (by decide) (by decide) (by decide) (by decide) _ _).trans
      ((rd_slot_miss M6 _ 1 0 0 0 (by decide) (by decide) (by decide) (by decide) (by decide) _ _).trans
        ((rd_slot_miss M6 _ 1 0 1 1 (by decide) (by decide) (by decide) (by decide) (by decide) _ _).trans
          (rd_slot_hit M6 _ 1 0 (by decide) (by decide) _ _)))
  have hv319 : trip_k0_t1.sl.v319 M2 M6 v4 v9 (h2.unread x2) k = k0_pay2 v9 (kch x2 (2 * k.val + 1)) := by
    unfold trip_k0_t1.sl.v319
    rw [hL]
    exact (rd_slot_miss M6 _ 1 1 0 1 (by decide) (by decide) (by decide) (by decide) (by decide) _ _).trans
      ((rd_slot_miss M6 _ 1 1 0 0 (by decide) (by decide) (by decide) (by decide) (by decide) _ _).trans
          (rd_slot_hit M6 _ 1 1 (by decide) (by decide) _ _))
  refine ⟨?_, ?_⟩
  · unfold tripR_k0_t1 trip_k0_t1
    dsimp only
    unfold trip_k0_t1.sl.r_10 trip_k0_t1.sl.r_15 trip_k0_t1.sl.r_16 trip_k0_t1.sl.r_17 trip_k0_t1.sl.r_18
      trip_k0_t1.sl.r_8 trip_k0_t1.sl.r_13 trip_k0_t1.sl.r_14 trip_k0_t1.sl.r_12 trip_k0_t1.sl.r_11
      trip_k0_t1.sl.r_10 trip_k0_t1.sl.r_9 trip_k0_t1.sl.r_7 trip_k0_t1.sl.r_6 trip_k0_t1.sl.r_5
      trip_k0_t1.sl.r_4 trip_k0_t1.sl.r_3 trip_k0_t1.sl.r_2 trip_k0_t1.sl.r_1 trip_k0_t1.sl.r
    simp only [hv147, hv199, hv267, hv319, g0, g1, g2, g3, g4, g5, g6, g7, g8, g9]
    rfl
  · unfold tripL_k0_t1 trip_k0_t1
    dsimp only
    exact hL

/-! ## All trips -/

theorem trips_eq : k0_t1_loop.trips = 6 := by decide +kernel

theorem st_val (c : Dev nD) (i : grid0.Coords)
    (M1 : Memref sig .tc .vmem S4x128x512 .bf16) (h1 : M1.IsWhole)
    (M2 : Memref sig .tc .vmem S16640x128 .bf16) (h2 : M2.IsWhole)
    (M3 : Memref sig .tc .vmem S65x80x256 .bf16) (h3 : M3.IsWhole)
    (M4 : Memref sig .tc .vmem S65x80x256 .bf16) (h4 : M4.IsWhole)
    (M5 : Memref sig .tc .vmem S512x256 .f32) (h5 : M5.IsWhole)
    (M6 : Memref sig .tc .vmem S2x2x1280x1024 .f32) (h6 : M6.IsWhole)
    (x2 : Vec F S16640x128 .bf16) (x3 x4 : Vec F S65x80x256 .bf16)
    (q0 q1 : FVec F S128x1024 .bf16) (v21 v23 : FVec F S1x1024 .f32) (v22 v24 : FVec F S80x1024 .f32) (a b : BitVec 32)
    (G : BufTy.Contents (Elt F) M6.view.ty)
    (hG0 : View.readAt (Elt F) M6.view (slotRect 0 0 (by decide) (by decide)).toLoadRect G = k0_pay2 q0 (kch x2 0))
    (hG1 : View.readAt (Elt F) M6.view (slotRect 0 1 (by decide) (by decide)).toLoadRect G = k0_pay2 q1 (kch x2 0))
    (n : ℕ) (hn : n ≤ 6) :
    (st_k0_t1 (F := F) 𝒱₀ c none i M1 h1 M2 h2 M3 h3 M4 h4 M5 h5 M6 h6 q0 q1 v21 v22 v23 v24 a b (h2.unread x2)
        (h3.unread x3) (h4.unread x4) G (k0_pay30, k0_pay31, k0_pay32, k0_pay33) n).1
      = ((carry q0 x2 x3 (2 * n)).1, (carry q0 x2 x3 (2 * n)).2, (carry q1 x2 x4 (2 * n)).1, (carry q1 x2 x4 (2 * n)).2)
    ∧ ∀ f : BufTy.Contents (Elt F) M6.view.ty,
        View.readAt (Elt F) M6.view (slotRect 0 0 (by decide) (by decide)).toLoadRect f = k0_pay2 q0 (kch x2 0) →
        View.readAt (Elt F) M6.view (slotRect 0 1 (by decide) (by decide)).toLoadRect f = k0_pay2 q1 (kch x2 0) →
        View.readAt (Elt F) M6.view (slotRect 0 0 (by decide) (by decide)).toLoadRect
            (M6.view.writes (Elt F) f (st_k0_t1 (F := F) 𝒱₀ c none i M1 h1 M2 h2 M3 h3 M4 h4 M5 h5 M6 h6 q0 q1 v21 v22 v23 v24
              a b (h2.unread x2) (h3.unread x3) (h4.unread x4) G (k0_pay30, k0_pay31, k0_pay32, k0_pay33) n).2)
          = k0_pay2 q0 (kch x2 (2 * n))
        ∧ View.readAt (Elt F) M6.view (slotRect 0 1 (by decide) (by decide)).toLoadRect
            (M6.view.writes (Elt F) f (st_k0_t1 (F := F) 𝒱₀ c none i M1 h1 M2 h2 M3 h3 M4 h4 M5 h5 M6 h6 q0 q1 v21 v22 v23 v24
              a b (h2.unread x2) (h3.unread x3) (h4.unread x4) G (k0_pay30, k0_pay31, k0_pay32, k0_pay33) n).2)
          = k0_pay2 q1 (kch x2 (2 * n)) := by
  induction n with
  | zero => exact ⟨rfl, fun f h0 h1 => ⟨h0, h1⟩⟩
  | succ n ih =>
    obtain ⟨ih1, ih2⟩ := ih (by omega)
    have hlt : n < k0_t1_loop.trips := by rw [trips_eq]; omega
    have hs := st_k0_t1_succ (F := F) 𝒱₀ c none i M1 h1 M2 h2 M3 h3 M4 h4 M5 h5 M6 h6 q0 q1 v21 v22 v23 v24 a b
      (h2.unread x2) (h3.unread x3) (h4.unread x4) G (k0_pay30, k0_pay31, k0_pay32, k0_pay33) ⟨n, hlt⟩
    obtain ⟨r0, r1⟩ := ih2 G hG0 hG1
    obtain ⟨tR, tL⟩ := trip_val (F := F) c i M1 h1 M2 h2 M3 h3 M4 h4 M5 h5 M6 h6 x2 x3 x4 q0 q1 v21 v23 v22 v24 a b ⟨n, hlt⟩
      _ _ _ _ r0 r1
    have hs' := hs.trans (congrArg₂ Prod.mk tR (congrArg (· ++ _) tL))
    refine ⟨?_, fun f hf0 hf1 => ?_⟩
    · refine (congrArg Prod.fst hs').trans ?_
      dsimp only
      rw [ih1]
      rfl
    · have h2n := congrArg Prod.snd hs'
      rw [show (st_k0_t1 (F := F) 𝒱₀ c none i M1 h1 M2 h2 M3 h3 M4 h4 M5 h5 M6 h6 q0 q1 v21 v22 v23 v24
              a b (h2.unread x2) (h3.unread x3) (h4.unread x4) G (k0_pay30, k0_pay31, k0_pay32, k0_pay33) (n + 1)).2 = _ from h2n]
      refine ⟨?_, ?_⟩
      · exact (rd_slot_miss M6 _ 0 0 0 1 (by decide) (by decide) (by decide) (by decide) (by decide) _ _).trans
          (rd_slot_hit M6 _ 0 0 (by decide) (by decide) _ _)
      · exact rd_slot_hit M6 _ 0 1 (by decide) (by decide) _ _

/-! ## The result's block -/

/-- The result's block from the two groups' sums: rows 0 … 63 over row 64, one head beside the other. -/
def asm (v64 v102 : FVec F S80x1024 .f32) : FVec F S512x256 .f32 :=
  have v103 : IVec S512x128 32 := iota .tc S512x128 32 [1] iota_S512x128_d1_w32
  have half : FVec F S80x1024 .f32 → FVec F S512x128 .f32 := fun v =>
    have num : FVec F S64x1024 .f32 := extractStridedSlice S64x1024 ![0, 0] v slices_S80x1024_o0_0_S64x1024
    have den : FVec F S1x1024 .f32 := extractStridedSlice S1x1024 ![64, 0] v slices_S80x1024_o64_0_S1x1024
    have o : FVec F S64x1024 .f32 := divf num (broadcastTo S64x1024 den broadcasts_S1x1024_S64x1024)
    have z : FVec F S64x1024 .f32 := broadcast S64x1024 (Scalar.ofBits .f32 0x00000000#32 : F .f32)
    have w : FVec F S128x1024 .f32 := concatenate S128x1024 0 [⟨S64x1024, o⟩, ⟨S64x1024, z⟩] concatenates_S64x1024_S64x1024_S128x1024_d0
    have t : FVec F S1024x128 .f32 := transpose S1024x128 [1, 0] w transposes_S128x1024_p1_0_S1024x128
    select (cmpi .slt v103 (broadcast S512x128 64#32)) (extractStridedSlice S512x128 ![0, 0] t slices_S1024x128_o0_0_S512x128)
      (dynamicRotate 1 64#32 none (extractStridedSlice S512x128 ![512, 0] t slices_S1024x128_o512_0_S512x128) rotates_S512x128_d1)
  concatenate S512x256 1 [⟨S512x128, half v64⟩, ⟨S512x128, half v102⟩] concatenates_S512x128_S512x128_S512x256_d1

/-- What the body leaves in the result's block, from the blocks of its operands. -/
def bodyOut (x1 : Vec F S4x128x512 .bf16) (x2 : Vec F S16640x128 .bf16) (x3 x4 : Vec F S65x80x256 .bf16) : FVec F S512x256 .f32 :=
  asm (carry (qgrp x1 0) x2 x3 13).2 (carry (qgrp x1 1) x2 x4 13).2

theorem kernelRun_val (c : Dev nD) (i : grid0.Coords)
    (M1 : Memref sig .tc .vmem S4x128x512 .bf16) (h1 : M1.IsWhole)
    (M2 : Memref sig .tc .vmem S16640x128 .bf16) (h2 : M2.IsWhole)
    (M3 : Memref sig .tc .vmem S65x80x256 .bf16) (h3 : M3.IsWhole)
    (M4 : Memref sig .tc .vmem S65x80x256 .bf16) (h4 : M4.IsWhole)
    (M5 : Memref sig .tc .vmem S512x256 .f32) (h5 : M5.IsWhole)
    (M6 : Memref sig .tc .vmem S2x2x1280x1024 .f32) (h6 : M6.IsWhole)
    (x1 : Vec F S4x128x512 .bf16) (x2 : Vec F S16640x128 .bf16) (x3 x4 : Vec F S65x80x256 .bf16)
    (x6 : Vec F S2x2x1280x1024 .f32) :
    (kernelRun c i M1 h1 M2 h2 M3 h3 M4 h4 M5 h5 M6 h6 x1 x2 x3 x4).1 x6 = bodyOut x1 x2 x3 x4 := by
  have q0 : kernelRun.sl.r (F := F) c M1 h1 x1 = qgrp x1 0 := by
    unfold kernelRun.sl.r
    rw [rd_q M1 h1 x1 0 ![0, 0, 0] _ rfl, rd_q M1 h1 x1 1 ![1, 0, 0] _ rfl]
    rfl
  have q1 : kernelRun.sl.r_1 (F := F) c M1 h1 x1 = qgrp x1 1 := by
    unfold kernelRun.sl.r_1
    rw [rd_q M1 h1 x1 2 ![2, 0, 0] _ rfl, rd_q M1 h1 x1 3 ![3, 0, 0] _ rfl]
    rfl
  have e0 := fun inb => rd_k (F := F) M2 h2 x2 0 (by omega) ![0, 0] inb rfl
  have w0 := fun inb => rd_q (F := F) M1 h1 x1 0 ![0, 0, 0] inb rfl
  have w1 := fun inb => rd_q (F := F) M1 h1 x1 1 ![1, 0, 0] inb rfl
  have w2 := fun inb => rd_q (F := F) M1 h1 x1 2 ![2, 0, 0] inb rfl
  have w3 := fun inb => rd_q (F := F) M1 h1 x1 3 ![3, 0, 0] inb rfl
  have g0 := fun M h x inb => rd_v (F := F) M h x 60 (by omega) ![60, 0, 0] inb rfl
  have g1 := fun M h x inb => rd_v (F := F) M h x 61 (by omega) ![61, 0, 0] inb rfl
  have g2 := fun M h x inb => rd_v (F := F) M h x 62 (by omega) ![62, 0, 0] inb rfl
  have g3 := fun M h x inb => rd_v (F := F) M h x 63 (by omega) ![63, 0, 0] inb rfl
  have g4 := fun M h x inb => rd_v (F := F) M h x 64 (by omega) ![64, 0, 0] inb rfl
  -- the scratch before the loop
  have hread := fun f : BufTy.Contents (Elt F) M6.view.ty => And.intro
    ((rd_slot_miss M6 f 0 0 0 1 (by decide) (by decide) (by decide) (by decide) (by decide) (k0_pay2 (qgrp x1 1) (kch x2 0))
        [⟨slotRect 0 0 (by decide) (by decide), k0_pay2 (qgrp x1 0) (kch x2 0)⟩]).trans
      (rd_slot_hit M6 f 0 0 (by decide) (by decide) (k0_pay2 (qgrp x1 0) (kch x2 0)) []))
    (rd_slot_hit M6 f 0 1 (by decide) (by decide) (k0_pay2 (qgrp x1 1) (kch x2 0))
        [⟨slotRect 0 0 (by decide) (by decide), k0_pay2 (qgrp x1 0) (kch x2 0)⟩])
  have hst := st_val (F := F) c i M1 h1 M2 h2 M3 h3 M4 h4 M5 h5 M6 h6 x2 x3 x4 (qgrp x1 0) (qgrp x1 1) k0_pay30 k0_pay32
    k0_pay31 k0_pay33 0#32 1#32 _ (hread (h6.unread x6)).1 (hread (h6.unread x6)).2 6 le_rfl
  have hP : ∀ inb inb' inb0 inb1 inb2 inb3 inbk,
      ([⟨Rect.unit (s := S2x2x1280x1024) ![0, 1, 0, 0] S1x1x1280x1024.size inb,
          k0_pay29 (View.readAt (Elt F) M1.view (Rect.unit (s := S4x128x512) ![2, 0, 0] S1x128x512.size inb2).toLoadRect (h1.unread x1))
            (View.readAt (Elt F) M1.view (Rect.unit (s := S4x128x512) ![3, 0, 0] S1x128x512.size inb3).toLoadRect (h1.unread x1))
            (View.readAt (Elt F) M2.view (Rect.unit (s := S16640x128) ![0, 0] S1280x128.size inbk).toLoadRect (h2.unread x2))⟩,
        ⟨Rect.unit (s := S2x2x1280x1024) ![0, 0, 0, 0] S1x1x1280x1024.size inb',
          k0_pay28 (View.readAt (Elt F) M1.view (Rect.unit (s := S4x128x512) ![0, 0, 0] S1x128x512.size inb0).toLoadRect (h1.unread x1))
            (View.readAt (Elt F) M1.view (Rect.unit (s := S4x128x512) ![1, 0, 0] S1x128x512.size inb1).toLoadRect (h1.unread x1))
            (View.readAt (Elt F) M2.view (Rect.unit (s := S16640x128) ![0, 0] S1280x128.size inbk).toLoadRect (h2.unread x2))⟩]
        : List (View.Piece (Elt F) S2x2x1280x1024 .f32))
      = [⟨slotRect 0 1 (by decide) (by decide), k0_pay2 (qgrp x1 1) (kch x2 0)⟩,
          ⟨slotRect 0 0 (by decide) (by decide), k0_pay2 (qgrp x1 0) (kch x2 0)⟩] := by
    intro inb inb' inb0 inb1 inb2 inb3 inbk
    rw [w0, w1, w2, w3, e0]
    rfl
  have htr : Scf.trips k0_t1_loop.lb k0_t1_loop.ub k0_t1_loop.st = 6 := trips_eq
  have hv27 : kernelRun.sl.v27 c i M1 h1 M2 h2 M3 h3 M4 h4 M5 h5 M6 h6 x1 x2 x3 x4 x6 = k0_pay2 (qgrp x1 0) (kch x2 12) := by
    unfold kernelRun.sl.v27
    rw [hP, q0, q1, htr]
    unfold View.readCov
    rw [View.writes_append]
    exact (hst.2 _ (hread M6.view.junk).1 (hread M6.view.junk).2).1
  have hv65 : kernelRun.sl.v65 c i M1 h1 M2 h2 M3 h3 M4 h4 M5 h5 M6 h6 x1 x2 x3 x4 x6 = k0_pay2 (qgrp x1 1) (kch x2 12) := by
    unfold kernelRun.sl.v65
    rw [hP, q0, q1, htr]
    unfold View.readCov
    rw [View.writes_append]
    exact (hst.2 _ (hread M6.view.junk).1 (hread M6.view.junk).2).2
  unfold kernelRun
  dsimp only
  unfold kernelRun.sl.H5_1
  refine (View.read_writes_full M5.view _ _ _ _).trans ?_
  unfold kernelRun.sl.r_12 kernelRun.sl.r_11 kernelRun.sl.r_10 kernelRun.sl.r_9 kernelRun.sl.r_8 kernelRun.sl.r_7
    kernelRun.sl.r_6 kernelRun.sl.r_5 kernelRun.sl.r_4 kernelRun.sl.r_3 kernelRun.sl.r_2
  rw [hv27, hv65]
  simp only [hP, q0, q1, htr, hst.1, g0, g1, g2, g3, g4]
  rfl

end Cert.KernelIdeal.Model
end
-- ==== Proof.Online.lean ====
/-
  The arithmetic of a softmax taken chunk by chunk, over the extended reals: a running maximum, and weighted sums that are
  rescaled whenever the maximum grows, come to the sums taken against the final maximum; dividing by the sum of the weights
  before or after the weighted sum is the same.
-/
module

public import Idealize.ShloMosaic.PureOps.Ideal

@[expose] public section

noncomputable section

namespace Cert.Online

open Idealize.ShloMosaic

/-- The largest of the first `n` scores; `⊥` of none. -/
def runMax (s : ℕ → ℝ) (n : ℕ) : EReal := (Finset.range n).sup fun j => (s j : EReal)

/-- The weight of score `j` against a maximum. -/
def wt (s : ℕ → ℝ) (M : EReal) (j : ℕ) : EReal := Ideal.exp2 ((s j : EReal) - M)

/-- The weighted sum of the first `n` values against a maximum. -/
def wsum (s : ℕ → ℝ) (v : ℕ → EReal) (M : EReal) (n : ℕ) : EReal := ∑ j ∈ Finset.range n, v j * wt s M j

theorem runMax_zero (s : ℕ → ℝ) : runMax s 0 = ⊥ := rfl

theorem runMax_real (s : ℕ → ℝ) (n : ℕ) (hn : 0 < n) : ∃ r : ℝ, runMax s n = (r : EReal) := by
  obtain ⟨i, _, hi⟩ := Finset.exists_mem_eq_sup (Finset.range n) ⟨0, Finset.mem_range.2 hn⟩ fun j => (s j : EReal)
  exact ⟨s i, hi⟩

theorem runMax_add (s : ℕ → ℝ) (n k : ℕ) :
    runMax s (n + k) = max (runMax s n) ((Finset.univ : Finset (Fin k)).sup fun a => (s (n + a.val) : EReal)) := by
  apply le_antisymm
  · refine Finset.sup_le fun j hj => ?_
    have hj' := Finset.mem_range.1 hj
    by_cases h : j < n
    · exact le_max_of_le_left (Finset.le_sup (f := fun j => (s j : EReal)) (Finset.mem_range.2 h))
    · refine le_max_of_le_right ?_
      have := Finset.le_sup (f := fun a : Fin k => (s (n + a.val) : EReal)) (Finset.mem_univ (⟨j - n, by omega⟩ : Fin k))
      simpa only [show n + (j - n) = j by omega] using this
  · refine max_le (Finset.sup_mono (Finset.range_mono (Nat.le_add_right n k))) (Finset.sup_le fun a _ => ?_)
    exact Finset.le_sup (f := fun j => (s j : EReal)) (Finset.mem_range.2 (by have := a.isLt; omega))

theorem runMax_fin (s : ℕ → ℝ) (n : ℕ) : runMax s n = (Finset.univ : Finset (Fin n)).sup fun a => (s a.val : EReal) := by
  have h := runMax_add s 0 n
  simp only [Nat.zero_add, runMax_zero] at h
  rw [h]
  exact max_eq_right bot_le

theorem wt_coe (s : ℕ → ℝ) (m : ℝ) (j : ℕ) : wt s (m : EReal) j = ((Real.rpow 2 (s j - m) : ℝ) : EReal) := by
  unfold wt
  rw [← EReal.coe_sub, Ideal.exp2_coe]

/-- A nonnegative real factor passes through a sum. -/
theorem coe_mul_sum {ι : Type} (t : Finset ι) (c : ℝ) (hc : 0 ≤ c) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha, EReal.left_distrib_of_nonneg_of_ne_top (EReal.coe_nonneg.2 hc) (EReal.coe_ne_top c), ih]

/-- Rescaling the sums of the first `n` to a later maximum. -/
theorem rescale (s : ℕ → ℝ) (v : ℕ → EReal) (n n' : ℕ) (h' : 0 < n') :
    Ideal.exp2 (runMax s n - runMax s n') * wsum s v (runMax s n) n = wsum s v (runMax s n') n := by
  rcases Nat.eq_zero_or_pos n with rfl | hn
  · simp [wsum]
  · obtain ⟨m, hm⟩ := runMax_real s n hn
    obtain ⟨m', hm'⟩ := runMax_real s n' h'
    unfold wsum
    rw [hm, hm', ← EReal.coe_sub, Ideal.exp2_coe, coe_mul_sum _ (Real.rpow 2 (m - m')) (Real.rpow_nonneg (by norm_num) _)]
    refine Finset.sum_congr rfl fun j _ => ?_
    rw [wt_coe, wt_coe, ← mul_assoc, mul_comm _ (v j), mul_assoc, ← EReal.coe_mul]
    congr 2
    show (2 : ℝ) ^ (m - m') * (2 : ℝ) ^ (s j - m) = (2 : ℝ) ^ (s j - m')
    rw [← Real.rpow_add (by norm_num)]
    congr 1
    ring

theorem wsum_add (s : ℕ → ℝ) (v : ℕ → EReal) (M : EReal) (n k : ℕ) :
    wsum s v M (n + k) = wsum s v M n + ∑ a : Fin k, v (n + a.val) * wt s M (n + a.val) := by
  unfold wsum
  rw [Finset.sum_range_add]
  exact congrArg (_ + ·) (Finset.sum_range fun a => v (n + a) * wt s M (n + a))

/-- One chunk: five blocks of 256. -/
theorem wsum_chunk (s : ℕ → ℝ) (v : ℕ → EReal) (M : EReal) (n : ℕ) :
    wsum s v M (n + 1280) = wsum s v M n +
      (((((∑ a : Fin 256, v (n + (0 + a.val)) * wt s M (n + (0 + a.val))) + ∑ a : Fin 256, v (n + (256 + a.val)) * wt s M (n + (256 + a.val)))
        + ∑ a : Fin 256, v (n + (512 + a.val)) * wt s M (n + (512 + a.val))) + ∑ a : Fin 256, v (n + (768 + a.val)) * wt s M (n + (768 + a.val)))
        + ∑ a : Fin 256, v (n + (1024 + a.val)) * wt s M (n + (1024 + a.val))) := by
  rw [show n + 1280 = ((((n + 256) + 256) + 256) + 256) + 256 by omega, wsum_add, wsum_add, wsum_add, wsum_add, wsum_add]
  simp only [Nat.zero_add, fun a : ℕ => show n + 256 + a = n + (256 + a) by omega, fun a : ℕ => show n + 256 + 256 + a = n + (512 + a) by omega,
    fun a : ℕ => show n + 256 + 256 + 256 + a = n + (768 + a) by omega, fun a : ℕ => show n + 256 + 256 + 256 + 256 + a = n + (1024 + a) by omega, add_assoc]

/-- The sum of the weights is a positive real. -/
theorem wsum_ones (s : ℕ → ℝ) (n : ℕ) (hn : 0 < n) (v : ℕ → EReal) (hv : ∀ j, j < n → v j = 1) (m : ℝ) :
    ∃ d : ℝ, 0 < d ∧ wsum s v (m : EReal) n = (d : EReal) ∧ (∑ j : Fin n, wt s (m : EReal) j.val) = (d : EReal) := by
  refine ⟨∑ j ∈ Finset.range n, Real.rpow 2 (s j - m), ?_, ?_, ?_⟩
  · exact Finset.sum_pos (fun j _ => Real.rpow_pos_of_pos (by norm_num) _) ⟨0, Finset.mem_range.2 hn⟩
  · unfold wsum
    have h2 : ∀ t : Finset ℕ, ((∑ j ∈ t, Real.rpow 2 (s j - m) : ℝ) : EReal) = ∑ j ∈ t, ((Real.rpow 2 (s j - m) : ℝ) : EReal) := by
      intro t
      induction t using Finset.induction_on with
      | empty => simp
      | insert a t ha ih => rw [Finset.sum_insert ha, Finset.sum_insert ha, EReal.coe_add, ih]
    rw [h2]
    refine Finset.sum_congr rfl fun j hj => ?_
    rw [hv j (Finset.mem_range.1 hj), one_mul, wt_coe]
  · rw [Finset.sum_range]
    have h2 : ∀ t : Finset (Fin n), ((∑ j ∈ t, Real.rpow 2 (s j.val - m) : ℝ) : EReal) = ∑ j ∈ t, ((Real.rpow 2 (s j.val - m) : ℝ) : EReal) := by
      intro t
      induction t using Finset.induction_on with
      | empty => simp
      | insert a t ha ih => rw [Finset.sum_insert ha, Finset.sum_insert ha, EReal.coe_add, ih]
    rw [h2]
    exact Finset.sum_congr rfl fun j _ => wt_coe s m j.val

/-- Normalising after the sum or before it. -/
theorem normalise (s : ℕ → ℝ) (n : ℕ) (hn : 0 < n) (one v : ℕ → EReal) (h1 : ∀ j, j < n → one j = 1) :
    Ideal.div (wsum s v (runMax s n) n) (wsum s one (runMax s n) n)
      = ∑ j : Fin n, Ideal.div (wt s (runMax s n) j.val) (∑ k : Fin n, wt s (runMax s n) k.val) * v j.val := by
  obtain ⟨m, hm⟩ := runMax_real s n hn
  rw [hm]
  obtain ⟨d, hd, hw, hs⟩ := wsum_ones s n hn one h1 m
  rw [hw, hs, Ideal.div_coe hd.ne', mul_comm]
  unfold wsum
  rw [coe_mul_sum _ _ (by positivity), Finset.sum_range]
  refine Finset.sum_congr rfl fun j _ => ?_
  rw [Ideal.div_coe hd.ne', mul_comm (v j.val), ← mul_assoc, mul_comm _ (wt s (m : EReal) j.val)]

/-- Two to a real power, as the host takes it and as the kernel does. -/
theorem pow_two (s : ℕ → ℝ) (n : ℕ) (hn : 0 < n) (j : ℕ) :
    Ideal.pow ((2 : ℝ) : EReal) ((s j : EReal) - runMax s n) = wt s (runMax s n) j := by
  obtain ⟨m, hm⟩ := runMax_real s n hn
  rw [hm, wt_coe, ← EReal.coe_sub, Ideal.pow_coe_coe]

end Cert.Online
-- ==== Proof.KernelIdx.lean ====
/-
  The flash-attention body at the extended reals, element by element.
-/
module

public import proofs.«01_k».proof.Proof.Model
public import proofs.«01_k».proof.Proof.Online
public import Idealize.ShloMosaic.Lib.Pointwise
public import Idealize.ShloMosaic.Lib.Pointwise.IndexBridge

@[expose] public section

set_option maxRecDepth 16384

noncomputable section

namespace Cert.KernelIdeal.Idx

open Cert.KernelIdeal Cert.KernelIdeal.Gen Cert.KernelIdeal.Model Cert.Online

open Idealize.ShloMosaic

/-- The pattern of minus infinity. -/
theorem ofBits_ninf : Ideal.ofBits .f32 0xFF800000#32 = ⊥ := by simp [Ideal.ofBits, Ideal.ieee]

theorem pay2_apply (q : FVec Ideal S128x1024 .bf16) (k : Vec Ideal S1280x128 .bf16) (a : Fin 1280) (c : Fin 1024) :
    k0_pay2 (F := Ideal) q k (ix4 0 0 a c) = ∑ t : Fin 128, k (ix2 a t) * q (ix2 t c) := by
  pointwise [k0_pay2]

theorem pay5_apply (m : FVec Ideal S1x1024 .f32) (s : Vec Ideal S1x1x1280x1024 .f32) (c : Fin 1024) :
    k0_pay5 (F := Ideal) m s (ix2 0 c)
      = max (m (ix2 0 c)) ((Finset.univ : Finset (Fin 1280)).fold max (Ideal.ofBits .f32 0xFF800000#32) fun a => s (ix4 0 0 a c)) := by
  pointwise [k0_pay5, k0_pay4]

theorem pay6_apply (m : FVec Ideal S1x1024 .f32) (s : Vec Ideal S1x1x1280x1024 .f32) (a : Fin 1280) (c : Fin 1024) :
    k0_pay6 (F := Ideal) m s (ix2 a c) = Ideal.exp2 (s (ix4 0 0 a c) - k0_pay5 (F := Ideal) m s (ix2 0 c)) := by
  generalize hp : k0_pay5 (F := Ideal) m s = p
  unfold k0_pay6
  rw [hp]
  pointwise [k0_pay4]
  rfl

theorem pay7_apply (m : FVec Ideal S1x1024 .f32) (s : Vec Ideal S1x1x1280x1024 .f32) (v : Vec Ideal S1x80x256 .bf16) (r : Fin 80) (c : Fin 1024) :
    k0_pay7 (F := Ideal) m s v (ix2 r c)
      = ∑ a : Fin 256, v (ix3 0 r a) * k0_pay6 (F := Ideal) m s (ix2 ⟨0 + a.val, by omega⟩ c) := by
  generalize hp : k0_pay6 (F := Ideal) m s = p
  unfold k0_pay7
  rw [hp]
  pointwise

theorem pay8_apply (m : FVec Ideal S1x1024 .f32) (acc : FVec Ideal S80x1024 .f32) (mn : FVec Ideal S1x1024 .f32) (p : FVec Ideal S1280x1024 .bf16)
    (pv : FVec Ideal S80x1024 .f32) (v1 v2 v3 v4 : Vec Ideal S1x80x256 .bf16) (r : Fin 80) (c : Fin 1024) :
    k0_pay8 (F := Ideal) m acc mn p pv v1 v2 v3 v4 (ix2 r c)
      = Ideal.exp2 (m (ix2 0 c) - mn (ix2 0 c)) * acc (ix2 r c)
        + ((((pv (ix2 r c) + ∑ a : Fin 256, v1 (ix3 0 r a) * p (ix2 ⟨256 + a.val, by omega⟩ c))
          + ∑ a : Fin 256, v2 (ix3 0 r a) * p (ix2 ⟨512 + a.val, by omega⟩ c))
          + ∑ a : Fin 256, v3 (ix3 0 r a) * p (ix2 ⟨768 + a.val, by omega⟩ c))
          + ∑ a : Fin 256, v4 (ix3 0 r a) * p (ix2 ⟨1024 + a.val, by omega⟩ c)) := by
  pointwise [k0_pay8]
  rfl

end Cert.KernelIdeal.Idx
-- ==== Proof.AsmIdx.lean ====
/-
  The assembly of the result's block from the two groups' sums, element by element.
-/
module

public import proofs.«01_k».proof.Proof.Model
public import Idealize.ShloMosaic.Lib.Pointwise
public import Idealize.ShloMosaic.Lib.Pointwise.IndexBridge

@[expose] public section

set_option maxRecDepth 16384

noncomputable section

namespace Cert.KernelIdeal.Idx

open Cert.KernelIdeal Cert.KernelIdeal.Gen Cert.KernelIdeal.Model

open Idealize.ShloMosaic

theorem lane_lt (n : ℕ) (hn : n < 128) {α : Type} (x y : α) :
    Scalar.select (IntOp.cmpi CmpIPredicate.slt (BitVec.ofNat 32 n) 64#32) x y = if n < 64 then x else y := by
  have h : ∀ n : Fin 128, IntOp.cmpi CmpIPredicate.slt (BitVec.ofNat 32 n.val) 64#32 = if n.val < 64 then 1#1 else 0#1 := by decide
  have h' := h ⟨n, hn⟩
  simp only at h'
  rw [h']
  split <;> rfl

/-- The lanes below 64 of each half hold the group's first head, the others, rotated there, its second. -/
theorem asm_cases (f g : Fin 64 → Fin 1024 → EReal) (r : Fin 512) (l : Fin 256) :
    (if h : l.val < 128 then
        Scalar.select (IntOp.cmpi CmpIPredicate.slt (BitVec.ofNat 32 l.val) 64#32)
          (if h1 : l.val < 64 then f ⟨l.val, h1⟩ ⟨r.val, by omega⟩ else 0)
          (if h1 : (l.val + 128 - 64) % 128 < 64 then f ⟨(l.val + 128 - 64) % 128, h1⟩ ⟨512 + r.val, by omega⟩ else 0)
      else
        Scalar.select (IntOp.cmpi CmpIPredicate.slt (BitVec.ofNat 32 (l.val - 128)) 64#32)
          (if h1 : l.val - 128 < 64 then g ⟨l.val - 128, h1⟩ ⟨r.val, by omega⟩ else 0)
          (if h1 : (l.val - 128 + 128 - 64) % 128 < 64 then g ⟨(l.val - 128 + 128 - 64) % 128, h1⟩ ⟨512 + r.val, by omega⟩ else 0))
      = if l.val < 128 then f ⟨l.val % 64, by omega⟩ ⟨512 * (l.val / 64 % 2) + r.val, by omega⟩
        else g ⟨l.val % 64, by omega⟩ ⟨512 * (l.val / 64 % 2) + r.val, by omega⟩ := by
  have hl := l.isLt
  have e : ∀ (k : Fin 64 → Fin 1024 → EReal) (a a' b b' : ℕ) (ha : a < 64) (ha' : a' < 64) (hb : b < 1024) (hb' : b' < 1024), a = a' → b = b' →
      k ⟨a, ha⟩ ⟨b, hb⟩ = k ⟨a', ha'⟩ ⟨b', hb'⟩ := by
    intro k a a' b b' ha ha' hb hb' h1 h2
    subst h1 h2
    rfl
  by_cases h1 : l.val < 128
  · rw [dif_pos h1, if_pos h1, lane_lt _ h1]
    by_cases h2 : l.val < 64
    · rw [if_pos h2, dif_pos h2]
      exact e f _ _ _ _ _ _ _ _ (by omega) (by omega)
    · rw [if_neg h2, dif_pos (by omega)]
      exact e f _ _ _ _ _ _ _ _ (by omega) (by omega)
  · rw [dif_neg h1, if_neg h1, lane_lt _ (by omega)]
    by_cases h2 : l.val - 128 < 64
    · rw [if_pos h2, dif_pos h2]
      exact e g _ _ _ _ _ _ _ _ (by omega) (by omega)
    · rw [if_neg h2, dif_pos (by omega)]
      exact e g _ _ _ _ _ _ _ _ (by omega) (by omega)

theorem asm_apply (v w : FVec Ideal S80x1024 .f32) (r : Fin 512) (l : Fin 256) :
    asm (F := Ideal) v w (ix2 r l)
      = if l.val < 128 then
          Ideal.div (v (ix2 ⟨l.val % 64, by omega⟩ ⟨512 * (l.val / 64 % 2) + r.val, by omega⟩)) (v (ix2 64 ⟨512 * (l.val / 64 % 2) + r.val, by omega⟩))
        else
          Ideal.div (w (ix2 ⟨l.val % 64, by omega⟩ ⟨512 * (l.val / 64 % 2) + r.val, by omega⟩)) (w (ix2 64 ⟨512 * (l.val / 64 % 2) + r.val, by omega⟩)) := by
  pointwise [asm]
  exact asm_cases (fun a b => Ideal.div (v (ix2 ⟨a.val, by omega⟩ b)) (v (ix2 64 b))) (fun a b => Ideal.div (w (ix2 ⟨a.val, by omega⟩ b)) (w (ix2 64 b))) r l

end Cert.KernelIdeal.Idx
-- ==== Proof.Attn.lean ====
/-
  Attention of one head, by row and channel: the scores of a row, their softmax in base two, and the values it weighs.
-/
module

public import proofs.«01_k».proof.Proof.Online
public import Idealize.ShloMosaic.PureOps.Ideal.Laws
public import Idealize.ShloMosaic.Lib.Pointwise
public import Idealize.ShloMosaic.Lib.Pointwise.IndexBridge

@[expose] public section

noncomputable section

namespace Cert.Online

open Idealize.ShloMosaic

abbrev Qt := FVec Ideal (⟨3, ![4, 128, 16640]⟩ : Shape) .bf16
abbrev Kt := FVec Ideal (⟨2, ![16640, 128]⟩ : Shape) .bf16
abbrev Vt := FVec Ideal (⟨3, ![65, 80, 256]⟩ : Shape) .bf16

/-- Row `r` of the values, by token. -/
def vAt (x3 : Vt) (r : Fin 80) (j : ℕ) : EReal :=
  x3 (ix3 ⟨j / 256 % 65, Nat.mod_lt _ (by norm_num)⟩ r ⟨j % 256, Nat.mod_lt _ (by norm_num)⟩)

/-- The score of token `j` for query row `r` of head `h`. -/
def score (q : Qt) (k : Kt) (h : Fin 4) (r : Fin 16384) (j : ℕ) : EReal :=
  ∑ t : Fin 128, k (ix2 ⟨j % 16640, Nat.mod_lt _ (by norm_num)⟩ t) * q (ix3 h t ⟨r.val, lt_trans r.isLt (by norm_num)⟩)

/-- The score as a real. -/
def sR (q : Qt) (k : Kt) (h : Fin 4) (r : Fin 16384) (j : ℕ) : ℝ := (score q k h r j).toReal

/-- Channel `d` of head `h`'s attention for query row `r`. -/
def attn (q : Qt) (k : Kt) (v0 v1 : Vt) (h : Fin 4) (r : Fin 16384) (d : Fin 64) : EReal :=
  ∑ j : Fin 16640, Ideal.div (wt (sR q k h r) (runMax (sR q k h r) 16640) j.val)
      (∑ i : Fin 16640, wt (sR q k h r) (runMax (sR q k h r) 16640) i.val)
    * vAt (if h.val < 2 then v0 else v1) ⟨d.val, lt_trans d.isLt (by norm_num)⟩ j.val

/-- The heads side by side, by row and lane. -/
def attnAt (q : Qt) (k : Kt) (v0 v1 : Vt) (i : (⟨2, ![16384, 256]⟩ : Shape).Idx) : EReal :=
  attn q k v0 v1 ⟨(i 1).val / 64, Nat.div_lt_of_lt_mul (i 1).isLt⟩ ⟨(i 0).val, (i 0).isLt⟩ ⟨(i 1).val % 64, Nat.mod_lt _ (by norm_num)⟩

/-- The queries that are used and the keys are finite. -/
def Fins (q : Qt) (k : Kt) : Prop :=
  (∀ (h : Fin 4) (t : Fin 128) (r : Fin 16384), ∃ x : ℝ, q (ix3 h t ⟨r.val, lt_trans r.isLt (by norm_num)⟩) = (x : EReal))
    ∧ ∀ (j : Fin 16640) (t : Fin 128), ∃ x : ℝ, k (ix2 j t) = (x : EReal)

/-- Row 64 of the values holds ones. -/
def Ones (v : Vt) : Prop := ∀ (b : Fin 65) (a : Fin 256), v (ix3 b 64 a) = 1

theorem coe_sum_real {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

theorem score_eq (q : Qt) (k : Kt) (hf : Fins q k) (h : Fin 4) (r : Fin 16384) (j : ℕ) :
    score q k h r j = (sR q k h r j : EReal) := by
  choose fq hq using hf.1
  choose fk hk using hf.2
  have : score q k h r j = ((∑ t : Fin 128, fk ⟨j % 16640, Nat.mod_lt _ (by norm_num)⟩ t * fq h t r : ℝ) : EReal) := by
    unfold score
    rw [coe_sum_real]
    exact Finset.sum_congr rfl fun t _ => by rw [hk, hq, EReal.coe_mul]
  unfold sR
  rw [this, EReal.toReal_coe]

end Cert.Online

end
-- ==== Proof.KernelVal.lean ====
/-
  The running maximum and sums of the flash-attention body as the chunked softmax's, and the block it leaves as the
  softmax of one row's scores against the values.
-/
module

public import proofs.«01_k».proof.Proof.KernelIdx
public import proofs.«01_k».proof.Proof.AsmIdx
public import proofs.«01_k».proof.Proof.Attn

@[expose] public section

set_option maxRecDepth 16384

noncomputable section

namespace Cert.KernelIdeal.Idx

open Cert.KernelIdeal Cert.KernelIdeal.Gen Cert.KernelIdeal.Model Cert.Online

open Idealize.ShloMosaic

/-- Token `j`'s score in column `c`. -/
def scAt (q : FVec Ideal S128x1024 .bf16) (x2 : Vec Ideal S16640x128 .bf16) (c : Fin 1024) (j : ℕ) : EReal :=
  ∑ t : Fin 128, x2 (ix2 ⟨j % 16640, Nat.mod_lt _ (by norm_num)⟩ t) * q (ix2 t c)

theorem kch_apply (x2 : Vec Ideal S16640x128 .bf16) (n : ℕ) (a : Fin 1280) (t : Fin 128) :
    kch x2 n (ix2 a t) = x2 (ix2 ⟨(1280 * n + a.val) % 16640, Nat.mod_lt _ (by norm_num)⟩ t) := by
  rw [ix2_eq_valueIdx (_ : Fin 16640) t]
  rfl

theorem vbk_apply (x3 : Vec Ideal S65x80x256 .bf16) (n : ℕ) (r : Fin 80) (a : Fin 256) :
    vbk x3 n (ix3 0 r a) = x3 (ix3 ⟨n % 65, Nat.mod_lt _ (by norm_num)⟩ r a) := by
  rw [ix3_eq_valueIdx (_ : Fin 65) r a]
  rfl

theorem vbk_vAt (x3 : Vec Ideal S65x80x256 .bf16) (n b : ℕ) (r : Fin 80) (a : Fin 256) :
    vbk x3 (5 * n + b) (ix3 0 r a) = vAt x3 r (1280 * n + (256 * b + a.val)) := by
  rw [vbk_apply]
  unfold vAt
  have ha := a.isLt
  congr 2
  · apply Fin.ext
    show (5 * n + b) % 65 = (1280 * n + (256 * b + a.val)) / 256 % 65
    rw [show (1280 * n + (256 * b + a.val)) / 256 = 5 * n + b by omega]
  · apply Fin.ext
    show a.val = (1280 * n + (256 * b + a.val)) % 256
    omega

theorem carry_val (q : FVec Ideal S128x1024 .bf16) (x2 : Vec Ideal S16640x128 .bf16) (x3 : Vec Ideal S65x80x256 .bf16) (c : Fin 1024)
    (s : ℕ → ℝ) (hs : ∀ j, scAt q x2 c j = (s j : EReal)) (n : ℕ) :
    (carry (F := Ideal) q x2 x3 n).1 (ix2 0 c) = runMax s (1280 * n)
      ∧ ∀ r : Fin 80, (carry (F := Ideal) q x2 x3 n).2 (ix2 r c) = wsum s (vAt x3 r) (runMax s (1280 * n)) (1280 * n) := by
  induction n with
  | zero =>
    constructor
    · show Ideal.ofBits .f32 0xFF800000#32 = _
      rw [ofBits_ninf]; rfl
    · intro r
      show Ideal.ofBits .f32 0x00000000#32 = _
      rw [Ideal.ofBits_zero_f32]; rfl
  | succ n ih =>
    obtain ⟨ih1, ih2⟩ := ih
    have hsc : ∀ a : Fin 1280, k0_pay2 (F := Ideal) q (kch x2 n) (ix4 0 0 a c) = (s (1280 * n + a.val) : EReal) := fun a => by
      rw [pay2_apply, ← hs]
      unfold scAt
      exact Finset.sum_congr rfl fun t _ => by rw [kch_apply]
    have hmax : k0_pay5 (F := Ideal) (carry (F := Ideal) q x2 x3 n).1 (k0_pay2 (F := Ideal) q (kch x2 n)) (ix2 0 c) = runMax s (1280 * (n + 1)) := by
      rw [pay5_apply, ih1, ofBits_ninf, Nat.mul_add, Nat.mul_one, runMax_add]
      refine congrArg (max _) ?_
      rw [Finset.fold_congr (g := fun a : Fin 1280 => (s (1280 * n + a.val) : EReal)) fun a _ => hsc a]
      rfl
    refine ⟨hmax, fun r => ?_⟩
    have hp : ∀ a : Fin 1280, k0_pay6 (F := Ideal) (carry (F := Ideal) q x2 x3 n).1 (k0_pay2 (F := Ideal) q (kch x2 n)) (ix2 a c)
        = wt s (runMax s (1280 * (n + 1))) (1280 * n + a.val) := fun a => by
      rw [pay6_apply, hmax, hsc]; rfl
    show k0_pay8 (F := Ideal) (carry (F := Ideal) q x2 x3 n).1 (carry (F := Ideal) q x2 x3 n).2 _ _ _ _ _ _ _ (ix2 r c) = _
    rw [pay8_apply, pay7_apply, hmax, ih1, ih2, rescale _ _ _ _ (by omega)]
    simp only [hp, vbk_vAt]
    rw [show 1280 * (n + 1) = 1280 * n + 1280 by omega, wsum_chunk]

/-- One element of the block the body leaves. -/
theorem bodyOut_val (x1 : Vec Ideal S4x128x512 .bf16) (x2 : Vec Ideal S16640x128 .bf16) (x3 x4 : Vec Ideal S65x80x256 .bf16)
    (r : Fin 512) (l : Fin 256) (s : ℕ → ℝ)
    (hs : ∀ j, ∑ t : Fin 128, x2 (ix2 ⟨j % 16640, Nat.mod_lt _ (by norm_num)⟩ t) * x1 (ix3 ⟨l.val / 64, by omega⟩ t r) = (s j : EReal))
    (h1 : ∀ b : Fin 65, ∀ a : Fin 256, (if l.val < 128 then x3 else x4) (ix3 b 64 a) = 1) :
    bodyOut (F := Ideal) x1 x2 x3 x4 (ix2 r l)
      = ∑ j : Fin 16640, Ideal.div (wt s (runMax s 16640) j.val) (∑ k : Fin 16640, wt s (runMax s 16640) k.val)
          * vAt (if l.val < 128 then x3 else x4) ⟨l.val % 64, by omega⟩ j.val := by
  have hl := l.isLt
  have hr := r.isLt
  have hq : ∀ (g : Fin 2), l.val / 128 = g.val → ∀ t : Fin 128,
      qgrp (F := Ideal) x1 g (ix2 t ⟨512 * (l.val / 64 % 2) + r.val, by omega⟩) = x1 (ix3 ⟨l.val / 64, by omega⟩ t r) := by
    intro g hg t
    rw [ix3_eq_valueIdx]
    unfold qgrp
    pointwise [k0_pay26]
    by_cases h : l.val / 64 % 2 = 0
    · rw [dif_pos (by omega)]
      unfold qhd
      congr 1
      rw [← ix3_eq_valueIdx, ← ix3_eq_valueIdx]
      refine congr (congrArg₂ ix3 (Fin.ext ?_) (Fin.ext ?_)) (Fin.ext ?_)
      · show 2 * g.val = l.val / 64
        omega
      · rfl
      · show 512 * (l.val / 64 % 2) + r.val = r.val
        omega
    · rw [dif_neg (by omega)]
      unfold qhd
      congr 1
      rw [← ix3_eq_valueIdx, ← ix3_eq_valueIdx]
      refine congr (congrArg₂ ix3 (Fin.ext ?_) (Fin.ext ?_)) (Fin.ext ?_)
      · show 2 * g.val + 1 = l.val / 64
        omega
      · rfl
      · show 512 * (l.val / 64 % 2) + r.val - 512 = r.val
        omega
  have hc : ∀ (g : Fin 2), l.val / 128 = g.val → ∀ x : Vec Ideal S65x80x256 .bf16, (if l.val < 128 then x3 else x4) = x →
      Ideal.div ((carry (F := Ideal) (qgrp x1 g) x2 x 13).2 (ix2 ⟨l.val % 64, by omega⟩ ⟨512 * (l.val / 64 % 2) + r.val, by omega⟩))
          ((carry (F := Ideal) (qgrp x1 g) x2 x 13).2 (ix2 64 ⟨512 * (l.val / 64 % 2) + r.val, by omega⟩))
        = ∑ j : Fin 16640, Ideal.div (wt s (runMax s 16640) j.val) (∑ k : Fin 16640, wt s (runMax s 16640) k.val)
          * vAt (if l.val < 128 then x3 else x4) ⟨l.val % 64, by omega⟩ j.val := by
    intro g hg x hx
    have hcv := (carry_val (qgrp (F := Ideal) x1 g) x2 x ⟨512 * (l.val / 64 % 2) + r.val, by omega⟩ s (fun j => by
      rw [← hs j]
      unfold scAt
      exact Finset.sum_congr rfl fun t _ => by rw [hq g hg]) 13).2
    rw [hcv, hcv]
    simp only [Nat.reduceMul]
    rw [normalise s 16640 (by norm_num) _ _ (fun j _ => by rw [← hx]; exact h1 _ _), hx]
  unfold bodyOut
  rw [asm_apply]
  by_cases h : l.val < 128
  · have := hc 0 (by show l.val / 128 = 0; omega) x3 (if_pos h)
    rw [if_pos h, ← this]
  · have := hc 1 (by show l.val / 128 = 1; omega) x4 (if_neg h)
    rw [if_neg h, ← this]

end Cert.KernelIdeal.Idx
-- ==== Proof.Final.lean ====
/-
  The result's array after the run: the attention of each head, by row and channel.
-/
module

public import proofs.«01_k».proof.Proof.KernelVal
public import Idealize.ShloMosaic.Lib.Pipeline.ValueKit.Point

@[expose] public section

set_option maxRecDepth 16384

noncomputable section

namespace Cert.KernelIdeal.Final

open Cert.KernelIdeal Cert.KernelIdeal.Gen Cert.KernelIdeal.Model Cert.KernelIdeal.Run Cert.KernelIdeal.Idx Cert.Online

open Idealize.ShloMosaic Idealize.ShloMosaic.TcCoe

theorem idx : ∀ t : Fin cfg0.N, win0_0.index t = ![0, 0, t.val] ∧ win0_1.index t = ![0, 0] ∧ win0_2.index t = ![0, 0, 0]
    ∧ win0_3.index t = ![0, 0, 0] ∧ win0_4.index t = ![t.val, 0] ∧ t.val < 32 :=
  (by decide +kernel : ∀ t : Fin grid0.N, _)

variable (m : (ℓ : Loc nD τ sig) → Buf (Elt Ideal) ℓ)

theorem iblk1 (c : Dev nD) (t : Fin cfg0.N) : iblk m c 1 t = m ((c : Thread nD τ).loc main_arg1) := by blk_ext! [iblk, V, idx t]
theorem iblk2 (c : Dev nD) (t : Fin cfg0.N) : iblk m c 2 t = m ((c : Thread nD τ).loc main_arg2) := by blk_ext! [iblk, V, idx t]
theorem iblk3 (c : Dev nD) (t : Fin cfg0.N) : iblk m c 3 t = m ((c : Thread nD τ).loc main_arg3) := by blk_ext! [iblk, V, idx t]

/-- What the body leaves, at each point. -/
def out (c : Dev nD) (t : Fin cfg0.N) : Vec Ideal S512x256 .f32 :=
  bodyOut (X0_0 m c t) (iblk m c 1 t) (iblk m c 2 t) (iblk m c 3 t)

theorem out_found (c : Dev nD) (t : Fin cfg0.N) (x6) : outFound m c t x6 = out m c t := by
  unfold outFound out
  exact kernelRun_val c _ _ _ _ _ _ _ _ _ _ _ _ _ _ _ _ _ _

/-- The tile of queries at point `t`. -/
theorem x0_apply (c : Dev nD) (t : Fin cfg0.N) (h : Fin 4) (a : Fin 128) (r : Fin 512) (hr : 512 * t.val + r.val < 16640) :
    (X0_0 m c t : Vec Ideal S4x128x512 .bf16) (ix3 h a r) = (m ((c : Thread nD τ).loc main_arg0) : Qt) (ix3 h a ⟨512 * t.val + r.val, hr⟩) := by
  unfold X0_0 Pipeline.Window.fill
  rw [dif_pos (moved0_0 t _)]
  blk_ext [iblk, V, idx t]

/-- One element of the block that the body leaves at point `t`. -/
theorem point (c : Dev nD)
    (hf : Fins (m ((c : Thread nD τ).loc main_arg0)) (m ((c : Thread nD τ).loc main_arg1)))
    (h2 : Ones (m ((c : Thread nD τ).loc main_arg2))) (h3 : Ones (m ((c : Thread nD τ).loc main_arg3)))
    (t : Fin cfg0.N) (r : Fin 512) (l : Fin 256) (i : S16384x256.Idx) (hi0 : (i 0).val = 512 * t.val + r.val) (hi1 : (i 1).val = l.val) :
    out m c t (ix2 r l) = attnAt (m ((c : Thread nD τ).loc main_arg0)) (m ((c : Thread nD τ).loc main_arg1))
      (m ((c : Thread nD τ).loc main_arg2)) (m ((c : Thread nD τ).loc main_arg3)) i := by
  have ht := (idx t).2.2.2.2.2
  have hl := l.isLt
  have hr := r.isLt
  have hb : 512 * t.val + r.val < 16384 := by omega
  obtain rfl : i = ix2 ⟨512 * t.val + r.val, hb⟩ l := by
    funext a
    match a with
    | ⟨0, _⟩ => exact Fin.ext hi0
    | ⟨1, _⟩ => exact Fin.ext hi1
  unfold out
  rw [iblk1, iblk2, iblk3, bodyOut_val _ _ _ _ r l
    (sR (m ((c : Thread nD τ).loc main_arg0)) (m ((c : Thread nD τ).loc main_arg1)) ⟨l.val / 64, by omega⟩ ⟨512 * t.val + r.val, by omega⟩)]
  · unfold attnAt attn
    have hc : (l.val < 128) = (l.val / 64 < 2) := propext (by omega)
    simp only [hc]
    rfl
  · intro j
    rw [← score_eq _ _ hf]
    unfold score
    exact Finset.sum_congr rfl fun a _ => by rw [x0_apply m c t _ _ _ (by omega)]
  · intro b a
    split
    · exact h2 b a
    · exact h3 b a

theorem final (c : Dev nD)
    (hf : Fins (m ((c : Thread nD τ).loc main_arg0)) (m ((c : Thread nD τ).loc main_arg1)))
    (h2 : Ones (m ((c : Thread nD τ).loc main_arg2))) (h3 : Ones (m ((c : Thread nD τ).loc main_arg3))) :
    (dats m (out m) 0 c).arrAt 4 cfg0.N = attnAt (m ((c : Thread nD τ).loc main_arg0)) (m ((c : Thread nD τ).loc main_arg1))
      (m ((c : Thread nD τ).loc main_arg2)) (m ((c : Thread nD τ).loc main_arg3)) := by
  refine (dats m (out m) 0 c).arrAt_eq_of_covers 4 _ (by decide +kernel) fun t _ y => ?_
  blk_simp
  rw [after0_4]
  idx_vars y
  refine point m c hf h2 h3 t _ _ _ ?_ ?_
  · blk_simp [idx t]
    omega
  · blk_simp [idx t]

end Cert.KernelIdeal.Final

end
-- ==== Proof.RefVal.lean ====
/-
  The reference's result as the attention of each head by row and channel.
-/
module

public import proofs.«01_k».proof.Proof.Gen.ReferenceIdeal.Read
public import proofs.«01_k».proof.Proof.Attn

@[expose] public section

set_option maxRecDepth 16384

noncomputable section

namespace Cert.ReferenceIdeal.RefVal

open Cert.ReferenceIdeal Cert.ReferenceIdeal.Gen Cert.ReferenceIdeal.Read Cert.Online

open Idealize.ShloMosaic

/-- The largest score of each row. -/
def rowMax (s : FVec Ideal S16384x16640 .f32) : FVec Ideal S16384 .f32 :=
  Host.reduce FloatOps.maximumf s (constant (F := Ideal) S_ .f32 0xFF800000#32) reducesTo_S16384x16640_S16384_d1 h_S_

/-- The weights: two to the power of the score less its row's largest. -/
def weights (s : FVec Ideal S16384x16640 .f32) (m : FVec Ideal S16384 .f32) : FVec Ideal S16384x16640 .f32 :=
  Host.powf (broadcastInDim S16384x16640 ![] bcast_S_S16384x16640 (constant (F := Ideal) S_ .f32 0x40000000#32))
    (subf s (broadcastInDim S16384x16640 ![0, 1] bcast_S16384x1_S16384x16640_0_1 (broadcastInDim S16384x1 ![0] bcast_S16384_S16384x1_0 m)))

/-- The weights over their row's sum. -/
def normed (e : FVec Ideal S16384x16640 .f32) : FVec Ideal S16384x16640 .f32 :=
  Host.divf e (broadcastInDim S16384x16640 ![0, 1] bcast_S16384x1_S16384x16640_0_1 (broadcastInDim S16384x1 ![0] bcast_S16384_S16384x1_0
    (Host.reduceAdd e (constant (F := Ideal) S_ .f32 0x00000000#32) reducesTo_S16384x16640_S16384_d1 h_S_)))

/-- The values, token by channel. -/
def values (v : Vt) : FVec Ideal S16640x64 .f32 :=
  extractStridedSlice S16640x64 ![0, 0] (shapeCast S16640x80 (transpose S65x256x80 [0, 2, 1] (extf .f32 v bitsLt_bf16_f32)
    transposes_S65x80x256_S65x256x80_0_2_1) shapeCasts_S65x256x80_S16640x80) slices_S16640x80_S16640x64_0_0

/-- One head from its scores and values. -/
def head (s : FVec Ideal S16384x16640 .f32) (v : Vt) : FVec Ideal S16384x64 .f32 :=
  Host.dotGeneral dot_S16384x16640_S16640x64_S16384x64_1_0_0_1_n_n none (normed (weights s (rowMax s))) (values v)

theorem ofBits_ninf : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee]
  rw [← EReal.coe_mul]
  norm_num

theorem rowMax_apply (s : FVec Ideal S16384x16640 .f32) (r : Fin 16384) (f : ℕ → ℝ) (hs : ∀ j : Fin 16640, s (ix2 r j) = (f j.val : EReal)) :
    rowMax s (ix1 r) = runMax f 16640 := by
  pointwise [rowMax]
  rw [runMax_fin]
  simp only [hs, ofBits_ninf]
  rfl

theorem weights_apply (s : FVec Ideal S16384x16640 .f32) (m : FVec Ideal S16384 .f32) (r : Fin 16384) (j : Fin 16640) :
    weights s m (ix2 r j) = Ideal.pow ((2 : ℝ) : EReal) (s (ix2 r j) - m (ix1 r)) := by
  rw [← ofBits_two]
  pointwise [weights]
  try rfl

theorem normed_apply (e : FVec Ideal S16384x16640 .f32) (r : Fin 16384) (j : Fin 16640) :
    normed e (ix2 r j) = Ideal.div (e (ix2 r j)) (∑ k : Fin 16640, e (ix2 r k)) := by
  pointwise [normed]

theorem values_apply (v : Vt) (j : Fin 16640) (d : Fin 64) :
    values v (ix2 j d) = vAt v ⟨d.val, lt_trans d.isLt (by norm_num)⟩ j.val := by
  have hj := j.isLt
  have hd := d.isLt
  unfold vAt
  pointwise [values]
  congr 2
  exact Fin.ext (Nat.mod_eq_of_lt (by omega : j.val / 256 < 65)).symm

theorem head_apply (s : FVec Ideal S16384x16640 .f32) (v : Vt) (r : Fin 16384) (d : Fin 64) (f : ℕ → ℝ)
    (hs : ∀ j : Fin 16640, s (ix2 r j) = (f j.val : EReal)) :
    head s v (ix2 r d) = ∑ j : Fin 16640, Ideal.div (wt f (runMax f 16640) j.val) (∑ k : Fin 16640, wt f (runMax f 16640) k.val)
      * vAt v ⟨d.val, lt_trans d.isLt (by norm_num)⟩ j.val := by
  have hw : ∀ j : Fin 16640, weights s (rowMax s) (ix2 r j) = wt f (runMax f 16640) j.val := fun j => by
    rw [weights_apply, rowMax_apply s r f hs, hs, pow_two f 16640 (by norm_num)]
  have : head s v (ix2 r d) = ∑ j : Fin 16640, normed (weights s (rowMax s)) (ix2 r j) * values v (ix2 j d) := by
    unfold head
    generalize normed (weights s (rowMax s)) = a
    generalize values v = b
    pointwise
  rw [this]
  exact Finset.sum_congr rfl fun j _ => by simp only [normed_apply, hw, values_apply]

/-- The scores of one head. -/
def scores (q : FVec Ideal S128x16384 .bf16) (k : Kt) : FVec Ideal S16384x16640 .f32 :=
  Host.dotGeneral dot_S16384x128_S128x16640_S16384x16640_1_0_0_1_n_n none
    (transpose S16384x128 [1, 0] (extf .f32 q bitsLt_bf16_f32) transposes_S128x16384_S16384x128_1_0)
    (transpose S128x16640 [1, 0] (extf .f32 k bitsLt_bf16_f32) transposes_S16640x128_S128x16640_1_0)

theorem scores_apply (q : Qt) (k : Kt) (qh : FVec Ideal S128x16384 .bf16) (h : Fin 4)
    (hq : ∀ t r, qh (ix2 t r) = q (ix3 h t ⟨r.val, lt_trans r.isLt (by norm_num)⟩)) (r : Fin 16384) (j : Fin 16640) :
    scores qh k (ix2 r j) = score q k h r j.val := by
  have : scores qh k (ix2 r j) = ∑ t : Fin 128, qh (ix2 t r) * k (ix2 j t) := by
    pointwise [scores]
  rw [this]
  unfold score
  refine Finset.sum_congr rfl fun t _ => ?_
  rw [hq, mul_comm]
  congr 3
  exact Fin.ext (Nat.mod_eq_of_lt j.isLt).symm

theorem head_attn (q : Qt) (k : Kt) (v0 v1 : Vt) (hf : Fins q k) (qh : FVec Ideal S128x16384 .bf16) (h : Fin 4)
    (hq : ∀ t r, qh (ix2 t r) = q (ix3 h t ⟨r.val, lt_trans r.isLt (by norm_num)⟩)) (r : Fin 16384) (d : Fin 64) :
    head (scores qh k) (if h.val < 2 then v0 else v1) (ix2 r d) = attn q k v0 v1 h r d :=
  head_apply _ _ r d (sR q k h r) fun j => by rw [scores_apply q k qh h hq, score_eq q k hf]

theorem h0 (q : Qt) (k : Kt) (v0 : Vt) : val_main_v21 (F := Ideal) q k v0 = head (scores (val_main_v2 (F := Ideal) q) k) v0 := rfl
theorem h1 (q : Qt) (k : Kt) (v0 : Vt) : val_main_v42 (F := Ideal) q k v0 = head (scores (val_main_v23 (F := Ideal) q) k) v0 := rfl
theorem h2 (q : Qt) (k : Kt) (v1 : Vt) : val_main_v63 (F := Ideal) q k v1 = head (scores (val_main_v44 (F := Ideal) q) k) v1 := rfl
theorem h3 (q : Qt) (k : Kt) (v1 : Vt) : val_main_v84 (F := Ideal) q k v1 = head (scores (val_main_v65 (F := Ideal) q) k) v1 := rfl

theorem q0 (q : Qt) (t : Fin 128) (r : Fin 16384) : val_main_v2 (F := Ideal) q (ix2 t r) = q (ix3 0 t ⟨r.val, lt_trans r.isLt (by norm_num)⟩) := by
  pointwise [val_main_v2, val_main_v1]
theorem q1 (q : Qt) (t : Fin 128) (r : Fin 16384) : val_main_v23 (F := Ideal) q (ix2 t r) = q (ix3 1 t ⟨r.val, lt_trans r.isLt (by norm_num)⟩) := by
  pointwise [val_main_v23, val_main_v22]
theorem q2 (q : Qt) (t : Fin 128) (r : Fin 16384) : val_main_v44 (F := Ideal) q (ix2 t r) = q (ix3 2 t ⟨r.val, lt_trans r.isLt (by norm_num)⟩) := by
  pointwise [val_main_v44, val_main_v43]
theorem q3 (q : Qt) (t : Fin 128) (r : Fin 16384) : val_main_v65 (F := Ideal) q (ix2 t r) = q (ix3 3 t ⟨r.val, lt_trans r.isLt (by norm_num)⟩) := by
  pointwise [val_main_v65, val_main_v64]

/-- The reference's result, element by element. -/
theorem result (q : Qt) (k : Kt) (v0 v1 : Vt) (hf : Fins q k) (r : Fin 16384) (l : Fin 256) :
    val_main_v85 (F := Ideal) q k v0 v1 (ix2 r l) = attn q k v0 v1 ⟨l.val / 64, by omega⟩ r ⟨l.val % 64, Nat.mod_lt _ (by norm_num)⟩ := by
  have e0 : ∀ d, head (scores (val_main_v2 (F := Ideal) q) k) v0 (ix2 r d) = _ := head_attn q k v0 v1 hf _ 0 (q0 q) r
  have e1 : ∀ d, head (scores (val_main_v23 (F := Ideal) q) k) v0 (ix2 r d) = _ := head_attn q k v0 v1 hf _ 1 (q1 q) r
  have e2 : ∀ d, head (scores (val_main_v44 (F := Ideal) q) k) v1 (ix2 r d) = _ := head_attn q k v0 v1 hf _ 2 (q2 q) r
  have e3 : ∀ d, head (scores (val_main_v65 (F := Ideal) q) k) v1 (ix2 r d) = _ := head_attn q k v0 v1 hf _ 3 (q3 q) r
  have hl := l.isLt
  have st : ∀ (h : Fin 4) (d : Fin 64), l.val / 64 = h.val → l.val % 64 = d.val →
      attn q k v0 v1 h r d = attn q k v0 v1 ⟨l.val / 64, by omega⟩ r ⟨l.val % 64, Nat.mod_lt _ (by norm_num)⟩ := fun h d hh hd => by
    rw [show h = (⟨l.val / 64, by omega⟩ : Fin 4) from Fin.ext hh.symm, show d = (⟨l.val % 64, Nat.mod_lt _ (by norm_num)⟩ : Fin 64) from Fin.ext hd.symm]
  unfold val_main_v85
  rw [h0, h1, h2, h3]
  generalize head (scores (val_main_v2 (F := Ideal) q) k) v0 = a0 at *
  generalize head (scores (val_main_v23 (F := Ideal) q) k) v0 = a1 at *
  generalize head (scores (val_main_v44 (F := Ideal) q) k) v1 = a2 at *
  generalize head (scores (val_main_v65 (F := Ideal) q) k) v1 = a3 at *
  pointwise
  by_cases c0 : l.val < 64
  · rw [dif_pos c0]
    exact (e0 ⟨l.val, c0⟩).trans (st 0 _ (by show l.val / 64 = 0; omega) (by show l.val % 64 = l.val; omega))
  rw [dif_neg c0]
  by_cases c1 : l.val - 64 < 64
  · rw [dif_pos c1]
    exact (e1 ⟨l.val - 64, c1⟩).trans (st 1 _ (by show l.val / 64 = 1; omega) (by show l.val % 64 = l.val - 64; omega))
  rw [dif_neg c1]
  by_cases c2 : l.val - 64 - 64 < 64
  · rw [dif_pos c2]
    exact (e2 ⟨l.val - 64 - 64, c2⟩).trans (st 2 _ (by show l.val / 64 = 2; omega) (by show l.val % 64 = l.val - 64 - 64; omega))
  rw [dif_neg c2]
  exact (e3 ⟨l.val - 64 - 64 - 64, by omega⟩).trans
    (st 3 _ (by show l.val / 64 = 3; omega) (by show l.val % 64 = l.val - 64 - 64 - 64; omega))

theorem result_eq (q : Qt) (k : Kt) (v0 v1 : Vt) (hf : Fins q k) : val_main_v85 (F := Ideal) q k v0 v1 = attnAt q k v0 v1 := by
  funext i
  have e : i = ix2 ⟨(i 0).val, (i 0).isLt⟩ ⟨(i 1).val, (i 1).isLt⟩ := by
    funext a
    match a with
    | ⟨0, _⟩ => rfl
    | ⟨1, _⟩ => rfl
  exact (congrArg (val_main_v85 (F := Ideal) q k v0 v1) e).trans (result q k v0 v1 hf _ _)

end Cert.ReferenceIdeal.RefVal

end
-- ==== Proof.PreRead.lean ====
/-
  The precondition's shape relations, and what it says: the queries that are used and the keys are finite, and row 64 of
  the values holds ones.
-/
module

public import proofs.«01_k».proof.Pre_finite_scores_and_ones
public import proofs.«01_k».proof.Proof.Attn
public import Idealize.ShloMosaic.Lib.ReduceAll
public import Idealize.ShloMosaic.Lib.Decide
public import Idealize.ShloMosaic.Lib.ShapeFacts

@[expose] public section

set_option maxRecDepth 16384

noncomputable section

namespace Cert.Pre_finite_scores_and_ones

open Idealize.ShloMosaic Cert.Online

instance facts : Facts where
  slices_S4x128x16640_S4x128x16384_0_0_0 := by decide
  bitsLt_bf16_f32 := by decide
  bcast_S_S4x128x16384 := by decide
  reducesTo_S4x128x16384_S_d0_1_2 := by decide
  h_S_ := by decide
  bcast_S_S16640x128 := by decide
  reducesTo_S16640x128_S_d0_1 := by decide
  slices_S65x80x256_S65x1x256_0_64_0 := by decide
  shapeCasts_S65x1x256_S65x256 := by decide +kernel
  bcast_S_S65x256 := by decide
  reducesTo_S65x256_S_d0_1 := by decide

instance : Subsingleton S_.Idx := ⟨fun _ _ => funext fun a => a.elim0⟩

theorem finite_of_abs_lt (x : EReal) (h : max x (-x) < ⊤) : ∃ r : ℝ, x = (r : EReal) := by
  induction x using EReal.rec with
  | bot => simp at h
  | coe r => exact ⟨r, rfl⟩
  | top => simp at h

theorem of_ofBool {p : Prop} [Decidable p] (h : BitVec.ofBool (decide p) = 1#1) : p := by
  by_contra hp
  rw [decide_eq_false hp] at h
  exact absurd h (by decide)

theorem ofBits_inf : Ideal.ofBits .f32 0x7F800000#32 = ⊤ := by simp [Ideal.ofBits, Ideal.ieee]

theorem read (q : Qt) (k : Kt) (v0 v1 : Vt) (h : fn (F := Ideal) q k v0 v1 = fun _ => 1#1) : Fins q k ∧ Ones v0 ∧ Ones v1 := by
  have h0 := congrFun h (fun a => a.elim0)
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨⟨fun h t r => ?_, fun j t => ?_⟩, fun b a => ?_, fun b a => ?_⟩
  · have e := Host.reduce_andi_all _ _ _ _ _ h1 (ix3 h t r)
    pointwise at e
    exact finite_of_abs_lt _ (ofBits_inf ▸ of_ofBool e)
  · have e := Host.reduce_andi_all _ _ _ _ _ h2 (ix2 j t)
    pointwise at e
    exact finite_of_abs_lt _ (ofBits_inf ▸ of_ofBool e)
  · have e := Host.reduce_andi_all _ _ _ _ _ h3 (ix2 b a)
    pointwise at e
    exact of_ofBool e
  · have e := Host.reduce_andi_all _ _ _ _ _ h4 (ix2 b a)
    pointwise at e
    exact of_ofBool e

end Cert.Pre_finite_scores_and_ones

end
-- ==== Proof.Ffn.lean ====
/-
  The gated feed-forward of one row: a convolution over three rows of the up projection, the gate, the down projection, the
  residual and the layer norm.
-/
module

public import Idealize.ShloMosaic.PureOps.Ideal.Laws
public import Idealize.ShloMosaic.Lib.Pointwise
public import Idealize.ShloMosaic.Lib.Pointwise.IndexBridge

@[expose] public section

noncomputable section

namespace Cert.Ffn

open Idealize.ShloMosaic

abbrev Ht := FVec Ideal (⟨2, ![16640, 1024]⟩ : Shape) .bf16
abbrev Xt := FVec Ideal (⟨2, ![16640, 1024]⟩ : Shape) .f32
abbrev Gt := FVec Ideal (⟨3, ![2, 1, 1024]⟩ : Shape) .f32
abbrev Ut := FVec Ideal (⟨2, ![1024, 5632]⟩ : Shape) .bf16
abbrev Ct := FVec Ideal (⟨2, ![3, 5632]⟩ : Shape) .f32
abbrev Bt := FVec Ideal (⟨2, ![1, 5632]⟩ : Shape) .f32
abbrev Dt := FVec Ideal (⟨2, ![2816, 1024]⟩ : Shape) .bf16
abbrev Lt := FVec Ideal (⟨2, ![1, 1024]⟩ : Shape) .f32

/-- Column `j` of the convolution, from the row before `p`, the row itself `q` and the row after `n`. -/
def conv (cw : Ct) (cb : Bt) (p q n : Fin 5632 → EReal) (j : Fin 5632) : EReal :=
  cw (ix2 0 j) * p j + cw (ix2 1 j) * q j + cw (ix2 2 j) * n j + cb (ix2 0 j)

/-- A number gated by its own sigmoid. -/
def silu (y : EReal) : EReal := y * Ideal.div 1 (1 + Ideal.exp (-y))

/-- Column `j` of the gated activation. -/
def act (cw : Ct) (cb : Bt) (p q n : Fin 5632 → EReal) (j : Fin 2816) : EReal :=
  silu (conv cw cb p q n ⟨j.val, by omega⟩) * conv cw cb p q n ⟨2816 + j.val, by omega⟩

/-- Column `d` of the row before the norm: the residual, scaled, and the gated product of the activation. -/
def lin (cw : Ct) (cb : Bt) (wd : Dt) (p q n : Fin 5632 → EReal) (x g : Fin 1024 → EReal) (d : Fin 1024) : EReal :=
  Ideal.ofBits .f32 0x3FB504F3#32 * x d + g d * ∑ j : Fin 2816, act cw cb p q n j * wd (ix2 j d)

/-- The mean of a row. -/
def mean (f : Fin 1024 → EReal) : EReal := Ideal.div (∑ k : Fin 1024, f k) (Ideal.ofBits .f32 0x44800000#32)

/-- The layer norm of a row. -/
def norm (lg lb : Lt) (f : Fin 1024 → EReal) (d : Fin 1024) : EReal :=
  (f d - mean f) * Ideal.rsqrt (mean (fun k => (f k - mean f) * (f k - mean f)) + Ideal.ofBits .f32 0x358637BD#32) * lg (ix2 0 d) + lb (ix2 0 d)

/-- Row `r` of the up projection. -/
def up (h : Ht) (wu : Ut) (r : ℕ) (j : Fin 5632) : EReal :=
  ∑ k : Fin 1024, h (ix2 ⟨r % 16640, Nat.mod_lt _ (by norm_num)⟩ k) * wu (ix2 k j)

/-- The row before row `r` of its sequence; the latent tokens and the context are two sequences. -/
def before (h : Ht) (wu : Ut) (r : ℕ) (j : Fin 5632) : EReal := if r = 0 ∨ r = 16384 then 0 else up h wu (r - 1) j

/-- The row after row `r` of its sequence. -/
def after (h : Ht) (wu : Ut) (r : ℕ) (j : Fin 5632) : EReal := if r = 16383 ∨ r = 16639 then 0 else up h wu (r + 1) j

/-- The gate of row `r`, one for the latent tokens and one for the context. -/
def gate (g2 : Gt) (r : ℕ) (d : Fin 1024) : EReal := g2 (ix3 (if r < 16384 then 0 else 1) 0 d)

/-- The rows after the feed-forward and the norm. -/
def ffn (h : Ht) (x1 : Xt) (g2 : Gt) (wu : Ut) (cw : Ct) (cb : Bt) (wd : Dt) (lg lb : Lt) (r : Fin 16640) (d : Fin 1024) : EReal :=
  norm lg lb (lin cw cb wd (before h wu r.val) (up h wu r.val) (after h wu r.val) (fun k => x1 (ix2 r k)) (gate g2 r.val)) d

/-- The same by index. -/
def ffnAt (h : Ht) (x1 : Xt) (g2 : Gt) (wu : Ut) (cw : Ct) (cb : Bt) (wd : Dt) (lg lb : Lt) (i : (⟨2, ![16640, 1024]⟩ : Shape).Idx) : EReal :=
  ffn h x1 g2 wu cw cb wd lg lb ⟨(i 0).val, (i 0).isLt⟩ ⟨(i 1).val, (i 1).isLt⟩

/-! ## The last layer's call, which has the latent rows alone -/

abbrev Hl := FVec Ideal (⟨2, ![16384, 1024]⟩ : Shape) .bf16
abbrev Xl := FVec Ideal (⟨2, ![16384, 1024]⟩ : Shape) .f32

/-- The latent rows with zero rows in the context's place; no latent row looks at those. -/
def pad (h : Hl) : Ht := fun i => if hi : (i 0).val < 16384 then h (ix2 ⟨(i 0).val, hi⟩ ⟨(i 1).val, (i 1).isLt⟩) else 0

theorem pad_apply (h : Hl) (r : Fin 16640) (k : Fin 1024) (hr : r.val < 16384) : pad h (ix2 r k) = h (ix2 ⟨r.val, hr⟩ k) := dif_pos hr

/-- The latent rows after the feed-forward and the norm. -/
def last (h : Hl) (x1 : Xl) (g2 : Gt) (wu : Ut) (cw : Ct) (cb : Bt) (wd : Dt) (lg lb : Lt) (r : Fin 16384) (d : Fin 1024) : EReal :=
  norm lg lb (lin cw cb wd (before (pad h) wu r.val) (up (pad h) wu r.val) (after (pad h) wu r.val) (fun k => x1 (ix2 r k)) (fun k => g2 (ix3 0 0 k))) d

/-- The same by index. -/
def lastAt (h : Hl) (x1 : Xl) (g2 : Gt) (wu : Ut) (cw : Ct) (cb : Bt) (wd : Dt) (lg lb : Lt) (i : (⟨2, ![16384, 1024]⟩ : Shape).Idx) : EReal :=
  last h x1 g2 wu cw cb wd lg lb ⟨(i 0).val, (i 0).isLt⟩ ⟨(i 1).val, (i 1).isLt⟩

/-- A sum over the first `n + w` numbers, its last `w` apart. -/
theorem sum_tail (g : ℕ → EReal) (n w : ℕ) : ∑ j ∈ Finset.range (n + w), g j = ∑ j ∈ Finset.range n, g j + ∑ j : Fin w, g (n + j.val) := by
  rw [Finset.sum_range_add, Fin.sum_univ_eq_sum_range (fun j => g (n + j))]

/-- A sum over the columns, chunk after chunk. -/
theorem sum_chunks (g : ℕ → EReal) :
    (((((∑ j : Fin 512, g (0 + j.val)) + ∑ j : Fin 512, g (512 + j.val)) + ∑ j : Fin 512, g (1024 + j.val)) + ∑ j : Fin 512, g (1536 + j.val))
      + ∑ j : Fin 512, g (2048 + j.val)) + ∑ j : Fin 256, g (2560 + j.val) = ∑ j : Fin 2816, g j.val := by
  rw [Fin.sum_univ_eq_sum_range g, show 2816 = 2560 + 256 from rfl, sum_tail, show 2560 = 2048 + 512 from rfl, sum_tail,
    show 2048 = 1536 + 512 from rfl, sum_tail, show 1536 = 1024 + 512 from rfl, sum_tail, show 1024 = 512 + 512 from rfl, sum_tail,
    Fin.sum_univ_eq_sum_range (fun j => g (0 + j))]
  simp only [Nat.zero_add]

end Cert.Ffn

end
-- ==== Proof.FfnIdx.lean ====
/-
  The feed-forward body's block, read row by row: its chunks of columns as one sum, and the norm.
-/
module

public import proofs.«01_k».proof.Proof.Gen.Kernel2Ideal.Value
public import proofs.«01_k».proof.Proof.Ffn

@[expose] public section

set_option maxRecDepth 16384
set_option backward.proofsInPublic true

noncomputable section

namespace Cert.Kernel2Ideal.Idx

open Cert.Kernel2Ideal Cert.Kernel2Ideal.Gen

open Idealize.ShloMosaic

/-- The convolution over three rows of a chunk of 512 columns. -/
def conv (u : FVec Ideal S288x512 .f32) (cw : FVec Ideal S3x512 .f32) (cb : FVec Ideal S1x512 .f32) : FVec Ideal S256x512 .f32 :=
  addf (addf (addf
      (mulf (broadcastTo S256x512 (extractStridedSlice S1x512 ![0, 0] cw slices_S3x512_o0_0_S1x512) broadcasts_S1x512_S256x512)
        (extractStridedSlice S256x512 ![16, 0] (dynamicRotate 0 1#32 none u rotates_S288x512_d0) slices_S288x512_o16_0_S256x512))
      (mulf (broadcastTo S256x512 (extractStridedSlice S1x512 ![1, 0] cw slices_S3x512_o1_0_S1x512) broadcasts_S1x512_S256x512)
        (extractStridedSlice S256x512 ![16, 0] u slices_S288x512_o16_0_S256x512)))
      (mulf (broadcastTo S256x512 (extractStridedSlice S1x512 ![2, 0] cw slices_S3x512_o2_0_S1x512) broadcasts_S1x512_S256x512)
        (extractStridedSlice S256x512 ![16, 0] (dynamicRotate 0 287#32 none u rotates_S288x512_d0) slices_S288x512_o16_0_S256x512)))
    (broadcastTo S256x512 cb broadcasts_S1x512_S256x512)

/-- The gate of a chunk. -/
def silu (y : FVec Ideal S256x512 .f32) : FVec Ideal S256x512 .f32 :=
  mulf y (divf (broadcast S256x512 (Scalar.ofBits .f32 0x3F800000#32)) (addf (broadcast S256x512 (Scalar.ofBits .f32 0x3F800000#32))
    (exp (subf (broadcast S256x512 (Scalar.ofBits .f32 0x00000000#32)) y))))

/-- A chunk's product added to the sum so far, from the gate and the value of its columns. -/
def down (acc : FVec Ideal S256x1024 .f32) (g v : FVec Ideal S256x512 .f32) (wd : FVec Ideal S512x1024 .bf16) : FVec Ideal S256x1024 .f32 :=
  addf acc (matmul dot_S256x512_S512x1024_S256x1024_1_0_0_1_n_n none (truncf .bf16 (mulf (silu g) v) bitsLt_bf16_f32) wd
    (constant S256x1024 .f32 0x00000000#32))

theorem conv_apply (u : FVec Ideal S288x512 .f32) (cw : FVec Ideal S3x512 .f32) (cb : FVec Ideal S1x512 .f32) (r : Fin 256) (j : Fin 512)
    (p q n : Fin 288) (hp : p.val = r.val + 15) (hq : q.val = r.val + 16) (hn : n.val = r.val + 17) :
    conv u cw cb (ix2 r j) = (cw (ix2 0 j) : EReal) * u (ix2 p j) + cw (ix2 1 j) * u (ix2 q j) + cw (ix2 2 j) * u (ix2 n j) + cb (ix2 0 j) := by
  have hr := r.isLt
  have hb : 16 + r.val < 288 := by clear hp hq hn; omega
  obtain rfl : p = ⟨(16 + r.val + 288 - 1) % 288, Nat.mod_lt _ (by norm_num)⟩ := Fin.ext (by show p.val = (16 + r.val + 288 - 1) % 288; omega)
  obtain rfl : q = ⟨16 + r.val, hb⟩ := Fin.ext (by show q.val = 16 + r.val; omega)
  obtain rfl : n = ⟨(16 + r.val + 288 - 287) % 288, Nat.mod_lt _ (by norm_num)⟩ := Fin.ext (by show n.val = (16 + r.val + 288 - 287) % 288; omega)
  pointwise [conv]

theorem down_apply (acc : FVec Ideal S256x1024 .f32) (g v : FVec Ideal S256x512 .f32) (wd : FVec Ideal S512x1024 .bf16) (r : Fin 256) (d : Fin 1024) :
    down acc g v wd (ix2 r d) = (acc (ix2 r d) : EReal) + ∑ j : Fin 512, Ffn.silu (g (ix2 r j)) * v (ix2 r j) * wd (ix2 j d) := by
  unfold Ffn.silu
  simp only [← zero_sub]
  pointwise [down, silu]

theorem pay12 (acc u0 u1 c0 b0 c1 b1 wd) : k0_pay12 acc (k0_pay10 u0 c0 b0) (k0_pay11 u1 c1 b1) wd = down acc (conv u0 c0 b0) (conv u1 c1 b1) wd := rfl
theorem pay17 (acc u0 u1 c0 b0 c1 b1 wd) : k0_pay17 u1 acc (k0_pay15 u0 c0 b0) c1 (k0_pay16 u1) b1 wd = down acc (conv u0 c0 b0) (conv u1 c1 b1) wd := rfl
theorem pay21 (acc u0 u1 c0 b0 c1 b1 wd) : k0_pay21 u1 acc (k0_pay20 u0 c0) b0 c1 b1 wd = down acc (conv u0 c0 b0) (conv u1 c1 b1) wd := rfl
theorem pay26 (acc u0 u1 c0 b0 c1 b1 wd) : k0_pay26 acc (k0_pay24 u0 c0 b0) (k0_pay25 u1 c1) b1 wd = down acc (conv u0 c0 b0) (conv u1 c1 b1) wd := rfl
theorem pay30 (acc u0 u1 c0 b0 c1 b1 wd) : k0_pay30 u1 acc (k0_pay27 u0 c0 b0) c1 (k0_pay28 u1) (k0_pay29 u1 c1) b1 wd = down acc (conv u0 c0 b0) (conv u1 c1 b1) wd := rfl

/-- The last chunk's convolution, of 256 columns. -/
def conv' (u : FVec Ideal S288x256 .f32) (cw : FVec Ideal S3x256 .f32) (cb : FVec Ideal S1x256 .f32) : FVec Ideal S256x256 .f32 :=
  addf (addf (addf
      (mulf (broadcastTo S256x256 (extractStridedSlice S1x256 ![0, 0] cw slices_S3x256_o0_0_S1x256) broadcasts_S1x256_S256x256)
        (extractStridedSlice S256x256 ![16, 0] (dynamicRotate 0 1#32 none u rotates_S288x256_d0) slices_S288x256_o16_0_S256x256))
      (mulf (broadcastTo S256x256 (extractStridedSlice S1x256 ![1, 0] cw slices_S3x256_o1_0_S1x256) broadcasts_S1x256_S256x256)
        (extractStridedSlice S256x256 ![16, 0] u slices_S288x256_o16_0_S256x256)))
      (mulf (broadcastTo S256x256 (extractStridedSlice S1x256 ![2, 0] cw slices_S3x256_o2_0_S1x256) broadcasts_S1x256_S256x256)
        (extractStridedSlice S256x256 ![16, 0] (dynamicRotate 0 287#32 none u rotates_S288x256_d0) slices_S288x256_o16_0_S256x256)))
    (broadcastTo S256x256 cb broadcasts_S1x256_S256x256)

theorem conv'_apply (u : FVec Ideal S288x256 .f32) (cw : FVec Ideal S3x256 .f32) (cb : FVec Ideal S1x256 .f32) (r j : Fin 256)
    (p q n : Fin 288) (hp : p.val = r.val + 15) (hq : q.val = r.val + 16) (hn : n.val = r.val + 17) :
    conv' u cw cb (ix2 r j) = (cw (ix2 0 j) : EReal) * u (ix2 p j) + cw (ix2 1 j) * u (ix2 q j) + cw (ix2 2 j) * u (ix2 n j) + cb (ix2 0 j) := by
  have hr := r.isLt
  have hb : 16 + r.val < 288 := by clear hp hq hn; omega
  obtain rfl : p = ⟨(16 + r.val + 288 - 1) % 288, Nat.mod_lt _ (by norm_num)⟩ := Fin.ext (by show p.val = (16 + r.val + 288 - 1) % 288; omega)
  obtain rfl : q = ⟨16 + r.val, hb⟩ := Fin.ext (by show q.val = 16 + r.val; omega)
  obtain rfl : n = ⟨(16 + r.val + 288 - 287) % 288, Nat.mod_lt _ (by norm_num)⟩ := Fin.ext (by show n.val = (16 + r.val + 288 - 287) % 288; omega)
  pointwise [conv']

/-- What follows the last chunk's convolutions: its product, the residual and the gate. -/
def fin' (acc : FVec Ideal S256x1024 .f32) (g v : FVec Ideal S256x256 .f32) (wd : FVec Ideal S256x1024 .bf16) (x1 : FVec Ideal S256x1024 .f32)
    (g2 : FVec Ideal S1x1x1024 .f32) : FVec Ideal S256x1024 .f32 :=
  addf (mulf (broadcast S256x1024 (Scalar.ofBits .f32 0x3FB504F3#32)) x1)
    (mulf (broadcastTo S256x1024 (shapeCast S1x1024 g2 shapeCasts_S1x1x1024_S1x1024) broadcasts_S1x1024_S256x1024)
      (addf acc (matmul dot_S256x256_S256x1024_S256x1024_1_0_0_1_n_n none
        (truncf .bf16 (mulf (mulf g (divf (broadcast S256x256 (Scalar.ofBits .f32 0x3F800000#32)) (addf (broadcast S256x256 (Scalar.ofBits .f32 0x3F800000#32))
          (exp (subf (broadcast S256x256 (Scalar.ofBits .f32 0x00000000#32)) g))))) v) bitsLt_bf16_f32) wd (constant S256x1024 .f32 0x00000000#32))))

theorem fin'_apply (acc : FVec Ideal S256x1024 .f32) (g v : FVec Ideal S256x256 .f32) (wd : FVec Ideal S256x1024 .bf16) (x1 : FVec Ideal S256x1024 .f32)
    (g2 : FVec Ideal S1x1x1024 .f32) (r : Fin 256) (d : Fin 1024) :
    fin' acc g v wd x1 g2 (ix2 r d) = Ideal.ofBits .f32 0x3FB504F3#32 * x1 (ix2 r d)
      + g2 (ix3 0 0 d) * (acc (ix2 r d) + ∑ j : Fin 256, Ffn.silu (g (ix2 r j)) * v (ix2 r j) * wd (ix2 j d)) := by
  unfold Ffn.silu
  simp only [← zero_sub]
  pointwise [fin']

theorem pay32 (acc u0 u1 c0 b0 c1 b1 wd x1 g2) : k0_pay32 u1 acc (k0_pay31 u0 c0 b0) c1 b1 wd x1 g2 = fin' acc (conv' u0 c0 b0) (conv' u1 c1 b1) wd x1 g2 := rfl

theorem pay33_apply (u : FVec Ideal S288x256 .f32) (acc : FVec Ideal S256x1024 .f32) (g : FVec Ideal S256x256 .f32) (c : FVec Ideal S3x256 .f32) (b : FVec Ideal S1x256 .f32)
    (wd : FVec Ideal S256x1024 .bf16) (x1 : FVec Ideal S256x1024 .f32) (g2 : FVec Ideal S1x1x1024 .f32) (r : Fin 256) (d : Fin 1024) :
    k0_pay33 (F := Ideal) u acc g c b wd x1 g2 (ix2 r d) = Ffn.mean fun k => k0_pay32 (F := Ideal) u acc g c b wd x1 g2 (ix2 r k) := by
  unfold k0_pay33 Ffn.mean
  generalize k0_pay32 (F := Ideal) u acc g c b wd x1 g2 = x
  pointwise []

theorem pay1_apply (x m : FVec Ideal S256x1024 .f32) (lg lb : FVec Ideal S1x1024 .f32) (r : Fin 256) (d : Fin 1024)
    (hm : ∀ k, m (ix2 r k) = Ffn.mean fun k => x (ix2 r k)) :
    k0_pay1 (F := Ideal) x lg lb m (ix2 r d) = Ffn.norm lg lb (fun k => x (ix2 r k)) d := by
  unfold Ffn.norm
  pointwise [k0_pay1]
  simp only [hm, Ffn.mean]

/-- Row `a` of a block's columns of the up projection, halo included. -/
def row (e : FVec Ideal S288x1024 .bf16) (wu : Ffn.Ut) (a : Fin 288) (j : Fin 5632) : EReal := ∑ k : Fin 1024, e (ix2 a k) * wu (ix2 k j)

/-- A column of the activation at block row `r`, by number. -/
def actN (U : Fin 288 → Fin 5632 → EReal) (cw : Ffn.Ct) (cb : Ffn.Bt) (wd : Ffn.Dt) (r : Fin 256) (d : Fin 1024) (j : ℕ) : EReal :=
  if h : j < 2816 then Ffn.act cw cb (U ⟨r.val + 15, by omega⟩) (U ⟨r.val + 16, by omega⟩) (U ⟨r.val + 17, by omega⟩) ⟨j, h⟩ * wd (ix2 ⟨j, h⟩ d) else 0

/-- One chunk of 512 columns from column `o`, as a part of the whole sum. -/
theorem chunk (U : Fin 288 → Fin 5632 → EReal) (cw : Ffn.Ct) (cb : Ffn.Bt) (wd : Ffn.Dt) (o : ℕ) (ho : o + 512 ≤ 2816)
    (acc : FVec Ideal S256x1024 .f32) (u0 u1 : FVec Ideal S288x512 .f32) (c0 c1 : FVec Ideal S3x512 .f32) (b0 b1 : FVec Ideal S1x512 .f32)
    (w : FVec Ideal S512x1024 .bf16)
    (hu0 : ∀ a j, u0 (ix2 a j) = U a ⟨o + j.val, by omega⟩) (hu1 : ∀ a j, u1 (ix2 a j) = U a ⟨2816 + o + j.val, by omega⟩)
    (hc0 : ∀ a j, c0 (ix2 a j) = cw (ix2 a ⟨o + j.val, by omega⟩)) (hc1 : ∀ a j, c1 (ix2 a j) = cw (ix2 a ⟨2816 + o + j.val, by omega⟩))
    (hb0 : ∀ j, b0 (ix2 0 j) = cb (ix2 0 ⟨o + j.val, by omega⟩)) (hb1 : ∀ j, b1 (ix2 0 j) = cb (ix2 0 ⟨2816 + o + j.val, by omega⟩))
    (hw : ∀ j d, w (ix2 j d) = wd (ix2 ⟨o + j.val, by omega⟩ d)) (r : Fin 256) (d : Fin 1024) :
    down acc (conv u0 c0 b0) (conv u1 c1 b1) w (ix2 r d) = (acc (ix2 r d) : EReal) + ∑ j : Fin 512, actN U cw cb wd r d (o + j.val) := by
  rw [down_apply]
  refine congrArg _ (Finset.sum_congr rfl fun j _ => ?_)
  have hj := j.isLt
  unfold actN Ffn.act Ffn.conv
  rw [dif_pos (by omega), conv_apply u0 c0 b0 r j ⟨r.val + 15, by omega⟩ ⟨r.val + 16, by omega⟩ ⟨r.val + 17, by omega⟩ rfl rfl rfl,
    conv_apply u1 c1 b1 r j ⟨r.val + 15, by omega⟩ ⟨r.val + 16, by omega⟩ ⟨r.val + 17, by omega⟩ rfl rfl rfl]
  simp only [hu0, hu1, hc0, hc1, hb0, hb1, hw, Nat.add_assoc]

/-- The last chunk, from column 2560, and what follows it. -/
theorem chunk' (U : Fin 288 → Fin 5632 → EReal) (cw : Ffn.Ct) (cb : Ffn.Bt) (wd : Ffn.Dt)
    (acc : FVec Ideal S256x1024 .f32) (u0 u1 : FVec Ideal S288x256 .f32) (c0 c1 : FVec Ideal S3x256 .f32) (b0 b1 : FVec Ideal S1x256 .f32)
    (w : FVec Ideal S256x1024 .bf16) (x1 : FVec Ideal S256x1024 .f32) (g2 : FVec Ideal S1x1x1024 .f32)
    (hu0 : ∀ a j, u0 (ix2 a j) = U a ⟨2560 + j.val, by omega⟩) (hu1 : ∀ a j, u1 (ix2 a j) = U a ⟨5376 + j.val, by omega⟩)
    (hc0 : ∀ a j, c0 (ix2 a j) = cw (ix2 a ⟨2560 + j.val, by omega⟩)) (hc1 : ∀ a j, c1 (ix2 a j) = cw (ix2 a ⟨5376 + j.val, by omega⟩))
    (hb0 : ∀ j, b0 (ix2 0 j) = cb (ix2 0 ⟨2560 + j.val, by omega⟩)) (hb1 : ∀ j, b1 (ix2 0 j) = cb (ix2 0 ⟨5376 + j.val, by omega⟩))
    (hw : ∀ j d, w (ix2 j d) = wd (ix2 ⟨2560 + j.val, by omega⟩ d)) (r : Fin 256) (d : Fin 1024) :
    fin' acc (conv' u0 c0 b0) (conv' u1 c1 b1) w x1 g2 (ix2 r d) = Ideal.ofBits .f32 0x3FB504F3#32 * x1 (ix2 r d)
      + g2 (ix3 0 0 d) * (acc (ix2 r d) + ∑ j : Fin 256, actN U cw cb wd r d (2560 + j.val)) := by
  rw [fin'_apply]
  refine congrArg (fun s => _ + _ * (_ + s)) (Finset.sum_congr rfl fun j _ => ?_)
  have hj := j.isLt
  unfold actN Ffn.act Ffn.conv
  rw [dif_pos (by omega), conv'_apply u0 c0 b0 r j ⟨r.val + 15, by omega⟩ ⟨r.val + 16, by omega⟩ ⟨r.val + 17, by omega⟩ rfl rfl rfl,
    conv'_apply u1 c1 b1 r j ⟨r.val + 15, by omega⟩ ⟨r.val + 16, by omega⟩ ⟨r.val + 17, by omega⟩ rfl rfl rfl]
  simp only [hu0, hu1, hc0, hc1, hb0, hb1, hw, ← Nat.add_assoc, Nat.reduceAdd]

section
variable (i : grid0.Coords) (x0 : FVec Ideal S256x1024 .bf16) (x1 x2 : FVec Ideal S16x1024 .bf16) (x3 : FVec Ideal S256x1024 .f32)
  (x4 : FVec Ideal S1x1x1024 .f32) (x5 : Ffn.Ut) (x6 : Ffn.Ct) (x7 : Ffn.Bt) (x8 : Ffn.Dt) (x9 x10 : Ffn.Lt)

/-- A block's rows with their halo. -/
def ext : FVec Ideal S288x1024 .bf16 := k0_pay2 (F := Ideal) i (View.ld x1 r0_0) (View.ld x2 r0_0) (View.ld x0 r0_1)

/-- The first five chunks. -/
theorem acc_apply (r : Fin 256) (d : Fin 1024) :
    k0_pay38 (F := Ideal) i x0 x1 x2 x3 x4 x5 x6 x7 x8 x9 x10 (ix2 r d)
      = ((((∑ j : Fin 512, actN (row (ext i x0 x1 x2) x5) x6 x7 x8 r d (0 + j.val))
        + ∑ j : Fin 512, actN (row (ext i x0 x1 x2) x5) x6 x7 x8 r d (512 + j.val))
        + ∑ j : Fin 512, actN (row (ext i x0 x1 x2) x5) x6 x7 x8 r d (1024 + j.val))
        + ∑ j : Fin 512, actN (row (ext i x0 x1 x2) x5) x6 x7 x8 r d (1536 + j.val))
        + ∑ j : Fin 512, actN (row (ext i x0 x1 x2) x5) x6 x7 x8 r d (2048 + j.val) := by
  unfold k0_pay38 k0_pay36 k0_pay35 k0_pay34
  rw [pay30, pay26, pay21, pay17, pay12]
  rw [chunk (row (ext i x0 x1 x2) x5) x6 x7 x8 2048 (by norm_num), chunk (row (ext i x0 x1 x2) x5) x6 x7 x8 1536 (by norm_num),
    chunk (row (ext i x0 x1 x2) x5) x6 x7 x8 1024 (by norm_num), chunk (row (ext i x0 x1 x2) x5) x6 x7 x8 512 (by norm_num),
    chunk (row (ext i x0 x1 x2) x5) x6 x7 x8 0 (by norm_num)]
  · have h0 : k0_pay3 (F := Ideal) (ix2 r d) = 0 := by pointwise [k0_pay3]
    rw [h0, zero_add]
  all_goals intros
  all_goals try unfold row ext
  all_goals pointwise [k0_pay4, k0_pay5, k0_pay6, k0_pay7, k0_pay8, k0_pay9, k0_pay13, k0_pay14, k0_pay18, k0_pay19]

/-- A block's row before the norm. -/
theorem lin_apply (r : Fin 256) (d : Fin 1024) :
    k0_pay32 (F := Ideal) (k0_pay37 i x0 x1 x2 x3 x4 x5 x6 x7 x8 x9 x10) (k0_pay38 i x0 x1 x2 x3 x4 x5 x6 x7 x8 x9 x10)
        (k0_pay39 i x0 x1 x2 x3 x4 x5 x6 x7 x8 x9 x10) (View.ld x6 r0_41) (View.ld x7 r0_42) (View.ld x8 r0_43) x3 x4 (ix2 r d)
      = Ffn.lin x6 x7 x8 (row (ext i x0 x1 x2) x5 ⟨r.val + 15, by omega⟩) (row (ext i x0 x1 x2) x5 ⟨r.val + 16, by omega⟩)
          (row (ext i x0 x1 x2) x5 ⟨r.val + 17, by omega⟩) (fun k => x3 (ix2 r k)) (fun k => x4 (ix3 0 0 k)) d := by
  unfold k0_pay37 k0_pay39 k0_pay34
  rw [pay32, chunk' (row (ext i x0 x1 x2) x5) x6 x7 x8, acc_apply, Ffn.sum_chunks]
  · unfold Ffn.lin
    rw [Finset.sum_congr rfl fun (j : Fin 2816) _ => show actN (row (ext i x0 x1 x2) x5) x6 x7 x8 r d j.val = _ from dif_pos j.isLt]
  all_goals intros
  all_goals try unfold row ext
  all_goals pointwise [k0_pay22, k0_pay23]

/-- A block's row after the norm. -/
theorem out_apply (r : Fin 256) (d : Fin 1024) :
    k0_pay1 (F := Ideal) (k0_pay32 (k0_pay37 i x0 x1 x2 x3 x4 x5 x6 x7 x8 x9 x10) (k0_pay38 i x0 x1 x2 x3 x4 x5 x6 x7 x8 x9 x10)
        (k0_pay39 i x0 x1 x2 x3 x4 x5 x6 x7 x8 x9 x10) (View.ld x6 r0_41) (View.ld x7 r0_42) (View.ld x8 r0_43) x3 x4)
        x9 x10
        (k0_pay33 (k0_pay37 i x0 x1 x2 x3 x4 x5 x6 x7 x8 x9 x10) (k0_pay38 i x0 x1 x2 x3 x4 x5 x6 x7 x8 x9 x10)
        (k0_pay39 i x0 x1 x2 x3 x4 x5 x6 x7 x8 x9 x10) (View.ld x6 r0_41) (View.ld x7 r0_42) (View.ld x8 r0_43) x3 x4) (ix2 r d)
      = Ffn.norm x9 x10 (Ffn.lin x6 x7 x8 (row (ext i x0 x1 x2) x5 ⟨r.val + 15, by omega⟩) (row (ext i x0 x1 x2) x5 ⟨r.val + 16, by omega⟩)
          (row (ext i x0 x1 x2) x5 ⟨r.val + 17, by omega⟩) (fun k => x3 (ix2 r k)) (fun k => x4 (ix3 0 0 k))) d := by
  rw [pay1_apply _ _ _ _ r d fun k => pay33_apply _ _ _ _ _ _ _ _ r k]
  simp only [lin_apply]

/-- A row of the block with its halo. -/
theorem ext_apply (a : Fin 288) (k : Fin 1024) :
    ext i x0 x1 x2 (ix2 a k) = if h : a.val < 16 then
        Scalar.select (Scalar.andi (Scalar.cmpi .ne (BitVec.ofNat 32 (i 0).val) 0#32) (Scalar.cmpi .ne (BitVec.ofNat 32 (i 0).val) 64#32)) (x1 (ix2 ⟨a.val, h⟩ k)) 0
      else if h : a.val - 16 < 256 then x0 (ix2 ⟨a.val - 16, h⟩ k)
      else Scalar.select (Scalar.andi (Scalar.cmpi .ne (BitVec.ofNat 32 (i 0).val) 63#32) (Scalar.cmpi .ne (BitVec.ofNat 32 (i 0).val) 64#32))
        (x2 (ix2 ⟨a.val - 16 - 256, by omega⟩ k)) 0 := by
  pointwise [ext, k0_pay2]

variable (h : Ffn.Ht) (t : ℕ) (ht : t < 65) (hx0 : ∀ (a : Fin 256) k, x0 (ix2 a k) = h (ix2 ⟨256 * t + a.val, by omega⟩ k))
include hx0

/-- The rows of the block itself. -/
theorem row_up (r : Fin 256) : row (ext i x0 x1 x2) x5 ⟨r.val + 16, by omega⟩ = Ffn.up h x5 (256 * t + r.val) := by
  funext j
  have hr := r.isLt
  unfold row Ffn.up
  refine Finset.sum_congr rfl fun k _ => congrArg (· * _) ?_
  rw [ext_apply, dif_neg (by show ¬ r.val + 16 < 16; omega), dif_pos (by show r.val + 16 - 16 < 256; omega), hx0]
  congr 2
  exact Fin.ext (by show 256 * t + (r.val + 16 - 16) = (256 * t + r.val) % 16640; omega)

/-- The row before each row of the block, zero at the start of a sequence. -/
theorem row_before (hx1 : ∀ (k : Fin 1024) (h0 : 0 < t), x1 (ix2 15 k) = h (ix2 ⟨256 * t - 1, by omega⟩ k))
    (hp : Scalar.andi (Scalar.cmpi .ne (BitVec.ofNat 32 (i 0).val) 0#32) (Scalar.cmpi .ne (BitVec.ofNat 32 (i 0).val) 64#32) = if t = 0 ∨ t = 64 then 0#1 else 1#1)
    (r : Fin 256) : row (ext i x0 x1 x2) x5 ⟨r.val + 15, by omega⟩ = Ffn.before h x5 (256 * t + r.val) := by
  funext j
  have hr := r.isLt
  unfold row Ffn.before Ffn.up
  by_cases hs : r.val = 0
  · have h15 : ∀ k, ext i x0 x1 x2 (ix2 (⟨r.val + 15, by omega⟩ : Fin 288) k) = if t = 0 ∨ t = 64 then 0 else x1 (ix2 15 k) := fun k => by
      rw [ext_apply, dif_pos (by show r.val + 15 < 16; omega), hp]
      have e : (⟨r.val + 15, by omega⟩ : Fin 16) = 15 := Fin.ext (by show r.val + 15 = 15; omega)
      split
      · rfl
      · exact congrArg (fun a => x1 (ix2 a k)) e
    simp only [h15]
    by_cases hz : t = 0 ∨ t = 64
    · rw [if_pos (by omega)]
      simp only [if_pos hz, zero_mul, Finset.sum_const_zero]
    · rw [if_neg (by omega)]
      refine Finset.sum_congr rfl fun k _ => congrArg (· * _) ?_
      rw [if_neg hz, hx1 k (by omega)]
      congr 2
      exact Fin.ext (by show 256 * t - 1 = (256 * t + r.val - 1) % 16640; omega)
  · rw [if_neg (by omega)]
    refine Finset.sum_congr rfl fun k _ => congrArg (· * _) ?_
    rw [ext_apply, dif_neg (by show ¬ r.val + 15 < 16; omega), dif_pos (by show r.val + 15 - 16 < 256; omega), hx0]
    congr 2
    exact Fin.ext (by show 256 * t + (r.val + 15 - 16) = (256 * t + r.val - 1) % 16640; omega)

/-- The row after each row of the block, zero at the end of a sequence. -/
theorem row_after (hx2 : ∀ (k : Fin 1024) (h0 : t < 63), x2 (ix2 0 k) = h (ix2 ⟨256 * t + 256, by omega⟩ k))
    (hp : Scalar.andi (Scalar.cmpi .ne (BitVec.ofNat 32 (i 0).val) 63#32) (Scalar.cmpi .ne (BitVec.ofNat 32 (i 0).val) 64#32) = if t = 63 ∨ t = 64 then 0#1 else 1#1)
    (r : Fin 256) : row (ext i x0 x1 x2) x5 ⟨r.val + 17, by omega⟩ = Ffn.after h x5 (256 * t + r.val) := by
  funext j
  have hr := r.isLt
  unfold row Ffn.after Ffn.up
  by_cases hs : r.val = 255
  · have h0 : ∀ k, ext i x0 x1 x2 (ix2 (⟨r.val + 17, by omega⟩ : Fin 288) k) = if t = 63 ∨ t = 64 then 0 else x2 (ix2 0 k) := fun k => by
      rw [ext_apply, dif_neg (by show ¬ r.val + 17 < 16; omega), dif_neg (by show ¬ r.val + 17 - 16 < 256; omega), hp]
      have e : (⟨r.val + 17 - 16 - 256, by omega⟩ : Fin 16) = 0 := Fin.ext (by show r.val + 17 - 16 - 256 = 0; omega)
      split
      · rfl
      · exact congrArg (fun a => x2 (ix2 a k)) e
    simp only [h0]
    by_cases hz : t = 63 ∨ t = 64
    · rw [if_pos (by omega)]
      simp only [if_pos hz, zero_mul, Finset.sum_const_zero]
    · rw [if_neg (by omega)]
      refine Finset.sum_congr rfl fun k _ => congrArg (· * _) ?_
      rw [if_neg hz, hx2 k (by omega)]
      congr 2
      exact Fin.ext (by show 256 * t + 256 = (256 * t + r.val + 1) % 16640; omega)
  · rw [if_neg (by omega)]
    refine Finset.sum_congr rfl fun k _ => congrArg (· * _) ?_
    rw [ext_apply, dif_neg (by show ¬ r.val + 17 < 16; omega), dif_pos (by show r.val + 17 - 16 < 256; omega), hx0]
    congr 2
    exact Fin.ext (by show 256 * t + (r.val + 17 - 16) = (256 * t + r.val + 1) % 16640; omega)

end

end Cert.Kernel2Ideal.Idx

end
-- ==== Proof.FfnFinal.lean ====
/-
  The feed-forward's array after the run: the rows after the feed-forward and the norm.
-/
module

public import proofs.«01_k».proof.Proof.FfnIdx
public import Idealize.ShloMosaic.Lib.Pipeline.ValueKit.Point

@[expose] public section

set_option maxRecDepth 16384
set_option backward.proofsInPublic true

noncomputable section

namespace Cert.Kernel2Ideal.Final

open Cert.Kernel2Ideal Cert.Kernel2Ideal.Gen Cert.Kernel2Ideal.Idx

open Idealize.ShloMosaic Idealize.ShloMosaic.TcCoe

theorem idx : ∀ t : Fin cfg0.N, win0_0.index t = ![t.val, 0] ∧ win0_1.index t = ![16 * t.val - 1, 0] ∧ win0_2.index t = ![min (16 * (t.val + 1)) 1039, 0]
    ∧ win0_3.index t = ![t.val, 0] ∧ win0_4.index t = ![if t.val < 64 then 0 else 1, 0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![t.val, 0] ∧ t.val < 65 :=
  (by decide +kernel : ∀ t : Fin grid0.N, _)

theorem halo : ∀ t : Fin cfg0.N,
    Scalar.andi (Scalar.cmpi .ne (BitVec.ofNat 32 (grid0.coords t 0).val) 0#32) (Scalar.cmpi .ne (BitVec.ofNat 32 (grid0.coords t 0).val) 64#32) = (if t.val = 0 ∨ t.val = 64 then 0#1 else 1#1)
    ∧ Scalar.andi (Scalar.cmpi .ne (BitVec.ofNat 32 (grid0.coords t 0).val) 63#32) (Scalar.cmpi .ne (BitVec.ofNat 32 (grid0.coords t 0).val) 64#32) = (if t.val = 63 ∨ t.val = 64 then 0#1 else 1#1) :=
  (by decide +kernel : ∀ t : Fin grid0.N, _)

variable (m : (ℓ : Loc nD τ sig) → Buf (Elt Ideal) ℓ)

theorem iblk5 (c : Dev nD) (t : Fin cfg0.N) : iblk m c 5 t = m ((c : Thread nD τ).loc main_arg3) := by blk_ext! [iblk, V, idx t]
theorem iblk6 (c : Dev nD) (t : Fin cfg0.N) : iblk m c 6 t = m ((c : Thread nD τ).loc main_arg4) := by blk_ext! [iblk, V, idx t]
theorem iblk7 (c : Dev nD) (t : Fin cfg0.N) : iblk m c 7 t = m ((c : Thread nD τ).loc main_arg5) := by blk_ext! [iblk, V, idx t]
theorem iblk8 (c : Dev nD) (t : Fin cfg0.N) : iblk m c 8 t = m ((c : Thread nD τ).loc main_arg6) := by blk_ext! [iblk, V, idx t]
theorem iblk9 (c : Dev nD) (t : Fin cfg0.N) : iblk m c 9 t = m ((c : Thread nD τ).loc main_arg7) := by blk_ext! [iblk, V, idx t]
theorem iblk10 (c : Dev nD) (t : Fin cfg0.N) : iblk m c 10 t = m ((c : Thread nD τ).loc main_arg8) := by blk_ext! [iblk, V, idx t]

/-- The tile's rows. -/
theorem x0_apply (c : Dev nD) (t : Fin cfg0.N) (a : Fin 256) (k : Fin 1024) (hb : 256 * t.val + a.val < 16640) :
    (iblk m c 0 t : FVec Ideal S256x1024 .bf16) (ix2 a k) = (m ((c : Thread nD τ).loc main_arg0) : Ffn.Ht) (ix2 ⟨256 * t.val + a.val, hb⟩ k) := by
  blk_ext [iblk, V, idx t]

/-- The row before the tile. -/
theorem x1_apply (c : Dev nD) (t : Fin cfg0.N) (k : Fin 1024) (h0 : 0 < t.val) (hb : 256 * t.val - 1 < 16640) :
    (iblk m c 1 t : FVec Ideal S16x1024 .bf16) (ix2 15 k) = (m ((c : Thread nD τ).loc main_arg0) : Ffn.Ht) (ix2 ⟨256 * t.val - 1, hb⟩ k) := by
  blk_ext [iblk, V, idx t]

/-- The row after the tile. -/
theorem x2_apply (c : Dev nD) (t : Fin cfg0.N) (k : Fin 1024) (h0 : t.val < 64) (hb : 256 * t.val + 256 < 16640) :
    (iblk m c 2 t : FVec Ideal S16x1024 .bf16) (ix2 0 k) = (m ((c : Thread nD τ).loc main_arg0) : Ffn.Ht) (ix2 ⟨256 * t.val + 256, hb⟩ k) := by
  blk_ext [iblk, V, idx t]

theorem x3_apply (c : Dev nD) (t : Fin cfg0.N) (a : Fin 256) (k : Fin 1024) (hb : 256 * t.val + a.val < 16640) :
    (iblk m c 3 t : FVec Ideal S256x1024 .f32) (ix2 a k) = (m ((c : Thread nD τ).loc main_arg1) : Ffn.Xt) (ix2 ⟨256 * t.val + a.val, hb⟩ k) := by
  blk_ext [iblk, V, idx t]

theorem x4_apply (c : Dev nD) (t : Fin cfg0.N) (k : Fin 1024) :
    (iblk m c 4 t : FVec Ideal S1x1x1024 .f32) (ix3 0 0 k) = (m ((c : Thread nD τ).loc main_arg2) : Ffn.Gt) (ix3 (if t.val < 64 then 0 else 1) 0 k) := by
  blk_ext [iblk, V, idx t]
  split <;> rfl

/-- One element of the block that the body leaves at point `t`. -/
theorem point (c : Dev nD) (t : Fin cfg0.N) (r : Fin 256) (d : Fin 1024) (i : S16640x1024.Idx) (hi0 : (i 0).val = 256 * t.val + r.val) (hi1 : (i 1).val = d.val) :
    Ffn.norm (m ((c : Thread nD τ).loc main_arg7)) (m ((c : Thread nD τ).loc main_arg8))
        (Ffn.lin (m ((c : Thread nD τ).loc main_arg4)) (m ((c : Thread nD τ).loc main_arg5)) (m ((c : Thread nD τ).loc main_arg6))
          (row (ext (grid0.coords t) (iblk m c 0 t) (iblk m c 1 t) (iblk m c 2 t)) (m ((c : Thread nD τ).loc main_arg3)) ⟨r.val + 15, by omega⟩)
          (row (ext (grid0.coords t) (iblk m c 0 t) (iblk m c 1 t) (iblk m c 2 t)) (m ((c : Thread nD τ).loc main_arg3)) ⟨r.val + 16, by omega⟩)
          (row (ext (grid0.coords t) (iblk m c 0 t) (iblk m c 1 t) (iblk m c 2 t)) (m ((c : Thread nD τ).loc main_arg3)) ⟨r.val + 17, by omega⟩)
          (fun k => (iblk m c 3 t : FVec Ideal S256x1024 .f32) (ix2 r k)) (fun k => (iblk m c 4 t : FVec Ideal S1x1x1024 .f32) (ix3 0 0 k))) d
      = Ffn.ffnAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) i := by
  have ht := (idx t).2.2.2.2.2.2.2.2.2.2.2.2
  have hr := r.isLt
  have hb : 256 * t.val + r.val < 16640 := by omega
  obtain rfl : i = ix2 ⟨256 * t.val + r.val, hb⟩ d := by
    funext a
    match a with
    | ⟨0, _⟩ => exact Fin.ext hi0
    | ⟨1, _⟩ => exact Fin.ext hi1
  have hx0 := fun (a : Fin 256) k => x0_apply m c t a k (by omega)
  rw [row_before (grid0.coords t) _ (iblk m c 1 t) (iblk m c 2 t) _ _ t.val ht hx0 (fun k h0 => x1_apply m c t k h0 _) (halo t).1 r,
    row_up (grid0.coords t) _ (iblk m c 1 t) (iblk m c 2 t) _ _ t.val ht hx0 r,
    row_after (grid0.coords t) _ (iblk m c 1 t) (iblk m c 2 t) _ _ t.val ht hx0 (fun k h0 => x2_apply m c t k (by omega) _) (halo t).2 r,
    funext fun k => x3_apply m c t r k hb, funext fun k => x4_apply m c t k]
  have hg : (fun k => (m ((c : Thread nD τ).loc main_arg2) : Ffn.Gt) (ix3 (if t.val < 64 then 0 else 1) 0 k)) = Ffn.gate (m ((c : Thread nD τ).loc main_arg2)) (256 * t.val + r.val) := by
    funext k
    unfold Ffn.gate
    have e : (t.val < 64) = (256 * t.val + r.val < 16384) := propext (by omega)
    simp only [e]
  rw [hg]
  rfl

theorem final (c : Dev nD) :
    (dats m 0 c).arrAt 11 cfg0.N = Ffn.ffnAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  frame_out
  idx_vars y
  refine (out_apply (grid0.coords t) _ _ _ _ _ _ _ _ _ _ _ _ _).trans ?_
  rw [iblk5, iblk6, iblk7, iblk8, iblk9, iblk10]
  refine point m c t _ _ _ ?_ ?_
  · blk_simp [idx t]
    omega
  · blk_simp [idx t]

end Cert.Kernel2Ideal.Final

end
-- ==== Proof.FfnRef.lean ====
/-
  The reference's result as the feed-forward of each row.
-/
module

public import proofs.«01_k».proof.Proof.Gen.Reference2Ideal.Read
public import proofs.«01_k».proof.Proof.Ffn

@[expose] public section

set_option maxRecDepth 16384

noncomputable section

namespace Cert.Reference2Ideal.RefVal

open Cert.Reference2Ideal Cert.Reference2Ideal.Gen Cert.Reference2Ideal.Read

open Idealize.ShloMosaic

theorem up_apply (h : Ffn.Ht) (wu : Ffn.Ut) (r : Fin 16640) (j : Fin 5632) : val_main_v2 (F := Ideal) h wu (ix2 r j) = Ffn.up h wu r.val j := by
  unfold Ffn.up
  have : (⟨r.val % 16640, Nat.mod_lt _ (by norm_num)⟩ : Fin 16640) = r := Fin.ext (Nat.mod_eq_of_lt r.isLt)
  rw [this]
  pointwise [val_main_v2, val_main_v1, val_main_v0]

theorem before_apply (h : Ffn.Ht) (wu : Ffn.Ut) (r : Fin 16640) (j : Fin 5632) :
    val_main_v6 (F := Ideal) h wu (ix2 r j) = Ffn.before h wu r.val j := by
  have hr := r.isLt
  unfold Ffn.before val_main_v6 val_main_v4 val_main_v5
  have hu := up_apply h wu
  generalize val_main_v2 (F := Ideal) h wu = u at hu ⊢
  pointwise [val_main_v3, val_main_cst]
  simp only [hu]
  by_cases h0 : r.val < 1
  · rw [dif_pos h0, if_pos (by omega)]
  · rw [dif_neg h0]
    by_cases h1 : r.val - 1 < 16383
    · rw [dif_pos h1, if_neg (by omega)]
    · rw [dif_neg h1]
      by_cases h2 : r.val - 1 - 16383 < 1
      · rw [dif_pos h2, if_pos (by omega)]
      · rw [dif_neg h2, if_neg (by omega), show 16384 + (r.val - 1 - 16383 - 1) = r.val - 1 by omega]

theorem after_apply (h : Ffn.Ht) (wu : Ffn.Ut) (r : Fin 16640) (j : Fin 5632) :
    val_main_v9 (F := Ideal) h wu (ix2 r j) = Ffn.after h wu r.val j := by
  have hr := r.isLt
  unfold Ffn.after val_main_v9 val_main_v7 val_main_v8
  have hu := up_apply h wu
  generalize val_main_v2 (F := Ideal) h wu = u at hu ⊢
  pointwise [val_main_v3, val_main_cst]
  simp only [hu]
  by_cases h0 : r.val < 16383
  · rw [dif_pos h0, if_neg (by omega), Nat.add_comm]
  · rw [dif_neg h0]
    by_cases h1 : r.val - 16383 < 1
    · rw [dif_pos h1, if_pos (by omega)]
    · rw [dif_neg h1]
      by_cases h2 : r.val - 16383 - 1 < 255
      · rw [dif_pos h2, if_neg (by omega), show 16385 + (r.val - 16383 - 1) = r.val + 1 by omega]
      · rw [dif_neg h2, if_pos (by omega)]

theorem conv_apply (h : Ffn.Ht) (wu : Ffn.Ut) (cw : Ffn.Ct) (cb : Ffn.Bt) (r : Fin 16640) (j : Fin 5632) :
    val_main_v28 (F := Ideal) h wu cw cb (ix2 r j) = Ffn.conv cw cb (Ffn.before h wu r.val) (Ffn.up h wu r.val) (Ffn.after h wu r.val) j := by
  unfold Ffn.conv
  rw [← up_apply, ← before_apply, ← after_apply]
  unfold val_main_v28 val_main_v26 val_main_v25 val_main_v20 val_main_v19 val_main_v14
  generalize val_main_v2 (F := Ideal) h wu = u
  generalize val_main_v6 (F := Ideal) h wu = p
  generalize val_main_v9 (F := Ideal) h wu = n
  pointwise [val_main_v27, val_main_v24, val_main_v23, val_main_v22, val_main_v21, val_main_v18, val_main_v17, val_main_v16, val_main_v15,
    val_main_v13, val_main_v12, val_main_v11, val_main_v10]

theorem act_apply (h : Ffn.Ht) (wu : Ffn.Ut) (cw : Ffn.Ct) (cb : Ffn.Bt) (r : Fin 16640) (j : Fin 2816) :
    val_main_v38 (F := Ideal) h wu cw cb (ix2 r j) = Ffn.act cw cb (Ffn.before h wu r.val) (Ffn.up h wu r.val) (Ffn.after h wu r.val) j := by
  unfold Ffn.act Ffn.silu
  rw [← conv_apply, ← conv_apply]
  unfold val_main_v38 val_main_v37 val_main_v36 val_main_v34 val_main_v32 val_main_v31 val_main_v30 val_main_v29
  generalize val_main_v28 (F := Ideal) h wu cw cb = y
  pointwise [val_main_v33, val_main_v35, val_main_cst_0, val_main_cst_1]

theorem gate_apply (g2 : Ffn.Gt) (r : Fin 16640) (d : Fin 1024) : val_main_v47 (F := Ideal) g2 (ix2 r d) = Ffn.gate g2 r.val d := by
  unfold Ffn.gate
  pointwise [val_main_v47, val_main_v46, val_main_v45, val_main_v44, val_main_v43, val_main_v42, val_main_v41]
  split <;> simp_all

theorem lin_apply (h : Ffn.Ht) (x1 : Ffn.Xt) (g2 : Ffn.Gt) (wu : Ffn.Ut) (cw : Ffn.Ct) (cb : Ffn.Bt) (wd : Ffn.Dt) (r : Fin 16640) (d : Fin 1024) :
    val_main_v51 (F := Ideal) h x1 g2 wu cw cb wd (ix2 r d) = Ffn.lin cw cb wd (Ffn.before h wu r.val) (Ffn.up h wu r.val) (Ffn.after h wu r.val)
      (fun k => x1 (ix2 r k)) (Ffn.gate g2 r.val) d := by
  unfold Ffn.lin
  simp only [← act_apply]
  rw [← gate_apply]
  unfold val_main_v51 val_main_v50 val_main_v40
  generalize val_main_v38 (F := Ideal) h wu cw cb = y
  generalize val_main_v47 (F := Ideal) g2 = g
  pointwise [val_main_v39, val_main_v48, val_main_v49, val_main_cst_2]

theorem result_eq (h : Ffn.Ht) (x1 : Ffn.Xt) (g2 : Ffn.Gt) (wu : Ffn.Ut) (cw : Ffn.Ct) (cb : Ffn.Bt) (wd : Ffn.Dt) (lg lb : Ffn.Lt) :
    val_main_v73 (F := Ideal) h x1 g2 wu cw cb wd lg lb = Ffn.ffnAt h x1 g2 wu cw cb wd lg lb := by
  funext i
  obtain ⟨r, d, rfl⟩ : ∃ (r : Fin 16640) (d : Fin 1024), i = ix2 r d := ⟨i 0, i 1, by
    funext a
    match a with
    | ⟨0, _⟩ => rfl
    | ⟨1, _⟩ => rfl⟩
  show _ = Ffn.ffn h x1 g2 wu cw cb wd lg lb r d
  unfold Ffn.ffn Ffn.norm Ffn.mean
  simp only [← lin_apply]
  unfold val_main_v73 val_main_v71 val_main_v69 val_main_v68 val_main_v67 val_main_v66 val_main_v64 val_main_v63 val_main_v62 val_main_v60 val_main_v59
    val_main_v58 val_main_v57 val_main_v56 val_main_v55 val_main_v53 val_main_v52
  generalize val_main_v51 (F := Ideal) h x1 g2 wu cw cb wd = x
  pointwise [val_main_v72, val_main_v70, val_main_v65, val_main_v61, val_main_v54, val_main_cst_3, val_main_cst_4, val_main_cst_5, val_main_cst_6, val_main_cst_7]

end Cert.Reference2Ideal.RefVal

end
-- ==== Proof.FfnLast.lean ====
/-
  The last layer's feed-forward: its body is the first layer's, so its array after the run is read by the same lemmas.
-/
module

public import proofs.«01_k».proof.Proof.FfnFinal
public import proofs.«01_k».proof.Proof.Gen.Kernel3Ideal.Value

@[expose] public section

set_option maxRecDepth 16384
set_option backward.proofsInPublic true

noncomputable section

namespace Cert.Kernel3Ideal.Final

open Cert.Kernel3Ideal Cert.Kernel3Ideal.Gen

open Idealize.ShloMosaic Idealize.ShloMosaic.TcCoe

theorem idx : ∀ t : Fin cfg0.N, win0_0.index t = ![t.val, 0] ∧ win0_1.index t = ![16 * t.val - 1, 0] ∧ win0_2.index t = ![min (16 * (t.val + 1)) 1023, 0]
    ∧ win0_3.index t = ![t.val, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![t.val, 0] ∧ t.val < 64 :=
  (by decide +kernel : ∀ t : Fin grid0.N, _)

/-- The grid point of the first layer's call that has the same tile. -/
def pt (t : Fin cfg0.N) : Fin Kernel2Ideal.cfg0.N := ⟨t.val, lt_trans (idx t).2.2.2.2.2.2.2.2.2.2.2.2 (by decide +kernel)⟩

/-- The halo's conditions. -/
theorem halo : ∀ t : Fin cfg0.N,
    Scalar.andi (Scalar.cmpi .ne (BitVec.ofNat 32 (grid0.coords t 0).val) 0#32) (Scalar.cmpi .ne (BitVec.ofNat 32 (grid0.coords t 0).val) 64#32) = (if t.val = 0 ∨ t.val = 64 then 0#1 else 1#1)
    ∧ Scalar.andi (Scalar.cmpi .ne (BitVec.ofNat 32 (grid0.coords t 0).val) 63#32) (Scalar.cmpi .ne (BitVec.ofNat 32 (grid0.coords t 0).val) 63#32) = (if t.val = 63 ∨ t.val = 64 then 0#1 else 1#1) :=
  (by decide +kernel : ∀ t : Fin grid0.N, _)

/-- A tile's rows with their halo, put together under given conditions. -/
def joined (p n : BitVec 1) (x1 x2 : FVec Ideal S16x1024 .bf16) (x0 : FVec Ideal S256x1024 .bf16) : FVec Ideal S288x1024 .bf16 :=
  concatenate S288x1024 0 [⟨S16x1024, Scalar.select p x1 (broadcast S16x1024 (Scalar.ofBits .bf16 0x0000#16))⟩, ⟨S256x1024, x0⟩,
    ⟨S16x1024, Scalar.select n x2 (broadcast S16x1024 (Scalar.ofBits .bf16 0x0000#16))⟩] concatenates_S16x1024_S256x1024_S16x1024_S288x1024_d0

/-- The rows of a tile and their halo are those of the first layer's call. -/
theorem pay2_eq (t : Fin cfg0.N) (a b : FVec Ideal S16x1024 .bf16) (x : FVec Ideal S256x1024 .bf16) :
    k0_pay2 (F := Ideal) (grid0.coords t) a b x = Kernel2Ideal.Gen.k0_pay2 (F := Ideal) (Kernel2Ideal.grid0.coords (pt t)) a b x :=
  calc
    _ = joined _ _ a b x := rfl
    _ = joined _ _ a b x := congrArg₂ (fun p n => joined p n a b x) ((halo t).1.trans (Kernel2Ideal.Final.halo (pt t)).1.symm)
      ((halo t).2.trans (Kernel2Ideal.Final.halo (pt t)).2.symm)
    _ = _ := rfl

section
variable (t : Fin cfg0.N) (x0 : FVec Ideal S256x1024 .bf16) (x1 x2 : FVec Ideal S16x1024 .bf16) (x3 : FVec Ideal S256x1024 .f32)
  (x4 : FVec Ideal S1x1x1024 .f32) (x5 : Ffn.Ut) (x6 : Ffn.Ct) (x7 : Ffn.Bt) (x8 : Ffn.Dt) (x9 x10 : Ffn.Lt)

theorem pay34_eq : k0_pay34 (F := Ideal) (grid0.coords t) x0 x1 x2 x3 x4 x5 x6 x7 x8 x9 x10
    = Kernel2Ideal.Gen.k0_pay34 (Kernel2Ideal.grid0.coords (pt t)) x0 x1 x2 x3 x4 x5 x6 x7 x8 x9 x10 := pay2_eq t _ _ _

theorem pay37_eq : k0_pay37 (F := Ideal) (grid0.coords t) x0 x1 x2 x3 x4 x5 x6 x7 x8 x9 x10
    = Kernel2Ideal.Gen.k0_pay37 (Kernel2Ideal.grid0.coords (pt t)) x0 x1 x2 x3 x4 x5 x6 x7 x8 x9 x10 := by
  unfold k0_pay37
  rw [pay34_eq]
  rfl

theorem pay39_eq : k0_pay39 (F := Ideal) (grid0.coords t) x0 x1 x2 x3 x4 x5 x6 x7 x8 x9 x10
    = Kernel2Ideal.Gen.k0_pay39 (Kernel2Ideal.grid0.coords (pt t)) x0 x1 x2 x3 x4 x5 x6 x7 x8 x9 x10 := by
  unfold k0_pay39
  rw [pay34_eq]
  rfl

theorem pay38_eq : k0_pay38 (F := Ideal) (grid0.coords t) x0 x1 x2 x3 x4 x5 x6 x7 x8 x9 x10
    = Kernel2Ideal.Gen.k0_pay38 (Kernel2Ideal.grid0.coords (pt t)) x0 x1 x2 x3 x4 x5 x6 x7 x8 x9 x10 := by
  unfold k0_pay38 k0_pay36 k0_pay35 k0_pay4 k0_pay5 k0_pay6 k0_pay7 k0_pay8 k0_pay9
  rw [pay34_eq, pay2_eq]
  rfl

/-- A block's row after the norm. -/
theorem out_apply (r : Fin 256) (d : Fin 1024) :
    k0_pay1 (F := Ideal) (k0_pay32 (k0_pay37 (grid0.coords t) x0 x1 x2 x3 x4 x5 x6 x7 x8 x9 x10) (k0_pay38 (grid0.coords t) x0 x1 x2 x3 x4 x5 x6 x7 x8 x9 x10)
        (k0_pay39 (grid0.coords t) x0 x1 x2 x3 x4 x5 x6 x7 x8 x9 x10) (View.ld x6 r0_41) (View.ld x7 r0_42) (View.ld x8 r0_43) x3 x4)
        x9 x10
        (k0_pay33 (k0_pay37 (grid0.coords t) x0 x1 x2 x3 x4 x5 x6 x7 x8 x9 x10) (k0_pay38 (grid0.coords t) x0 x1 x2 x3 x4 x5 x6 x7 x8 x9 x10)
        (k0_pay39 (grid0.coords t) x0 x1 x2 x3 x4 x5 x6 x7 x8 x9 x10) (View.ld x6 r0_41) (View.ld x7 r0_42) (View.ld x8 r0_43) x3 x4) (ix2 r d)
      = Ffn.norm x9 x10 (Ffn.lin x6 x7 x8
          (Kernel2Ideal.Idx.row (Kernel2Ideal.Idx.ext (Kernel2Ideal.grid0.coords (pt t)) x0 x1 x2) x5 ⟨r.val + 15, by omega⟩)
          (Kernel2Ideal.Idx.row (Kernel2Ideal.Idx.ext (Kernel2Ideal.grid0.coords (pt t)) x0 x1 x2) x5 ⟨r.val + 16, by omega⟩)
          (Kernel2Ideal.Idx.row (Kernel2Ideal.Idx.ext (Kernel2Ideal.grid0.coords (pt t)) x0 x1 x2) x5 ⟨r.val + 17, by omega⟩)
          (fun k => x3 (ix2 r k)) (fun k => x4 (ix3 0 0 k))) d := by
  rw [pay37_eq, pay38_eq, pay39_eq]
  exact Kernel2Ideal.Idx.out_apply (Kernel2Ideal.grid0.coords (pt t)) x0 x1 x2 x3 x4 x5 x6 x7 x8 x9 x10 r d

end

variable (m : (ℓ : Loc nD τ sig) → Buf (Elt Ideal) ℓ)

theorem iblk5 (c : Dev nD) (t : Fin cfg0.N) : iblk m c 5 t = m ((c : Thread nD τ).loc main_arg3) := by blk_ext! [iblk, V, idx t]
theorem iblk6 (c : Dev nD) (t : Fin cfg0.N) : iblk m c 6 t = m ((c : Thread nD τ).loc main_arg4) := by blk_ext! [iblk, V, idx t]
theorem iblk7 (c : Dev nD) (t : Fin cfg0.N) : iblk m c 7 t = m ((c : Thread nD τ).loc main_arg5) := by blk_ext! [iblk, V, idx t]
theorem iblk8 (c : Dev nD) (t : Fin cfg0.N) : iblk m c 8 t = m ((c : Thread nD τ).loc main_arg6) := by blk_ext! [iblk, V, idx t]
theorem iblk9 (c : Dev nD) (t : Fin cfg0.N) : iblk m c 9 t = m ((c : Thread nD τ).loc main_arg7) := by blk_ext! [iblk, V, idx t]
theorem iblk10 (c : Dev nD) (t : Fin cfg0.N) : iblk m c 10 t = m ((c : Thread nD τ).loc main_arg8) := by blk_ext! [iblk, V, idx t]

/-- The tile's rows. -/
theorem x0_apply (c : Dev nD) (t : Fin cfg0.N) (a : Fin 256) (k : Fin 1024) (hb : 256 * t.val + a.val < 16384) :
    (iblk m c 0 t : FVec Ideal S256x1024 .bf16) (ix2 a k) = (m ((c : Thread nD τ).loc main_arg0) : Ffn.Hl) (ix2 ⟨256 * t.val + a.val, hb⟩ k) := by
  blk_ext [iblk, V, idx t]

/-- The row before the tile. -/
theorem x1_apply (c : Dev nD) (t : Fin cfg0.N) (k : Fin 1024) (h0 : 0 < t.val) (hb : 256 * t.val - 1 < 16384) :
    (iblk m c 1 t : FVec Ideal S16x1024 .bf16) (ix2 15 k) = (m ((c : Thread nD τ).loc main_arg0) : Ffn.Hl) (ix2 ⟨256 * t.val - 1, hb⟩ k) := by
  blk_ext [iblk, V, idx t]

/-- The row after the tile. -/
theorem x2_apply (c : Dev nD) (t : Fin cfg0.N) (k : Fin 1024) (h0 : t.val < 63) (hb : 256 * t.val + 256 < 16384) :
    (iblk m c 2 t : FVec Ideal S16x1024 .bf16) (ix2 0 k) = (m ((c : Thread nD τ).loc main_arg0) : Ffn.Hl) (ix2 ⟨256 * t.val + 256, hb⟩ k) := by
  blk_ext [iblk, V, idx t]

theorem x3_apply (c : Dev nD) (t : Fin cfg0.N) (a : Fin 256) (k : Fin 1024) (hb : 256 * t.val + a.val < 16384) :
    (iblk m c 3 t : FVec Ideal S256x1024 .f32) (ix2 a k) = (m ((c : Thread nD τ).loc main_arg1) : Ffn.Xl) (ix2 ⟨256 * t.val + a.val, hb⟩ k) := by
  blk_ext [iblk, V, idx t]

theorem x4_apply (c : Dev nD) (t : Fin cfg0.N) (k : Fin 1024) :
    (iblk m c 4 t : FVec Ideal S1x1x1024 .f32) (ix3 0 0 k) = (m ((c : Thread nD τ).loc main_arg2) : Ffn.Gt) (ix3 0 0 k) := by
  blk_ext [iblk, V, idx t]

/-- One element of the block that the body leaves at point `t`. -/
theorem point (c : Dev nD) (t : Fin cfg0.N) (r : Fin 256) (d : Fin 1024) (i : S16384x1024.Idx) (hi0 : (i 0).val = 256 * t.val + r.val) (hi1 : (i 1).val = d.val) :
    Ffn.norm (m ((c : Thread nD τ).loc main_arg7)) (m ((c : Thread nD τ).loc main_arg8))
        (Ffn.lin (m ((c : Thread nD τ).loc main_arg4)) (m ((c : Thread nD τ).loc main_arg5)) (m ((c : Thread nD τ).loc main_arg6))
          (Kernel2Ideal.Idx.row (Kernel2Ideal.Idx.ext (Kernel2Ideal.grid0.coords (pt t)) (iblk m c 0 t) (iblk m c 1 t) (iblk m c 2 t)) (m ((c : Thread nD τ).loc main_arg3)) ⟨r.val + 15, by omega⟩)
          (Kernel2Ideal.Idx.row (Kernel2Ideal.Idx.ext (Kernel2Ideal.grid0.coords (pt t)) (iblk m c 0 t) (iblk m c 1 t) (iblk m c 2 t)) (m ((c : Thread nD τ).loc main_arg3)) ⟨r.val + 16, by omega⟩)
          (Kernel2Ideal.Idx.row (Kernel2Ideal.Idx.ext (Kernel2Ideal.grid0.coords (pt t)) (iblk m c 0 t) (iblk m c 1 t) (iblk m c 2 t)) (m ((c : Thread nD τ).loc main_arg3)) ⟨r.val + 17, by omega⟩)
          (fun k => (iblk m c 3 t : FVec Ideal S256x1024 .f32) (ix2 r k)) (fun k => (iblk m c 4 t : FVec Ideal S1x1x1024 .f32) (ix3 0 0 k))) d
      = Ffn.lastAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) i := by
  have ht := (idx t).2.2.2.2.2.2.2.2.2.2.2.2
  have hr := r.isLt
  have hb : 256 * t.val + r.val < 16384 := by omega
  obtain rfl : i = ix2 ⟨256 * t.val + r.val, hb⟩ d := by
    funext a
    match a with
    | ⟨0, _⟩ => exact Fin.ext hi0
    | ⟨1, _⟩ => exact Fin.ext hi1
  have hp : ∀ (a : Fin 16640) (ha : a.val < 16384) (k : Fin 1024), (m ((c : Thread nD τ).loc main_arg0) : Ffn.Hl) (ix2 ⟨a.val, ha⟩ k)
      = Ffn.pad (m ((c : Thread nD τ).loc main_arg0)) (ix2 a k) := fun a ha k => (Ffn.pad_apply _ a k ha).symm
  have hx0 : ∀ (a : Fin 256) k, (iblk m c 0 t : FVec Ideal S256x1024 .bf16) (ix2 a k)
      = Ffn.pad (m ((c : Thread nD τ).loc main_arg0)) (ix2 ⟨256 * t.val + a.val, by omega⟩ k) :=
    fun a k => (x0_apply m c t a k (by omega)).trans (hp ⟨256 * t.val + a.val, by omega⟩ (by show 256 * t.val + a.val < 16384; omega) k)
  have hx1 : ∀ (k : Fin 1024) (h0 : 0 < t.val), (iblk m c 1 t : FVec Ideal S16x1024 .bf16) (ix2 15 k)
      = Ffn.pad (m ((c : Thread nD τ).loc main_arg0)) (ix2 ⟨256 * t.val - 1, by omega⟩ k) :=
    fun k h0 => (x1_apply m c t k h0 (by omega)).trans (hp ⟨256 * t.val - 1, by omega⟩ (by show 256 * t.val - 1 < 16384; omega) k)
  have hx2 : ∀ (k : Fin 1024) (h0 : t.val < 63), (iblk m c 2 t : FVec Ideal S16x1024 .bf16) (ix2 0 k)
      = Ffn.pad (m ((c : Thread nD τ).loc main_arg0)) (ix2 ⟨256 * t.val + 256, by omega⟩ k) :=
    fun k h0 => (x2_apply m c t k h0 (by omega)).trans (hp ⟨256 * t.val + 256, by omega⟩ (by show 256 * t.val + 256 < 16384; omega) k)
  rw [Kernel2Ideal.Idx.row_before (Kernel2Ideal.grid0.coords (pt t)) _ (iblk m c 1 t) (iblk m c 2 t) _ _ t.val (by omega) hx0 hx1 (Kernel2Ideal.Final.halo (pt t)).1 r,
    Kernel2Ideal.Idx.row_up (Kernel2Ideal.grid0.coords (pt t)) _ (iblk m c 1 t) (iblk m c 2 t) _ _ t.val (by omega) hx0 r,
    Kernel2Ideal.Idx.row_after (Kernel2Ideal.grid0.coords (pt t)) _ (iblk m c 1 t) (iblk m c 2 t) _ _ t.val (by omega) hx0 hx2 (Kernel2Ideal.Final.halo (pt t)).2 r,
    funext fun k => x3_apply m c t r k hb, funext fun k => x4_apply m c t k]
  rfl

theorem final (c : Dev nD) :
    (dats m 0 c).arrAt 11 cfg0.N = Ffn.lastAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  frame_out
  idx_vars y
  refine (out_apply t _ _ _ _ _ _ _ _ _ _ _ _ _).trans ?_
  rw [iblk5, iblk6, iblk7, iblk8, iblk9, iblk10]
  refine point m c t _ _ _ ?_ ?_
  · blk_simp [idx t]
    omega
  · blk_simp [idx t]

end Cert.Kernel3Ideal.Final

end
-- ==== Proof.FfnLastRef.lean ====
/-
  The last layer's reference: its result as the feed-forward of each latent row.
-/
module

public import proofs.«01_k».proof.Proof.Gen.Reference3Ideal.Read
public import proofs.«01_k».proof.Proof.Ffn

@[expose] public section

set_option maxRecDepth 16384

noncomputable section

namespace Cert.Reference3Ideal.RefVal

open Cert.Reference3Ideal Cert.Reference3Ideal.Gen Cert.Reference3Ideal.Read

open Idealize.ShloMosaic

theorem up_apply (h : Ffn.Hl) (wu : Ffn.Ut) (r : Fin 16384) (j : Fin 5632) : val_main_v2 (F := Ideal) h wu (ix2 r j) = Ffn.up (Ffn.pad h) wu r.val j := by
  have hr := r.isLt
  unfold Ffn.up
  have e : ∀ k, Ffn.pad h (ix2 ⟨r.val % 16640, Nat.mod_lt _ (by norm_num)⟩ k) = h (ix2 r k) := fun k => by
    rw [Ffn.pad_apply h _ k (by show r.val % 16640 < 16384; omega)]
    congr 2
    exact Fin.ext (by show r.val % 16640 = r.val; omega)
  simp only [e]
  pointwise [val_main_v2, val_main_v1, val_main_v0]

theorem before_apply (h : Ffn.Hl) (wu : Ffn.Ut) (r : Fin 16384) (j : Fin 5632) :
    val_main_v5 (F := Ideal) h wu (ix2 r j) = Ffn.before (Ffn.pad h) wu r.val j := by
  have hr := r.isLt
  unfold Ffn.before val_main_v5 val_main_v4
  have hu := up_apply h wu
  generalize val_main_v2 (F := Ideal) h wu = u at hu ⊢
  pointwise [val_main_v3, val_main_cst]
  simp only [hu]
  by_cases h0 : r.val < 1
  · rw [dif_pos h0, if_pos (by omega)]
  · rw [dif_neg h0, if_neg (by omega)]

theorem after_apply (h : Ffn.Hl) (wu : Ffn.Ut) (r : Fin 16384) (j : Fin 5632) :
    val_main_v7 (F := Ideal) h wu (ix2 r j) = Ffn.after (Ffn.pad h) wu r.val j := by
  have hr := r.isLt
  unfold Ffn.after val_main_v7 val_main_v6
  have hu := up_apply h wu
  generalize val_main_v2 (F := Ideal) h wu = u at hu ⊢
  pointwise [val_main_v3, val_main_cst]
  simp only [hu]
  by_cases h0 : r.val < 16383
  · rw [dif_pos h0, if_neg (by omega), Nat.add_comm]
  · rw [dif_neg h0, if_pos (by omega)]

theorem conv_apply (h : Ffn.Hl) (wu : Ffn.Ut) (cw : Ffn.Ct) (cb : Ffn.Bt) (r : Fin 16384) (j : Fin 5632) :
    val_main_v26 (F := Ideal) h wu cw cb (ix2 r j)
      = Ffn.conv cw cb (Ffn.before (Ffn.pad h) wu r.val) (Ffn.up (Ffn.pad h) wu r.val) (Ffn.after (Ffn.pad h) wu r.val) j := by
  unfold Ffn.conv
  rw [← up_apply, ← before_apply, ← after_apply]
  unfold val_main_v26 val_main_v24 val_main_v23 val_main_v18 val_main_v17 val_main_v12
  generalize val_main_v2 (F := Ideal) h wu = u
  generalize val_main_v5 (F := Ideal) h wu = p
  generalize val_main_v7 (F := Ideal) h wu = n
  pointwise [val_main_v25, val_main_v22, val_main_v21, val_main_v20, val_main_v19, val_main_v16, val_main_v15, val_main_v14, val_main_v13,
    val_main_v11, val_main_v10, val_main_v9, val_main_v8]

theorem act_apply (h : Ffn.Hl) (wu : Ffn.Ut) (cw : Ffn.Ct) (cb : Ffn.Bt) (r : Fin 16384) (j : Fin 2816) :
    val_main_v36 (F := Ideal) h wu cw cb (ix2 r j)
      = Ffn.act cw cb (Ffn.before (Ffn.pad h) wu r.val) (Ffn.up (Ffn.pad h) wu r.val) (Ffn.after (Ffn.pad h) wu r.val) j := by
  unfold Ffn.act Ffn.silu
  rw [← conv_apply, ← conv_apply]
  unfold val_main_v36 val_main_v35 val_main_v34 val_main_v32 val_main_v30 val_main_v29 val_main_v28 val_main_v27
  generalize val_main_v26 (F := Ideal) h wu cw cb = y
  pointwise [val_main_v31, val_main_v33, val_main_cst_0, val_main_cst_1]

theorem lin_apply (h : Ffn.Hl) (x1 : Ffn.Xl) (g2 : Ffn.Gt) (wu : Ffn.Ut) (cw : Ffn.Ct) (cb : Ffn.Bt) (wd : Ffn.Dt) (r : Fin 16384) (d : Fin 1024) :
    val_main_v45 (F := Ideal) h x1 g2 wu cw cb wd (ix2 r d)
      = Ffn.lin cw cb wd (Ffn.before (Ffn.pad h) wu r.val) (Ffn.up (Ffn.pad h) wu r.val) (Ffn.after (Ffn.pad h) wu r.val)
        (fun k => x1 (ix2 r k)) (fun k => g2 (ix3 0 0 k)) d := by
  unfold Ffn.lin
  simp only [← act_apply]
  unfold val_main_v45 val_main_v44 val_main_v38
  generalize val_main_v36 (F := Ideal) h wu cw cb = y
  pointwise [val_main_v37, val_main_v39, val_main_v40, val_main_v41, val_main_v42, val_main_v43, val_main_cst_2]

theorem result_eq (h : Ffn.Hl) (x1 : Ffn.Xl) (g2 : Ffn.Gt) (wu : Ffn.Ut) (cw : Ffn.Ct) (cb : Ffn.Bt) (wd : Ffn.Dt) (lg lb : Ffn.Lt) :
    val_main_v67 (F := Ideal) h x1 g2 wu cw cb wd lg lb = Ffn.lastAt h x1 g2 wu cw cb wd lg lb := by
  funext i
  obtain ⟨r, d, rfl⟩ : ∃ (r : Fin 16384) (d : Fin 1024), i = ix2 r d := ⟨i 0, i 1, by
    funext a
    match a with
    | ⟨0, _⟩ => rfl
    | ⟨1, _⟩ => rfl⟩
  show _ = Ffn.last h x1 g2 wu cw cb wd lg lb r d
  unfold Ffn.last Ffn.norm Ffn.mean
  simp only [← lin_apply]
  unfold val_main_v67 val_main_v65 val_main_v63 val_main_v62 val_main_v61 val_main_v60 val_main_v58 val_main_v57 val_main_v56 val_main_v54 val_main_v53
    val_main_v52 val_main_v51 val_main_v50 val_main_v49 val_main_v47 val_main_v46
  generalize val_main_v45 (F := Ideal) h x1 g2 wu cw cb wd = x
  pointwise [val_main_v66, val_main_v64, val_main_v59, val_main_v55, val_main_v48, val_main_cst_3, val_main_cst_4, val_main_cst_5, val_main_cst_6, val_main_cst_7]

end Cert.Reference3Ideal.RefVal

end
-- ==== Proof.InProj.lean ====
/-
  The input projection of a row: the row scaled and shifted, and its products with the columns of the weights.
-/
module

public import Idealize.ShloMosaic.PureOps.Ideal.Laws
public import Idealize.ShloMosaic.Lib.Pointwise
public import Idealize.ShloMosaic.Lib.Pointwise.IndexBridge

@[expose] public section

set_option backward.proofsInPublic true

noncomputable section

namespace Cert.InProj

open Idealize.ShloMosaic

abbrev Lt := FVec Ideal (⟨2, ![16384, 1024]⟩ : Shape) .f32
abbrev Ct := FVec Ideal (⟨2, ![256, 1024]⟩ : Shape) .f32
abbrev Xt := FVec Ideal (⟨2, ![16640, 1024]⟩ : Shape) .f32
abbrev Mt := FVec Ideal (⟨3, ![2, 1, 1024]⟩ : Shape) .f32
abbrev Wt := FVec Ideal (⟨2, ![1024, 2832]⟩ : Shape) .f32

/-- A row scaled and shifted, by the pair of sequence `s`. -/
def scaled (sc sh : Mt) (s : Fin 2) (x : Fin 1024 → EReal) (k : Fin 1024) : EReal := x k * (1 + sc (ix3 s 0 k)) + sh (ix3 s 0 k)

/-- The rows of the first layer, whose latent tokens and context come as two arrays. -/
def split (xm : Lt) (xc : Ct) (sc sh : Mt) (r : Fin 16640) : Fin 1024 → EReal :=
  if hr : r.val < 16384 then scaled sc sh 0 fun k => xm (ix2 ⟨r.val, hr⟩ k) else scaled sc sh 1 fun k => xc (ix2 ⟨r.val - 16384, by omega⟩ k)

/-- The rows of the last layer, which come as one array. -/
def whole (x : Xt) (sc sh : Mt) (r : Fin 16640) : Fin 1024 → EReal :=
  if r.val < 16384 then scaled sc sh 0 fun k => x (ix2 r k) else scaled sc sh 1 fun k => x (ix2 r k)

/-- A row's product with a column of the weights. -/
def col (w : Wt) (h : Fin 1024 → EReal) (j : Fin 2832) : EReal := ∑ k : Fin 1024, h k * w (ix2 k j)

section
variable (rows : Fin 16640 → Fin 1024 → EReal) (w : Wt)

/-- The columns of the Hyena part, transposed. -/
def hy (i : (⟨2, ![768, 16640]⟩ : Shape).Idx) : EReal := col w (rows ⟨(i 1).val, (i 1).isLt⟩) ⟨(i 0).val, lt_trans (i 0).isLt (by norm_num)⟩

/-- The columns of the scan's gate. -/
def z (i : (⟨2, ![16640, 512]⟩ : Shape).Idx) : EReal :=
  col w (rows ⟨(i 0).val, (i 0).isLt⟩) ⟨768 + (i 1).val, by have h : (i 1).val < 512 := (i 1).isLt; omega⟩

/-- The columns of the scan's input and of its two matrices. -/
def xbc (i : (⟨2, ![16640, 1024]⟩ : Shape).Idx) : EReal :=
  col w (rows ⟨(i 0).val, (i 0).isLt⟩) ⟨1280 + (i 1).val, by have h : (i 1).val < 1024 := (i 1).isLt; omega⟩

/-- The sixteen columns of the scan's steps, filled up with zeros. -/
def dt (i : (⟨2, ![16640, 128]⟩ : Shape).Idx) : EReal :=
  if hn : (i 1).val < 16 then col w (rows ⟨(i 0).val, (i 0).isLt⟩) ⟨2304 + (i 1).val, by omega⟩ else 0

/-- The columns of the attention. -/
def qkv (i : (⟨2, ![16640, 512]⟩ : Shape).Idx) : EReal :=
  col w (rows ⟨(i 0).val, (i 0).isLt⟩) ⟨2320 + (i 1).val, by have h : (i 1).val < 512 := (i 1).isLt; omega⟩

variable {rows w} {h : Fin 1024 → EReal}

/-! ## The results from a row and a column -/

theorem hy_of {j : Fin 768} {i : (⟨2, ![768, 16640]⟩ : Shape).Idx} (hh : h = rows ⟨(i 1).val, (i 1).isLt⟩) (hj : (i 0).val = j.val) :
    col w h ⟨j.val, by omega⟩ = hy rows w i := by
  unfold hy
  rw [hh]
  exact congrArg (col w _) (Fin.ext hj.symm)

theorem z_of {j : Fin 512} {i : (⟨2, ![16640, 512]⟩ : Shape).Idx} (hh : h = rows ⟨(i 0).val, (i 0).isLt⟩) (hj : (i 1).val = j.val) :
    col w h ⟨768 + j.val, by omega⟩ = z rows w i := by
  unfold z
  rw [hh]
  exact congrArg (col w _) (Fin.ext (by show 768 + j.val = 768 + (i 1).val; omega))

theorem xbc_of {j : Fin 1024} {i : (⟨2, ![16640, 1024]⟩ : Shape).Idx} (hh : h = rows ⟨(i 0).val, (i 0).isLt⟩) (hj : (i 1).val = j.val) :
    col w h ⟨1280 + j.val, by omega⟩ = xbc rows w i := by
  unfold xbc
  rw [hh]
  exact congrArg (col w _) (Fin.ext (by show 1280 + j.val = 1280 + (i 1).val; omega))

theorem dt_of {j : Fin 128} {i : (⟨2, ![16640, 128]⟩ : Shape).Idx} (hh : h = rows ⟨(i 0).val, (i 0).isLt⟩) (hj : (i 1).val = j.val) :
    (if hn : j.val < 16 then col w h ⟨2304 + j.val, by omega⟩ else 0) = dt rows w i := by
  unfold dt
  rw [hh]
  by_cases hn : j.val < 16
  · rw [dif_pos hn, dif_pos (by omega)]
    exact congrArg (col w _) (Fin.ext (by show 2304 + j.val = 2304 + (i 1).val; omega))
  · rw [dif_neg hn, dif_neg (by omega)]

theorem qkv_of {j : Fin 512} {i : (⟨2, ![16640, 512]⟩ : Shape).Idx} (hh : h = rows ⟨(i 0).val, (i 0).isLt⟩) (hj : (i 1).val = j.val) :
    col w h ⟨2320 + j.val, by omega⟩ = qkv rows w i := by
  unfold qkv
  rw [hh]
  exact congrArg (col w _) (Fin.ext (by show 2320 + j.val = 2320 + (i 1).val; omega))

end

end Cert.InProj

end
-- ==== Proof.InProjRef.lean ====
/-
  The references of the input projection: their results by row and column.
-/
module

public import proofs.«01_k».proof.Proof.Gen.Reference4Ideal.Read
public import proofs.«01_k».proof.Proof.Gen.Reference5Ideal.Read
public import proofs.«01_k».proof.Proof.InProj

@[expose] public section

set_option maxRecDepth 16384
set_option backward.proofsInPublic true

noncomputable section

open Idealize.ShloMosaic

namespace Cert.Reference4Ideal.RefVal

open Cert.Reference4Ideal Cert.Reference4Ideal.Gen Cert.Reference4Ideal.Read

variable (xm : InProj.Lt) (xc : InProj.Ct) (sc sh : InProj.Mt) (w : InProj.Wt)

theorem rows_apply (r : Fin 16640) (k : Fin 1024) : val_main_v20 (F := Ideal) xm xc sc sh (ix2 r k) = InProj.split xm xc sc sh r k := by
  have hr := r.isLt
  unfold InProj.split InProj.scaled val_main_v20
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, val_main_cst_0]
  by_cases h : r.val < 16384
  · rw [dif_pos h, dif_pos h]
  · rw [dif_neg h, dif_neg h]

theorem cols_apply (r : Fin 16640) (j : Fin 2832) :
    val_main_v21 (F := Ideal) xm xc sc sh w (ix2 r j) = InProj.col w (InProj.split xm xc sc sh r) j := by
  unfold InProj.col
  simp only [← rows_apply]
  unfold val_main_v21
  generalize val_main_v20 (F := Ideal) xm xc sc sh = h
  pointwise

theorem hy_eq : val_main_v26 (F := Ideal) xm xc sc sh w = InProj.hy (InProj.split xm xc sc sh) w := by
  funext i
  idx_vars i
  unfold InProj.hy
  simp only [← cols_apply]
  unfold val_main_v26 val_main_v25
  generalize val_main_v21 (F := Ideal) xm xc sc sh w = p
  pointwise

theorem z_eq : val_main_v27 (F := Ideal) xm xc sc sh w = InProj.z (InProj.split xm xc sc sh) w := by
  funext i
  idx_vars i
  unfold InProj.z
  simp only [← cols_apply]
  unfold val_main_v27
  generalize val_main_v21 (F := Ideal) xm xc sc sh w = p
  pointwise

theorem xbc_eq : val_main_v28 (F := Ideal) xm xc sc sh w = InProj.xbc (InProj.split xm xc sc sh) w := by
  funext i
  idx_vars i
  unfold InProj.xbc
  simp only [← cols_apply]
  unfold val_main_v28
  generalize val_main_v21 (F := Ideal) xm xc sc sh w = p
  pointwise

theorem dt_eq : val_main_v24 (F := Ideal) xm xc sc sh w = InProj.dt (InProj.split xm xc sc sh) w := by
  funext i
  idx_vars i
  unfold InProj.dt
  simp only [← cols_apply]
  unfold val_main_v24 val_main_v22
  generalize val_main_v21 (F := Ideal) xm xc sc sh w = p
  pointwise [val_main_v23, val_main_cst_1]

theorem qkv_eq : val_main_v29 (F := Ideal) xm xc sc sh w = InProj.qkv (InProj.split xm xc sc sh) w := by
  funext i
  idx_vars i
  unfold InProj.qkv
  simp only [← cols_apply]
  unfold val_main_v29
  generalize val_main_v21 (F := Ideal) xm xc sc sh w = p
  pointwise

end Cert.Reference4Ideal.RefVal

namespace Cert.Reference5Ideal.RefVal

open Cert.Reference5Ideal Cert.Reference5Ideal.Gen Cert.Reference5Ideal.Read

variable (x : InProj.Xt) (sc sh : InProj.Mt) (w : InProj.Wt)

theorem rows_apply (r : Fin 16640) (k : Fin 1024) : val_main_v22 (F := Ideal) x sc sh (ix2 r k) = InProj.whole x sc sh r k := by
  have hr := r.isLt
  unfold InProj.whole InProj.scaled val_main_v22
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0]
  by_cases h : r.val < 16384
  · rw [dif_pos h, if_pos h]
  · rw [dif_neg h, if_neg h]
    have e : (⟨16384 + (r.val - 16384), by omega⟩ : Fin 16640) = r := Fin.ext (by show 16384 + (r.val - 16384) = r.val; omega)
    rw [e]

theorem cols_apply (r : Fin 16640) (j : Fin 2832) :
    val_main_v23 (F := Ideal) x sc sh w (ix2 r j) = InProj.col w (InProj.whole x sc sh r) j := by
  unfold InProj.col
  simp only [← rows_apply]
  unfold val_main_v23
  generalize val_main_v22 (F := Ideal) x sc sh = h
  pointwise

theorem hy_eq : val_main_v28 (F := Ideal) x sc sh w = InProj.hy (InProj.whole x sc sh) w := by
  funext i
  idx_vars i
  unfold InProj.hy
  simp only [← cols_apply]
  unfold val_main_v28 val_main_v27
  generalize val_main_v23 (F := Ideal) x sc sh w = p
  pointwise

theorem z_eq : val_main_v29 (F := Ideal) x sc sh w = InProj.z (InProj.whole x sc sh) w := by
  funext i
  idx_vars i
  unfold InProj.z
  simp only [← cols_apply]
  unfold val_main_v29
  generalize val_main_v23 (F := Ideal) x sc sh w = p
  pointwise

theorem xbc_eq : val_main_v30 (F := Ideal) x sc sh w = InProj.xbc (InProj.whole x sc sh) w := by
  funext i
  idx_vars i
  unfold InProj.xbc
  simp only [← cols_apply]
  unfold val_main_v30
  generalize val_main_v23 (F := Ideal) x sc sh w = p
  pointwise

theorem dt_eq : val_main_v26 (F := Ideal) x sc sh w = InProj.dt (InProj.whole x sc sh) w := by
  funext i
  idx_vars i
  unfold InProj.dt
  simp only [← cols_apply]
  unfold val_main_v26 val_main_v24
  generalize val_main_v23 (F := Ideal) x sc sh w = p
  pointwise [val_main_v25, val_main_cst_1]

theorem qkv_eq : val_main_v31 (F := Ideal) x sc sh w = InProj.qkv (InProj.whole x sc sh) w := by
  funext i
  idx_vars i
  unfold InProj.qkv
  simp only [← cols_apply]
  unfold val_main_v31
  generalize val_main_v23 (F := Ideal) x sc sh w = p
  pointwise

end Cert.Reference5Ideal.RefVal

end
-- ==== Proof.InProjFinal.lean ====
/-
  The last layer's input projection: a block of its results by row and column, and its arrays after the run.
-/
module

public import proofs.«01_k».proof.Proof.Gen.Kernel5Ideal.Value
public import proofs.«01_k».proof.Proof.InProj
public import Idealize.ShloMosaic.Lib.StableHlo.RunRead
public import Idealize.ShloMosaic.Lib.Pipeline.ValueKit.Point

@[expose] public section

set_option maxRecDepth 16384
set_option backward.proofsInPublic true

noncomputable section

namespace Cert.Kernel5Ideal.Final

open Cert.Kernel5Ideal Cert.Kernel5Ideal.Gen

open Idealize.ShloMosaic Idealize.ShloMosaic.TcCoe

/-! ## The weights as the call lays them out -/

/-- The weights of the first product: all columns after the Hyena part's, those of the steps filled up to 128. -/
def wmain (w : InProj.Wt) : FVec Ideal S1024x2176 .bf16 :=
  truncf .bf16 (concatenate S1024x2176 1 [⟨S1024x512, extractStridedSlice S1024x512 ![0, 768] w slices_S1024x2832_S1024x512_0_768⟩,
    ⟨S1024x1024, extractStridedSlice S1024x1024 ![0, 1280] w slices_S1024x2832_S1024x1024_0_1280⟩,
    ⟨S1024x128, pad S1024x128 ![0, 0] ![0, 112] ![0, 0] (extractStridedSlice S1024x16 ![0, 2304] w slices_S1024x2832_S1024x16_0_2304)
      (sitofp (F := Ideal) .f32 (constantI S_ 32 0#32)) pads_S1024x16_S1024x128_000_01120 h_S_⟩,
    ⟨S1024x512, extractStridedSlice S1024x512 ![0, 2320] w slices_S1024x2832_S1024x512_0_2320⟩]
    concatenates_S1024x512_S1024x1024_S1024x128_S1024x512_S1024x2176_d1) bitsLt_bf16_f32

/-- The weights of the second product: the Hyena part's columns, transposed. -/
def whyT (w : InProj.Wt) : FVec Ideal S768x1024 .bf16 :=
  truncf .bf16 (transpose S768x1024 [1, 0] (extractStridedSlice S1024x768 ![0, 0] w slices_S1024x2832_S1024x768_0_0)
    transposes_S1024x768_S768x1024_1_0) bitsLt_bf16_f32

theorem wmain_lo (w : InProj.Wt) (k : Fin 1024) (n : Fin 2176) (j : Fin 2832) (h : n.val < 1552) (hj : j.val = 768 + n.val) :
    wmain w (ix2 k n) = w (ix2 k j) := by
  have e : ∀ (a : ℕ) (ha : a < 2832), a = j.val → w (ix2 k ⟨a, ha⟩) = w (ix2 k j) := by
    intro a ha hab
    subst hab
    rfl
  pointwise [wmain]
  by_cases h1 : n.val < 512
  · exact (dif_pos h1).trans (e _ _ (by omega))
  · refine (dif_neg h1).trans ?_
    by_cases h2 : n.val - 512 < 1024
    · exact (dif_pos h2).trans (e _ _ (by omega))
    · refine (dif_neg h2).trans ?_
      rw [dif_pos (by omega), dif_pos (by omega)]
      exact e _ _ (by omega)

theorem wmain_hi (w : InProj.Wt) (k : Fin 1024) (n : Fin 2176) (j : Fin 2832) (h : 1664 ≤ n.val) (hj : j.val = 656 + n.val) :
    wmain w (ix2 k n) = w (ix2 k j) := by
  have e : ∀ (a : ℕ) (ha : a < 2832), a = j.val → w (ix2 k ⟨a, ha⟩) = w (ix2 k j) := by
    intro a ha hab
    subst hab
    rfl
  pointwise [wmain]
  rw [dif_neg (by omega), dif_neg (by omega), dif_neg (by omega)]
  exact e _ _ (by omega)

theorem wmain_zero (w : InProj.Wt) (k : Fin 1024) (n : Fin 2176) (h1 : 1552 ≤ n.val) (h2 : n.val < 1664) : wmain w (ix2 k n) = 0 := by
  have hz : (FloatOps.sitofp (F := Ideal) .f32 (0#32) : EReal) = 0 := by
    show (((0#32 : BitVec 32).toInt : ℝ) : EReal) = 0
    simp
  pointwise [wmain]
  rw [dif_neg (by omega), dif_neg (by omega), dif_pos (by omega), dif_neg (by omega)]
  exact hz

/-! ## A block of the results -/

section
variable (x : FVec Ideal S256x1024 .f32) (s b : FVec Ideal S1x1x1024 .f32) (w : InProj.Wt)

/-- A row of a block, scaled and shifted. -/
def hrow (r : Fin 256) (k : Fin 1024) : EReal := x (ix2 r k) * (1 + s (ix3 0 0 k)) + b (ix3 0 0 k)

theorem pay1_apply (r : Fin 256) (k : Fin 1024) : k0_pay1 (F := Ideal) x s b (ix2 r k) = hrow x s b r k := by
  unfold hrow
  pointwise [k0_pay1]

theorem pay2_apply (r : Fin 256) (n : Fin 2176) :
    k0_pay2 (F := Ideal) x s b (wmain w) (ix2 r n) = ∑ k : Fin 1024, hrow x s b r k * wmain w (ix2 k n) := by
  simp only [← pay1_apply]
  generalize wmain w = v
  unfold k0_pay2
  generalize k0_pay1 (F := Ideal) x s b = h
  pointwise

/-- A column of the first product that is one of the weights'. -/
theorem pay2_lo (r : Fin 256) (n : Fin 2176) (j : Fin 2832) (hn : n.val < 1552) (hj : j.val = 768 + n.val) :
    k0_pay2 (F := Ideal) x s b (wmain w) (ix2 r n) = InProj.col w (hrow x s b r) j := by
  rw [pay2_apply]
  refine Finset.sum_congr rfl fun k _ => congrArg (hrow x s b r k * ·) ?_
  exact wmain_lo w k n j hn hj

theorem pay2_hi (r : Fin 256) (n : Fin 2176) (j : Fin 2832) (hn : 1664 ≤ n.val) (hj : j.val = 656 + n.val) :
    k0_pay2 (F := Ideal) x s b (wmain w) (ix2 r n) = InProj.col w (hrow x s b r) j := by
  rw [pay2_apply]
  refine Finset.sum_congr rfl fun k _ => congrArg (hrow x s b r k * ·) ?_
  exact wmain_hi w k n j hn hj

/-- A column of the first product that was filled up. -/
theorem pay2_zero (r : Fin 256) (n : Fin 2176) (h1 : 1552 ≤ n.val) (h2 : n.val < 1664) : k0_pay2 (F := Ideal) x s b (wmain w) (ix2 r n) = 0 := by
  rw [pay2_apply]
  refine Finset.sum_eq_zero fun k _ => ?_
  rw [wmain_zero w k n h1 h2, mul_zero]

theorem z_apply (r : Fin 256) (j : Fin 512) :
    k0_pay3 (F := Ideal) x s b (wmain w) (ix2 r j) = InProj.col w (hrow x s b r) ⟨768 + j.val, by omega⟩ := by
  rw [← pay2_lo x s b w r ⟨j.val, by omega⟩ _ (by show j.val < 1552; omega) rfl]
  unfold k0_pay3
  generalize k0_pay2 (F := Ideal) x s b (wmain w) = p
  pointwise

theorem xbc_apply (r : Fin 256) (j : Fin 1024) :
    k0_pay4 (F := Ideal) x s b (wmain w) (ix2 r j) = InProj.col w (hrow x s b r) ⟨1280 + j.val, by omega⟩ := by
  rw [← pay2_lo x s b w r ⟨512 + j.val, by omega⟩ _ (by show 512 + j.val < 1552; omega) (by show 1280 + j.val = 768 + (512 + j.val); omega)]
  unfold k0_pay4
  generalize k0_pay2 (F := Ideal) x s b (wmain w) = p
  pointwise

theorem dt_apply (r : Fin 256) (j : Fin 128) :
    k0_pay5 (F := Ideal) x s b (wmain w) (ix2 r j) = if hn : j.val < 16 then InProj.col w (hrow x s b r) ⟨2304 + j.val, by omega⟩ else 0 := by
  trans k0_pay2 (F := Ideal) x s b (wmain w) (ix2 r ⟨1536 + j.val, by omega⟩)
  · unfold k0_pay5
    generalize k0_pay2 (F := Ideal) x s b (wmain w) = p
    pointwise
  · by_cases hn : j.val < 16
    · rw [dif_pos hn]
      exact pay2_lo x s b w r _ _ (by show 1536 + j.val < 1552; omega) (by show 2304 + j.val = 768 + (1536 + j.val); omega)
    · rw [dif_neg hn]
      exact pay2_zero x s b w r _ (by show 1552 ≤ 1536 + j.val; omega) (by show 1536 + j.val < 1664; omega)

theorem qkv_apply (r : Fin 256) (j : Fin 512) :
    k0_pay6 (F := Ideal) x s b (wmain w) (ix2 r j) = InProj.col w (hrow x s b r) ⟨2320 + j.val, by omega⟩ := by
  rw [← pay2_hi x s b w r ⟨1664 + j.val, by omega⟩ _ (by show 1664 ≤ 1664 + j.val; omega) (by show 2320 + j.val = 656 + (1664 + j.val); omega)]
  unfold k0_pay6
  generalize k0_pay2 (F := Ideal) x s b (wmain w) = p
  pointwise

theorem hy_apply (j : Fin 768) (r : Fin 256) :
    k0_pay7 (F := Ideal) x s b (whyT w) (ix2 j r) = InProj.col w (hrow x s b r) ⟨j.val, by omega⟩ := by
  have e : ∀ k : Fin 1024, whyT w (ix2 j k) = w (ix2 k ⟨j.val, by omega⟩) := fun k => by pointwise [whyT]
  unfold InProj.col
  simp only [← e, ← pay1_apply]
  generalize whyT w = v
  unfold k0_pay7
  generalize k0_pay1 (F := Ideal) x s b = h
  pointwise
  exact Finset.sum_congr rfl fun k _ => mul_comm _ _

end

/-! ## The arrays after the run -/

theorem idx : ∀ t : Fin cfg0.N, win0_0.index t = ![t.val, 0] ∧ win0_1.index t = ![t.val / 64, 0, 0] ∧ win0_2.index t = ![t.val / 64, 0, 0]
    ∧ win0_3.index t = ![0, 0] ∧ win0_4.index t = ![0, 0] ∧ win0_5.index t = ![0, t.val] ∧ win0_6.index t = ![t.val, 0]
    ∧ win0_7.index t = ![t.val, 0] ∧ win0_8.index t = ![t.val, 0] ∧ win0_9.index t = ![t.val, 0] ∧ t.val < 65 :=
  (by decide +kernel : ∀ t : Fin grid0.N, _)

variable (m : (ℓ : Loc nD τ sig) → Buf (Elt Ideal) ℓ)

theorem entry_main (c : Dev nD) : (V m c main_v6 : FVec Ideal S1024x2176 .bf16) = wmain (m ((c : Thread nD τ).loc main_arg3)) := by
  simp only [V, hostOps0, hostOps0_1, hostOps0_2, List.flatten_cons, List.flatten_nil, List.append_nil, List.cons_append, List.nil_append]
  after_reads_simp
  rfl

theorem entry_hyT (c : Dev nD) : (V m c main_v9 : FVec Ideal S768x1024 .bf16) = whyT (m ((c : Thread nD τ).loc main_arg3)) := by
  simp only [V, hostOps0, hostOps0_1, hostOps0_2, List.flatten_cons, List.flatten_nil, List.append_nil, List.cons_append, List.nil_append]
  after_reads_simp
  rfl

theorem iblk3 (c : Dev nD) (t : Fin cfg0.N) : iblk m c 3 t = wmain (m ((c : Thread nD τ).loc main_arg3)) := by
  rw [← entry_main]
  funext y
  blk_ext [iblk, idx t]

theorem iblk4 (c : Dev nD) (t : Fin cfg0.N) : iblk m c 4 t = whyT (m ((c : Thread nD τ).loc main_arg3)) := by
  rw [← entry_hyT]
  funext y
  blk_ext [iblk, idx t]

theorem x0_apply (c : Dev nD) (t : Fin cfg0.N) (a : Fin 256) (k : Fin 1024) (hb : 256 * t.val + a.val < 16640) :
    (iblk m c 0 t : FVec Ideal S256x1024 .f32) (ix2 a k) = (m ((c : Thread nD τ).loc main_arg0) : InProj.Xt) (ix2 ⟨256 * t.val + a.val, hb⟩ k) := by
  blk_ext [iblk, V_main_arg0, idx t]

theorem x1_apply (c : Dev nD) (t : Fin cfg0.N) (k : Fin 1024) (hb : t.val / 64 < 2) :
    (iblk m c 1 t : FVec Ideal S1x1x1024 .f32) (ix3 0 0 k) = (m ((c : Thread nD τ).loc main_arg1) : InProj.Mt) (ix3 ⟨t.val / 64, hb⟩ 0 k) := by
  blk_ext [iblk, V_main_arg1, idx t]

theorem x2_apply (c : Dev nD) (t : Fin cfg0.N) (k : Fin 1024) (hb : t.val / 64 < 2) :
    (iblk m c 2 t : FVec Ideal S1x1x1024 .f32) (ix3 0 0 k) = (m ((c : Thread nD τ).loc main_arg2) : InProj.Mt) (ix3 ⟨t.val / 64, hb⟩ 0 k) := by
  blk_ext [iblk, V_main_arg2, idx t]

/-- A block's row is a row of the array, scaled and shifted by its sequence's pair. -/
theorem row_eq (c : Dev nD) (t : Fin cfg0.N) (r : Fin 256) (R : Fin 16640) (hR : R.val = 256 * t.val + r.val) :
    hrow (iblk m c 0 t) (iblk m c 1 t) (iblk m c 2 t) r
      = InProj.whole (m ((c : Thread nD τ).loc main_arg0)) (m ((c : Thread nD τ).loc main_arg1)) (m ((c : Thread nD τ).loc main_arg2)) R := by
  have ht := (idx t).2.2.2.2.2.2.2.2.2.2
  have hr := r.isLt
  have hb : 256 * t.val + r.val < 16640 := by omega
  obtain rfl : R = ⟨256 * t.val + r.val, hb⟩ := Fin.ext hR
  have hs : ∀ s : Fin 2, s.val = t.val / 64 → (⟨t.val / 64, by omega⟩ : Fin 2) = s := fun s h => Fin.ext h.symm
  funext k
  unfold hrow InProj.whole InProj.scaled
  rw [x0_apply m c t r k (by omega), x1_apply m c t k (by omega), x2_apply m c t k (by omega)]
  by_cases h : 256 * t.val + r.val < 16384
  · rw [if_pos h, hs 0 (by show 0 = t.val / 64; omega)]
  · rw [if_neg h, hs 1 (by show 1 = t.val / 64; omega)]

section
variable (c : Dev nD)

/-- The rows and the weights that the call was given. -/
abbrev rows : Fin 16640 → Fin 1024 → EReal :=
  InProj.whole (m ((c : Thread nD τ).loc main_arg0)) (m ((c : Thread nD τ).loc main_arg1)) (m ((c : Thread nD τ).loc main_arg2))
abbrev weights : InProj.Wt := m ((c : Thread nD τ).loc main_arg3)

theorem hy_final : (dats m 0 c).arrAt 5 cfg0.N = InProj.hy (rows m c) (weights m c) := by
  refine (dats m 0 c).arrAt_eq_of_covers 5 _ (by decide +kernel) fun t _ y => ?_
  blk_simp
  rw [after0_5]
  frame_out
  idx_vars y
  rw [iblk4]
  refine (hy_apply _ _ _ _ _ _).trans (InProj.hy_of (row_eq m c t _ _ ?_) ?_)
  · blk_simp [idx t]
    dsimp only
    omega
  · blk_simp [idx t]

theorem z_final : (dats m 0 c).arrAt 6 cfg0.N = InProj.z (rows m c) (weights m c) := by
  refine (dats m 0 c).arrAt_eq_of_covers 6 _ (by decide +kernel) fun t _ y => ?_
  blk_simp
  rw [after0_6]
  frame_out
  idx_vars y
  rw [iblk3]
  refine (z_apply _ _ _ _ _ _).trans (InProj.z_of (row_eq m c t _ _ ?_) ?_)
  · blk_simp [idx t]
    dsimp only
    omega
  · blk_simp [idx t]

theorem xbc_final : (dats m 0 c).arrAt 7 cfg0.N = InProj.xbc (rows m c) (weights m c) := by
  refine (dats m 0 c).arrAt_eq_of_covers 7 _ (by decide +kernel) fun t _ y => ?_
  blk_simp
  rw [after0_7]
  frame_out
  idx_vars y
  rw [iblk3]
  refine (xbc_apply _ _ _ _ _ _).trans (InProj.xbc_of (row_eq m c t _ _ ?_) ?_)
  · blk_simp [idx t]
    dsimp only
    omega
  · blk_simp [idx t]

theorem dt_final : (dats m 0 c).arrAt 8 cfg0.N = InProj.dt (rows m c) (weights m c) := by
  refine (dats m 0 c).arrAt_eq_of_covers 8 _ (by decide +kernel) fun t _ y => ?_
  blk_simp
  rw [after0_8]
  frame_out
  idx_vars y
  rw [iblk3]
  refine (dt_apply _ _ _ _ _ _).trans (InProj.dt_of (row_eq m c t _ _ ?_) ?_)
  · blk_simp [idx t]
    dsimp only
    omega
  · blk_simp [idx t]

theorem qkv_final : (dats m 0 c).arrAt 9 cfg0.N = InProj.qkv (rows m c) (weights m c) := by
  refine (dats m 0 c).arrAt_eq_of_covers 9 _ (by decide +kernel) fun t _ y => ?_
  blk_simp
  rw [after0_9]
  frame_out
  idx_vars y
  rw [iblk3]
  refine (qkv_apply _ _ _ _ _ _).trans (InProj.qkv_of (row_eq m c t _ _ ?_) ?_)
  · blk_simp [idx t]
    dsimp only
    omega
  · blk_simp [idx t]

end

end Cert.Kernel5Ideal.Final

end
-- ==== Proof.InProjSplit.lean ====
/-
  The first layer's input projection: its body is the last layer's after the choice between the two arrays of rows.
-/
module

public import proofs.«01_k».proof.Proof.Gen.Kernel4Ideal.Value
public import proofs.«01_k».proof.Proof.InProjFinal

@[expose] public section

set_option maxRecDepth 16384
set_option backward.proofsInPublic true

noncomputable section

namespace Cert.Kernel4Ideal.Final

open Cert.Kernel4Ideal Cert.Kernel4Ideal.Gen

open Idealize.ShloMosaic Idealize.ShloMosaic.TcCoe

open Cert.Kernel5Ideal.Final (wmain whyT hrow z_apply xbc_apply dt_apply qkv_apply hy_apply)

theorem idx : ∀ t : Fin cfg0.N, win0_0.index t = ![min t.val 63, 0] ∧ win0_1.index t = ![0, 0] ∧ win0_2.index t = ![t.val / 64, 0, 0] ∧ win0_3.index t = ![t.val / 64, 0, 0]
    ∧ win0_4.index t = ![0, 0] ∧ win0_5.index t = ![0, 0] ∧ win0_6.index t = ![0, t.val] ∧ win0_7.index t = ![t.val, 0]
    ∧ win0_8.index t = ![t.val, 0] ∧ win0_9.index t = ![t.val, 0] ∧ win0_10.index t = ![t.val, 0] ∧ t.val < 65 :=
  (by decide +kernel : ∀ t : Fin grid0.N, _)

/-- The condition of the choice: the last tile is the context's. -/
theorem ctx : ∀ t : Fin cfg0.N, Scalar.cmpi .eq (BitVec.ofNat 32 (grid0.coords t 0).val) 64#32 = if t.val < 64 then 0#1 else 1#1 :=
  (by decide +kernel : ∀ t : Fin grid0.N, _)

/-- The rows that the body works on. -/
def pick (t : Fin cfg0.N) (xc xm : FVec Ideal S256x1024 .f32) : FVec Ideal S256x1024 .f32 :=
  Scalar.select (Scalar.cmpi .eq (BitVec.ofNat 32 (grid0.coords t 0).val) 64#32) xc xm

section
variable (t : Fin cfg0.N) (xc xm : FVec Ideal S256x1024 .f32) (s b : FVec Ideal S1x1x1024 .f32) (w : FVec Ideal S1024x2176 .bf16) (v : FVec Ideal S768x1024 .bf16)

theorem pay3_eq : k0_pay3 (F := Ideal) (grid0.coords t) xc xm s b w = Kernel5Ideal.Gen.k0_pay3 (pick t xc xm) s b w := rfl
theorem pay4_eq : k0_pay4 (F := Ideal) (grid0.coords t) xc xm s b w = Kernel5Ideal.Gen.k0_pay4 (pick t xc xm) s b w := rfl
theorem pay5_eq : k0_pay5 (F := Ideal) (grid0.coords t) xc xm s b w = Kernel5Ideal.Gen.k0_pay5 (pick t xc xm) s b w := rfl
theorem pay6_eq : k0_pay6 (F := Ideal) (grid0.coords t) xc xm s b w = Kernel5Ideal.Gen.k0_pay6 (pick t xc xm) s b w := rfl
theorem pay7_eq : k0_pay7 (F := Ideal) (grid0.coords t) xc xm s b v = Kernel5Ideal.Gen.k0_pay7 (pick t xc xm) s b v := rfl

end

/-! ## The arrays after the run -/

variable (m : (ℓ : Loc nD τ sig) → Buf (Elt Ideal) ℓ)

theorem entry_main (c : Dev nD) : (V m c main_v6 : FVec Ideal S1024x2176 .bf16) = wmain (m ((c : Thread nD τ).loc main_arg4)) := by
  simp only [V, hostOps0, hostOps0_1, hostOps0_2, List.flatten_cons, List.flatten_nil, List.append_nil, List.cons_append, List.nil_append]
  after_reads_simp
  rfl

theorem entry_hyT (c : Dev nD) : (V m c main_v9 : FVec Ideal S768x1024 .bf16) = whyT (m ((c : Thread nD τ).loc main_arg4)) := by
  simp only [V, hostOps0, hostOps0_1, hostOps0_2, List.flatten_cons, List.flatten_nil, List.append_nil, List.cons_append, List.nil_append]
  after_reads_simp
  rfl

theorem iblk4 (c : Dev nD) (t : Fin cfg0.N) : iblk m c 4 t = wmain (m ((c : Thread nD τ).loc main_arg4)) := by
  rw [← entry_main]
  funext y
  blk_ext [iblk, idx t]

theorem iblk5 (c : Dev nD) (t : Fin cfg0.N) : iblk m c 5 t = whyT (m ((c : Thread nD τ).loc main_arg4)) := by
  rw [← entry_hyT]
  funext y
  blk_ext [iblk, idx t]

theorem x0_apply (c : Dev nD) (t : Fin cfg0.N) (a : Fin 256) (k : Fin 1024) (h0 : t.val < 64) (hb : 256 * t.val + a.val < 16384) :
    (iblk m c 0 t : FVec Ideal S256x1024 .f32) (ix2 a k) = (m ((c : Thread nD τ).loc main_arg0) : InProj.Lt) (ix2 ⟨256 * t.val + a.val, hb⟩ k) := by
  blk_ext [iblk, V_main_arg0, idx t]

theorem x1_apply (c : Dev nD) (t : Fin cfg0.N) (a : Fin 256) (k : Fin 1024) :
    (iblk m c 1 t : FVec Ideal S256x1024 .f32) (ix2 a k) = (m ((c : Thread nD τ).loc main_arg1) : InProj.Ct) (ix2 a k) := by
  blk_ext [iblk, V_main_arg1, idx t]

theorem x2_apply (c : Dev nD) (t : Fin cfg0.N) (k : Fin 1024) (hb : t.val / 64 < 2) :
    (iblk m c 2 t : FVec Ideal S1x1x1024 .f32) (ix3 0 0 k) = (m ((c : Thread nD τ).loc main_arg2) : InProj.Mt) (ix3 ⟨t.val / 64, hb⟩ 0 k) := by
  blk_ext [iblk, V_main_arg2, idx t]

theorem x3_apply (c : Dev nD) (t : Fin cfg0.N) (k : Fin 1024) (hb : t.val / 64 < 2) :
    (iblk m c 3 t : FVec Ideal S1x1x1024 .f32) (ix3 0 0 k) = (m ((c : Thread nD τ).loc main_arg3) : InProj.Mt) (ix3 ⟨t.val / 64, hb⟩ 0 k) := by
  blk_ext [iblk, V_main_arg3, idx t]

/-- A block's row is a row of one of the two arrays, scaled and shifted by its sequence's pair. -/
theorem row_eq (c : Dev nD) (t : Fin cfg0.N) (r : Fin 256) (R : Fin 16640) (hR : R.val = 256 * t.val + r.val) :
    hrow (pick t (iblk m c 1 t) (iblk m c 0 t)) (iblk m c 2 t) (iblk m c 3 t) r
      = InProj.split (m ((c : Thread nD τ).loc main_arg0)) (m ((c : Thread nD τ).loc main_arg1)) (m ((c : Thread nD τ).loc main_arg2))
        (m ((c : Thread nD τ).loc main_arg3)) R := by
  have ht := (idx t).2.2.2.2.2.2.2.2.2.2.2
  have hr := r.isLt
  have hb : 256 * t.val + r.val < 16640 := by omega
  obtain rfl : R = ⟨256 * t.val + r.val, hb⟩ := Fin.ext hR
  have hs : ∀ s : Fin 2, s.val = t.val / 64 → (⟨t.val / 64, by omega⟩ : Fin 2) = s := fun s h => Fin.ext h.symm
  funext k
  unfold hrow InProj.split InProj.scaled pick
  rw [x2_apply m c t k (by omega), x3_apply m c t k (by omega), ctx]
  by_cases h : t.val < 64
  · rw [if_pos h, dif_pos (by show 256 * t.val + r.val < 16384; omega), hs 0 (by show 0 = t.val / 64; omega)]
    refine congrArg (fun e : EReal => e * _ + _) ?_
    exact x0_apply m c t r k h (by omega)
  · rw [if_neg h, dif_neg (by show ¬256 * t.val + r.val < 16384; omega), hs 1 (by show 1 = t.val / 64; omega)]
    refine congrArg (fun e : EReal => e * _ + _) ((x1_apply m c t r k).trans ?_)
    exact congrArg (fun a => (m ((c : Thread nD τ).loc main_arg1) : InProj.Ct) (ix2 a k)) (Fin.ext (by show r.val = 256 * t.val + r.val - 16384; omega))

section
variable (c : Dev nD)

/-- The rows and the weights that the call was given. -/
abbrev rows : Fin 16640 → Fin 1024 → EReal :=
  InProj.split (m ((c : Thread nD τ).loc main_arg0)) (m ((c : Thread nD τ).loc main_arg1)) (m ((c : Thread nD τ).loc main_arg2))
    (m ((c : Thread nD τ).loc main_arg3))
abbrev weights : InProj.Wt := m ((c : Thread nD τ).loc main_arg4)

theorem hy_final : (dats m 0 c).arrAt 6 cfg0.N = InProj.hy (rows m c) (weights m c) := by
  refine (dats m 0 c).arrAt_eq_of_covers 6 _ (by decide +kernel) fun t _ y => ?_
  blk_simp
  rw [after0_6]
  frame_out
  idx_vars y
  rw [iblk5, pay7_eq]
  refine (hy_apply _ _ _ _ _ _).trans (InProj.hy_of (row_eq m c t _ _ ?_) ?_)
  · blk_simp [idx t]
    dsimp only
    omega
  · blk_simp [idx t]

theorem z_final : (dats m 0 c).arrAt 7 cfg0.N = InProj.z (rows m c) (weights m c) := by
  refine (dats m 0 c).arrAt_eq_of_covers 7 _ (by decide +kernel) fun t _ y => ?_
  blk_simp
  rw [after0_7]
  frame_out
  idx_vars y
  rw [iblk4, pay3_eq]
  refine (z_apply _ _ _ _ _ _).trans (InProj.z_of (row_eq m c t _ _ ?_) ?_)
  · blk_simp [idx t]
    dsimp only
    omega
  · blk_simp [idx t]

theorem xbc_final : (dats m 0 c).arrAt 8 cfg0.N = InProj.xbc (rows m c) (weights m c) := by
  refine (dats m 0 c).arrAt_eq_of_covers 8 _ (by decide +kernel) fun t _ y => ?_
  blk_simp
  rw [after0_8]
  frame_out
  idx_vars y
  rw [iblk4, pay4_eq]
  refine (xbc_apply _ _ _ _ _ _).trans (InProj.xbc_of (row_eq m c t _ _ ?_) ?_)
  · blk_simp [idx t]
    dsimp only
    omega
  · blk_simp [idx t]

theorem dt_final : (dats m 0 c).arrAt 9 cfg0.N = InProj.dt (rows m c) (weights m c) := by
  refine (dats m 0 c).arrAt_eq_of_covers 9 _ (by decide +kernel) fun t _ y => ?_
  blk_simp
  rw [after0_9]
  frame_out
  idx_vars y
  rw [iblk4, pay5_eq]
  refine (dt_apply _ _ _ _ _ _).trans (InProj.dt_of (row_eq m c t _ _ ?_) ?_)
  · blk_simp [idx t]
    dsimp only
    omega
  · blk_simp [idx t]

theorem qkv_final : (dats m 0 c).arrAt 10 cfg0.N = InProj.qkv (rows m c) (weights m c) := by
  refine (dats m 0 c).arrAt_eq_of_covers 10 _ (by decide +kernel) fun t _ y => ?_
  blk_simp
  rw [after0_10]
  frame_out
  idx_vars y
  rw [iblk4, pay6_eq]
  refine (qkv_apply _ _ _ _ _ _).trans (InProj.qkv_of (row_eq m c t _ _ ?_) ?_)
  · blk_simp [idx t]
    dsimp only
    omega
  · blk_simp [idx t]

end

end Cert.Kernel4Ideal.Final

end
-- ==== Proof.Out.lean ====
/-
  The output projection of one row: the three heads' parts side by side, the state-space part gated and normed by groups, times
  the weights; then the residual, the layer norm and the feed-forward's scale and shift.
-/
module

public import proofs.«01_k».proof.Proof.Ffn

@[expose] public section

noncomputable section

namespace Cert.Out

open Idealize.ShloMosaic

abbrev Hl := FVec Ideal (⟨2, ![256, 16384]⟩ : Shape) .f32
abbrev Hc := FVec Ideal (⟨2, ![256, 256]⟩ : Shape) .f32
abbrev St := FVec Ideal (⟨2, ![16640, 512]⟩ : Shape) .f32
abbrev Al := FVec Ideal (⟨2, ![16384, 256]⟩ : Shape) .f32
abbrev Ac := FVec Ideal (⟨2, ![256, 256]⟩ : Shape) .f32
abbrev Xl := FVec Ideal (⟨2, ![16384, 1024]⟩ : Shape) .f32
abbrev Xc := FVec Ideal (⟨2, ![256, 1024]⟩ : Shape) .f32
abbrev Xt := FVec Ideal (⟨2, ![16640, 1024]⟩ : Shape) .f32
abbrev Mt := FVec Ideal (⟨3, ![2, 1, 1024]⟩ : Shape) .f32
abbrev Wt := FVec Ideal (⟨2, ![1024, 1024]⟩ : Shape) .bf16
abbrev Nt := FVec Ideal (⟨2, ![1, 512]⟩ : Shape) .f32
abbrev Lt := FVec Ideal (⟨2, ![1, 1024]⟩ : Shape) .f32

/-- What the projection takes for one row. -/
structure Row where
  hy : Fin 256 → EReal
  yf : Fin 512 → EReal
  yb : Fin 512 → EReal
  z : Fin 512 → EReal
  att : Fin 256 → EReal
  x : Fin 1024 → EReal
  g : Fin 1024 → EReal
  sc : Fin 1024 → EReal
  sh : Fin 1024 → EReal

/-- The state-space part: both directions, gated. -/
def gated (R : Row) (j : Fin 512) : EReal := (R.yf j + R.yb j) * Ffn.silu (R.z j)

/-- One over the root of a group's mean square. -/
def rms (f : Fin 256 → EReal) : EReal :=
  Ideal.rsqrt (Ideal.div (∑ k : Fin 256, f k * f k) (Ideal.ofBits .f32 0x43800000#32) + Ideal.ofBits .f32 0x358637BD#32)

/-- The first group. -/
def lo (R : Row) (k : Fin 256) : EReal := gated R ⟨k.val, by omega⟩

/-- The second group. -/
def hi (R : Row) (k : Fin 256) : EReal := gated R ⟨256 + k.val, by omega⟩

/-- The state-space part, normed by groups. -/
def ssd (nw : Nt) (R : Row) (j : Fin 512) : EReal := gated R j * (if j.val < 256 then rms (lo R) else rms (hi R)) * nw (ix2 0 j)

/-- The three parts side by side. -/
def mix (nw : Nt) (R : Row) (j : Fin 1024) : EReal :=
  if h : j.val < 256 then R.hy ⟨j.val, h⟩ else if h : j.val < 768 then ssd nw R ⟨j.val - 256, by omega⟩ else R.att ⟨j.val - 768, by omega⟩

/-- Column `d` of the product. -/
def prod (w : Wt) (nw : Nt) (R : Row) (d : Fin 1024) : EReal := ∑ j : Fin 1024, mix nw R j * w (ix2 j d)

/-- Column `d` of the row before the norm. -/
def lin (w : Wt) (nw : Nt) (R : Row) (d : Fin 1024) : EReal := Ideal.ofBits .f32 0x3FB504F3#32 * R.x d + R.g d * prod w nw R d

/-- The row after the norm. -/
def x1 (w : Wt) (nw : Nt) (lg lb : Lt) (R : Row) (d : Fin 1024) : EReal := Ffn.norm lg lb (lin w nw R) d

/-- The row that the feed-forward takes. -/
def h2 (w : Wt) (nw : Nt) (lg lb : Lt) (R : Row) (d : Fin 1024) : EReal := x1 w nw lg lb R d * (1 + R.sc d) + R.sh d

/-- The product, part by part. -/
theorem prod_split (w : Wt) (nw : Nt) (R : Row) (d : Fin 1024) :
    (∑ k : Fin 256, R.hy k * w (ix2 ⟨k.val, by omega⟩ d)) + (∑ j : Fin 512, ssd nw R j * w (ix2 ⟨256 + j.val, by omega⟩ d))
      + ∑ k : Fin 256, R.att k * w (ix2 ⟨768 + k.val, by omega⟩ d) = prod w nw R d := by
  unfold prod
  have h1 := Fin.sum_univ_add (a := 768) (b := 256) fun j : Fin 1024 => mix nw R j * w (ix2 j d)
  have h2 := Fin.sum_univ_add (a := 256) (b := 512) fun j : Fin 768 => mix nw R (Fin.castAdd 256 j) * w (ix2 (Fin.castAdd 256 j) d)
  refine Eq.symm (h1.trans (congrArg₂ (· + ·) (h2.trans (congrArg₂ (· + ·) ?_ ?_)) ?_))
  · refine Finset.sum_congr rfl fun k _ => congrArg₂ (· * ·) ?_ rfl
    exact dif_pos k.isLt
  · refine Finset.sum_congr rfl fun j _ => congrArg₂ (· * ·) ?_ rfl
    refine (dif_neg (by show ¬256 + j.val < 256; omega)).trans ((dif_pos (by show 256 + j.val < 768; omega)).trans ?_)
    exact congrArg (ssd nw R) (Fin.ext (by show 256 + j.val - 256 = j.val; omega))
  · refine Finset.sum_congr rfl fun k _ => congrArg₂ (· * ·) ?_ rfl
    refine (dif_neg (by show ¬768 + k.val < 256; omega)).trans ((dif_neg (by show ¬768 + k.val < 768; omega)).trans ?_)
    exact congrArg R.att (Fin.ext (by show 768 + k.val - 768 = k.val; omega))

/-- The first layer's rows: the latent tokens and then the context. -/
def both (hl : Hl) (hc : Hc) (yf yb z : St) (al : Al) (ac : Ac) (xl : Xl) (xc : Xc) (g sc sh : Mt) (r : Fin 16640) : Row where
  hy k := if h : r.val < 16384 then hl (ix2 k ⟨r.val, h⟩) else hc (ix2 k ⟨r.val - 16384, by omega⟩)
  yf j := yf (ix2 r j)
  yb j := yb (ix2 r j)
  z j := z (ix2 r j)
  att k := if h : r.val < 16384 then al (ix2 ⟨r.val, h⟩ k) else ac (ix2 ⟨r.val - 16384, by omega⟩ k)
  x d := if h : r.val < 16384 then xl (ix2 ⟨r.val, h⟩ d) else xc (ix2 ⟨r.val - 16384, by omega⟩ d)
  g d := g (ix3 (if r.val < 16384 then 0 else 1) 0 d)
  sc d := sc (ix3 (if r.val < 16384 then 0 else 1) 0 d)
  sh d := sh (ix3 (if r.val < 16384 then 0 else 1) 0 d)

/-- The last layer's rows: the latent tokens alone. -/
def latent (hl : Hl) (yf yb z : St) (al : Al) (x : Xt) (g sc sh : Mt) (r : Fin 16384) : Row where
  hy k := hl (ix2 k r)
  yf j := yf (ix2 ⟨r.val, by omega⟩ j)
  yb j := yb (ix2 ⟨r.val, by omega⟩ j)
  z j := z (ix2 ⟨r.val, by omega⟩ j)
  att k := al (ix2 r k)
  x d := x (ix2 ⟨r.val, by omega⟩ d)
  g d := g (ix3 0 0 d)
  sc d := sc (ix3 0 0 d)
  sh d := sh (ix3 0 0 d)

/-- The normed rows by index. -/
def x1At {n : ℕ} (rows : Fin n → Row) (w : Wt) (nw : Nt) (lg lb : Lt) (i : (⟨2, ![n, 1024]⟩ : Shape).Idx) : EReal :=
  x1 w nw lg lb (rows ⟨(i 0).val, (i 0).isLt⟩) ⟨(i 1).val, (i 1).isLt⟩

/-- The feed-forward's rows by index. -/
def h2At {n : ℕ} (rows : Fin n → Row) (w : Wt) (nw : Nt) (lg lb : Lt) (i : (⟨2, ![n, 1024]⟩ : Shape).Idx) : EReal :=
  h2 w nw lg lb (rows ⟨(i 0).val, (i 0).isLt⟩) ⟨(i 1).val, (i 1).isLt⟩

end Cert.Out

end
-- ==== Proof.OutRef.lean ====
/-
  The reference of the last layer's output projection: its results by row and column.
-/
module

public import proofs.«01_k».proof.Proof.Gen.Reference7Ideal.Read
public import proofs.«01_k».proof.Proof.Out

@[expose] public section

set_option maxRecDepth 16384
set_option backward.proofsInPublic true

noncomputable section

open Idealize.ShloMosaic

namespace Cert.Reference7Ideal.RefVal

open Cert.Reference7Ideal Cert.Reference7Ideal.Gen Cert.Reference7Ideal.Read

variable (hl : Out.Hl) (yf yb z : Out.St) (al : Out.Al) (x : Out.Xt) (g sc sh : Out.Mt) (w : Out.Wt) (nw : Out.Nt) (lg lb : Out.Lt)

theorem gated_apply (r : Fin 16384) (j : Fin 512) :
    val_main_v11 (F := Ideal) yf yb z (ix2 r j) = Out.gated (Out.latent hl yf yb z al x g sc sh r) j := by
  unfold Out.gated Ffn.silu Out.latent
  pointwise [val_main_v11, val_main_v10, val_main_v9, val_main_v8, val_main_v7, val_main_v6, val_main_v5, val_main_v4, val_main_v3, val_main_v2, val_main_v1,
    val_main_v0, val_main_cst, val_main_cst_0]

theorem lo_apply (r : Fin 16384) (k : Fin 256) :
    val_main_v12 (F := Ideal) yf yb z (ix2 r k) = Out.lo (Out.latent hl yf yb z al x g sc sh r) k := by
  unfold Out.lo
  rw [← gated_apply]
  unfold val_main_v12
  generalize val_main_v11 (F := Ideal) yf yb z = p
  pointwise

theorem hi_apply (r : Fin 16384) (k : Fin 256) :
    val_main_v13 (F := Ideal) yf yb z (ix2 r k) = Out.hi (Out.latent hl yf yb z al x g sc sh r) k := by
  unfold Out.hi
  rw [← gated_apply]
  unfold val_main_v13
  generalize val_main_v11 (F := Ideal) yf yb z = p
  pointwise

theorem ssdlo_apply (r : Fin 16384) (k : Fin 256) :
    val_main_v26 (F := Ideal) yf yb z nw (ix2 r k) = Out.ssd nw (Out.latent hl yf yb z al x g sc sh r) ⟨k.val, by omega⟩ := by
  unfold Out.ssd
  rw [if_pos (by show k.val < 256; omega)]
  show _ = Out.lo (Out.latent hl yf yb z al x g sc sh r) k * _ * _
  unfold Out.rms
  simp only [← lo_apply]
  unfold val_main_v26 val_main_v23 val_main_v22 val_main_v21 val_main_v20 val_main_v18 val_main_v16 val_main_v15 val_main_v14
  generalize val_main_v12 (F := Ideal) yf yb z = p
  pointwise [val_main_v25, val_main_v24, val_main_v19, val_main_v17, val_main_cst_1, val_main_cst_2, val_main_cst_3]

theorem ssdhi_apply (r : Fin 16384) (k : Fin 256) :
    val_main_v39 (F := Ideal) yf yb z nw (ix2 r k) = Out.ssd nw (Out.latent hl yf yb z al x g sc sh r) ⟨256 + k.val, by omega⟩ := by
  unfold Out.ssd
  rw [if_neg (by show ¬256 + k.val < 256; omega)]
  show _ = Out.hi (Out.latent hl yf yb z al x g sc sh r) k * _ * _
  unfold Out.rms
  simp only [← hi_apply]
  unfold val_main_v39 val_main_v36 val_main_v35 val_main_v34 val_main_v33 val_main_v31 val_main_v29 val_main_v28 val_main_v27
  generalize val_main_v13 (F := Ideal) yf yb z = p
  pointwise [val_main_v38, val_main_v37, val_main_v32, val_main_v30, val_main_cst_4, val_main_cst_5, val_main_cst_6]

theorem mix_apply (r : Fin 16384) (j : Fin 1024) :
    val_main_v41 (F := Ideal) hl yf yb z al nw (ix2 r j) = Out.mix nw (Out.latent hl yf yb z al x g sc sh r) j := by
  have hlo := ssdlo_apply hl yf yb z al x g sc sh nw r
  have hhi := ssdhi_apply hl yf yb z al x g sc sh nw r
  have hj := j.isLt
  unfold Out.mix
  unfold val_main_v41
  generalize val_main_v26 (F := Ideal) yf yb z nw = p at hlo ⊢
  generalize val_main_v39 (F := Ideal) yf yb z nw = q at hhi ⊢
  pointwise [val_main_v40]
  simp only [hlo, hhi]
  by_cases h0 : j.val < 256
  · refine (dif_pos h0).trans (Eq.trans ?_ (dif_pos h0).symm)
    rfl
  · refine (dif_neg h0).trans (Eq.trans ?_ (dif_neg h0).symm)
    by_cases h1 : j.val - 256 < 256
    · refine (dif_pos h1).trans (Eq.trans ?_ (dif_pos (by omega)).symm)
      rfl
    · refine (dif_neg h1).trans ?_
      by_cases h2 : j.val - 256 - 256 < 256
      · refine (dif_pos h2).trans (Eq.trans ?_ (dif_pos (by omega)).symm)
        exact congrArg (Out.ssd nw _) (Fin.ext (by show 256 + (j.val - 256 - 256) = j.val - 256; omega))
      · refine (dif_neg h2).trans (Eq.trans ?_ (dif_neg (by omega)).symm)
        exact congrArg (fun k => al (ix2 r k)) (Fin.ext (by show j.val - 256 - 256 - 256 = j.val - 768; omega))

theorem lin_apply (r : Fin 16384) (d : Fin 1024) :
    val_main_v51 (F := Ideal) hl yf yb z al x g w nw (ix2 r d) = Out.lin w nw (Out.latent hl yf yb z al x g sc sh r) d := by
  unfold Out.lin Out.prod
  simp only [← mix_apply]
  unfold val_main_v51 val_main_v50 val_main_v43
  generalize val_main_v41 (F := Ideal) hl yf yb z al nw = p
  unfold Out.latent
  pointwise [val_main_v49, val_main_v48, val_main_v47, val_main_v46, val_main_v45, val_main_v44, val_main_v42, val_main_cst_7]

theorem x1_apply (r : Fin 16384) (d : Fin 1024) :
    val_main_v73 (F := Ideal) hl yf yb z al x g w nw lg lb (ix2 r d) = Out.x1 w nw lg lb (Out.latent hl yf yb z al x g sc sh r) d := by
  unfold Out.x1 Ffn.norm Ffn.mean
  simp only [← lin_apply]
  unfold val_main_v73 val_main_v71 val_main_v69 val_main_v68 val_main_v67 val_main_v66 val_main_v64 val_main_v63 val_main_v62 val_main_v60 val_main_v59
    val_main_v58 val_main_v57 val_main_v56 val_main_v55 val_main_v53 val_main_v52
  generalize val_main_v51 (F := Ideal) hl yf yb z al x g w nw = y
  pointwise [val_main_v72, val_main_v70, val_main_v65, val_main_v61, val_main_v54, val_main_cst_8, val_main_cst_9, val_main_cst_10, val_main_cst_11, val_main_cst_12]

theorem h2_apply (r : Fin 16384) (d : Fin 1024) :
    val_main_v84 (F := Ideal) hl yf yb z al x g sc sh w nw lg lb (ix2 r d) = Out.h2 w nw lg lb (Out.latent hl yf yb z al x g sc sh r) d := by
  unfold Out.h2
  rw [← x1_apply]
  unfold val_main_v84 val_main_v83 val_main_v79
  generalize val_main_v73 (F := Ideal) hl yf yb z al x g w nw lg lb = y
  unfold Out.latent
  pointwise [val_main_v82, val_main_v81, val_main_v80, val_main_v78, val_main_v77, val_main_v76, val_main_v75, val_main_v74, val_main_cst_13]

theorem x1_eq : val_main_v73 (F := Ideal) hl yf yb z al x g w nw lg lb = Out.x1At (Out.latent hl yf yb z al x g sc sh) w nw lg lb := by
  funext i
  idx_vars i
  exact x1_apply hl yf yb z al x g sc sh w nw lg lb _ _

theorem h2_eq : val_main_v84 (F := Ideal) hl yf yb z al x g sc sh w nw lg lb = Out.h2At (Out.latent hl yf yb z al x g sc sh) w nw lg lb := by
  funext i
  idx_vars i
  exact h2_apply hl yf yb z al x g sc sh w nw lg lb _ _

end Cert.Reference7Ideal.RefVal

end
-- ==== Proof.OutRefSplit.lean ====
/-
  The reference of the first layer's output projection: its results by row and column.
-/
module

public import proofs.«01_k».proof.Proof.Gen.Reference6Ideal.Read
public import proofs.«01_k».proof.Proof.Out

@[expose] public section

set_option maxRecDepth 16384
set_option backward.proofsInPublic true

noncomputable section

open Idealize.ShloMosaic

namespace Cert.Reference6Ideal.RefVal

open Cert.Reference6Ideal Cert.Reference6Ideal.Gen Cert.Reference6Ideal.Read

variable (hl : Out.Hl) (hc : Out.Hc) (yf yb z : Out.St) (al : Out.Al) (ac : Out.Ac) (xl : Out.Xl) (xc : Out.Xc) (g sc sh : Out.Mt) (w : Out.Wt) (nw : Out.Nt)
  (lg lb : Out.Lt)

theorem gated_apply (r : Fin 16640) (j : Fin 512) :
    val_main_v10 (F := Ideal) yf yb z (ix2 r j) = Out.gated (Out.both hl hc yf yb z al ac xl xc g sc sh r) j := by
  unfold Out.gated Ffn.silu Out.both
  pointwise [val_main_v10, val_main_v9, val_main_v8, val_main_v7, val_main_v6, val_main_v5, val_main_v4, val_main_v3, val_main_v2, val_main_cst,
    val_main_cst_0]

theorem lo_apply (r : Fin 16640) (k : Fin 256) :
    val_main_v11 (F := Ideal) yf yb z (ix2 r k) = Out.lo (Out.both hl hc yf yb z al ac xl xc g sc sh r) k := by
  unfold Out.lo
  rw [← gated_apply]
  unfold val_main_v11
  generalize val_main_v10 (F := Ideal) yf yb z = p
  pointwise

theorem hi_apply (r : Fin 16640) (k : Fin 256) :
    val_main_v12 (F := Ideal) yf yb z (ix2 r k) = Out.hi (Out.both hl hc yf yb z al ac xl xc g sc sh r) k := by
  unfold Out.hi
  rw [← gated_apply]
  unfold val_main_v12
  generalize val_main_v10 (F := Ideal) yf yb z = p
  pointwise

theorem ssdlo_apply (r : Fin 16640) (k : Fin 256) :
    val_main_v25 (F := Ideal) yf yb z nw (ix2 r k) = Out.ssd nw (Out.both hl hc yf yb z al ac xl xc g sc sh r) ⟨k.val, by omega⟩ := by
  unfold Out.ssd
  rw [if_pos (by show k.val < 256; omega)]
  show _ = Out.lo (Out.both hl hc yf yb z al ac xl xc g sc sh r) k * _ * _
  unfold Out.rms
  simp only [← lo_apply]
  unfold val_main_v25 val_main_v22 val_main_v21 val_main_v20 val_main_v19 val_main_v17 val_main_v15 val_main_v14 val_main_v13
  generalize val_main_v11 (F := Ideal) yf yb z = p
  pointwise [val_main_v24, val_main_v23, val_main_v18, val_main_v16, val_main_cst_1, val_main_cst_2, val_main_cst_3]

theorem ssdhi_apply (r : Fin 16640) (k : Fin 256) :
    val_main_v38 (F := Ideal) yf yb z nw (ix2 r k) = Out.ssd nw (Out.both hl hc yf yb z al ac xl xc g sc sh r) ⟨256 + k.val, by omega⟩ := by
  unfold Out.ssd
  rw [if_neg (by show ¬256 + k.val < 256; omega)]
  show _ = Out.hi (Out.both hl hc yf yb z al ac xl xc g sc sh r) k * _ * _
  unfold Out.rms
  simp only [← hi_apply]
  unfold val_main_v38 val_main_v35 val_main_v34 val_main_v33 val_main_v32 val_main_v30 val_main_v28 val_main_v27 val_main_v26
  generalize val_main_v12 (F := Ideal) yf yb z = p
  pointwise [val_main_v37, val_main_v36, val_main_v31, val_main_v29, val_main_cst_4, val_main_cst_5, val_main_cst_6]

/-- The Hyena part's rows. -/
theorem hy_apply (r : Fin 16640) (k : Fin 256) :
    val_main_v39 (F := Ideal) hl hc (ix2 r k) = (Out.both hl hc yf yb z al ac xl xc g sc sh r).hy k := by
  unfold Out.both
  pointwise [val_main_v39, val_main_v0]

/-- The attention's rows. -/
theorem att_apply (r : Fin 16640) (k : Fin 256) :
    val_main_v1 (F := Ideal) al ac (ix2 r k) = (Out.both hl hc yf yb z al ac xl xc g sc sh r).att k := by
  unfold Out.both
  pointwise [val_main_v1]

theorem mix_apply (r : Fin 16640) (j : Fin 1024) :
    val_main_v40 (F := Ideal) hl hc yf yb z al ac nw (ix2 r j) = Out.mix nw (Out.both hl hc yf yb z al ac xl xc g sc sh r) j := by
  have hlo := ssdlo_apply hl hc yf yb z al ac xl xc g sc sh nw r
  have hhi := ssdhi_apply hl hc yf yb z al ac xl xc g sc sh nw r
  have hh := hy_apply hl hc yf yb z al ac xl xc g sc sh r
  have ha := att_apply hl hc yf yb z al ac xl xc g sc sh r
  have hj := j.isLt
  unfold Out.mix
  unfold val_main_v40
  generalize val_main_v25 (F := Ideal) yf yb z nw = p at hlo ⊢
  generalize val_main_v38 (F := Ideal) yf yb z nw = q at hhi ⊢
  generalize val_main_v39 (F := Ideal) hl hc = h at hh ⊢
  generalize val_main_v1 (F := Ideal) al ac = a at ha ⊢
  generalize Out.both hl hc yf yb z al ac xl xc g sc sh r = R at hlo hhi hh ha ⊢
  pointwise
  simp only [hlo, hhi, hh, ha]
  by_cases h0 : j.val < 256
  · refine (dif_pos h0).trans (Eq.trans ?_ (dif_pos h0).symm)
    rfl
  · refine (dif_neg h0).trans (Eq.trans ?_ (dif_neg h0).symm)
    by_cases h1 : j.val - 256 < 256
    · refine (dif_pos h1).trans (Eq.trans ?_ (dif_pos (by omega)).symm)
      rfl
    · refine (dif_neg h1).trans ?_
      by_cases h2 : j.val - 256 - 256 < 256
      · refine (dif_pos h2).trans (Eq.trans ?_ (dif_pos (by omega)).symm)
        exact congrArg (Out.ssd nw R) (Fin.ext (by show 256 + (j.val - 256 - 256) = j.val - 256; omega))
      · refine (dif_neg h2).trans (Eq.trans ?_ (dif_neg (by omega)).symm)
        exact congrArg R.att (Fin.ext (by show j.val - 256 - 256 - 256 = j.val - 768; omega))

theorem prod_apply (r : Fin 16640) (d : Fin 1024) :
    val_main_v42 (F := Ideal) hl hc yf yb z al ac w nw (ix2 r d) = Out.prod w nw (Out.both hl hc yf yb z al ac xl xc g sc sh r) d := by
  unfold Out.prod
  simp only [← mix_apply]
  unfold val_main_v42
  generalize val_main_v40 (F := Ideal) hl hc yf yb z al ac nw = p
  pointwise [val_main_v41]

/-! ## The latent tokens -/

theorem lat_lin (r : Fin 16384) (d : Fin 1024) : val_main_v50 (F := Ideal) hl hc yf yb z al ac xl g w nw (ix2 r d)
    = Out.lin w nw (Out.both hl hc yf yb z al ac xl xc g sc sh ⟨r.val, by omega⟩) d := by
  unfold Out.lin
  rw [← prod_apply]
  unfold val_main_v50 val_main_v49 val_main_v47
  generalize val_main_v42 (F := Ideal) hl hc yf yb z al ac w nw = p
  unfold Out.both
  simp only [dif_pos r.isLt, if_pos r.isLt]
  pointwise [val_main_v48, val_main_v46, val_main_v45, val_main_v44, val_main_v43, val_main_cst_7]

theorem lat_x1 (r : Fin 16384) (d : Fin 1024) : val_main_v72 (F := Ideal) hl hc yf yb z al ac xl g w nw lg lb (ix2 r d)
    = Out.x1 w nw lg lb (Out.both hl hc yf yb z al ac xl xc g sc sh ⟨r.val, by omega⟩) d := by
  unfold Out.x1 Ffn.norm Ffn.mean
  simp only [← lat_lin]
  unfold val_main_v72 val_main_v70 val_main_v68 val_main_v67 val_main_v66 val_main_v65 val_main_v63 val_main_v62 val_main_v61 val_main_v59 val_main_v58
    val_main_v57 val_main_v56 val_main_v55 val_main_v54 val_main_v52 val_main_v51
  generalize val_main_v50 (F := Ideal) hl hc yf yb z al ac xl g w nw = y
  pointwise [val_main_v71, val_main_v69, val_main_v64, val_main_v60, val_main_v53, val_main_cst_8, val_main_cst_9, val_main_cst_10, val_main_cst_11, val_main_cst_12]

theorem lat_h2 (r : Fin 16384) (d : Fin 1024) : val_main_v113 (F := Ideal) hl hc yf yb z al ac xl g sc sh w nw lg lb (ix2 r d)
    = Out.h2 w nw lg lb (Out.both hl hc yf yb z al ac xl xc g sc sh ⟨r.val, by omega⟩) d := by
  unfold Out.h2
  rw [← lat_x1]
  unfold val_main_v113 val_main_v109
  generalize val_main_v72 (F := Ideal) hl hc yf yb z al ac xl g w nw lg lb = y
  unfold Out.both
  simp only [if_pos r.isLt]
  pointwise [val_main_v112, val_main_v111, val_main_v110, val_main_v108, val_main_v107, val_main_v106, val_main_v105, val_main_v104, val_main_cst_19]

/-! ## The context -/

theorem ctx_lin (r : Fin 256) (d : Fin 1024) : val_main_v80 (F := Ideal) hl hc yf yb z al ac xc g w nw (ix2 r d)
    = Out.lin w nw (Out.both hl hc yf yb z al ac xl xc g sc sh ⟨16384 + r.val, by omega⟩) d := by
  have h : ¬16384 + r.val < 16384 := by omega
  have e : (⟨16384 + r.val - 16384, by omega⟩ : Fin 256) = r := Fin.ext (by show 16384 + r.val - 16384 = r.val; omega)
  unfold Out.lin
  rw [← prod_apply]
  unfold val_main_v80 val_main_v79 val_main_v77
  generalize val_main_v42 (F := Ideal) hl hc yf yb z al ac w nw = p
  unfold Out.both
  simp only [dif_neg h, if_neg h, e]
  pointwise [val_main_v78, val_main_v76, val_main_v75, val_main_v74, val_main_v73, val_main_cst_13]

theorem ctx_x1 (r : Fin 256) (d : Fin 1024) : val_main_v102 (F := Ideal) hl hc yf yb z al ac xc g w nw lg lb (ix2 r d)
    = Out.x1 w nw lg lb (Out.both hl hc yf yb z al ac xl xc g sc sh ⟨16384 + r.val, by omega⟩) d := by
  unfold Out.x1 Ffn.norm Ffn.mean
  simp only [← ctx_lin]
  unfold val_main_v102 val_main_v100 val_main_v98 val_main_v97 val_main_v96 val_main_v95 val_main_v93 val_main_v92 val_main_v91 val_main_v89 val_main_v88
    val_main_v87 val_main_v86 val_main_v85 val_main_v84 val_main_v82 val_main_v81
  generalize val_main_v80 (F := Ideal) hl hc yf yb z al ac xc g w nw = y
  pointwise [val_main_v101, val_main_v99, val_main_v94, val_main_v90, val_main_v83, val_main_cst_14, val_main_cst_15, val_main_cst_16, val_main_cst_17,
    val_main_cst_18]

theorem ctx_h2 (r : Fin 256) (d : Fin 1024) : val_main_v123 (F := Ideal) hl hc yf yb z al ac xc g sc sh w nw lg lb (ix2 r d)
    = Out.h2 w nw lg lb (Out.both hl hc yf yb z al ac xl xc g sc sh ⟨16384 + r.val, by omega⟩) d := by
  have h : ¬16384 + r.val < 16384 := by omega
  unfold Out.h2
  rw [← ctx_x1]
  unfold val_main_v123 val_main_v119
  generalize val_main_v102 (F := Ideal) hl hc yf yb z al ac xc g w nw lg lb = y
  unfold Out.both
  simp only [if_neg h]
  pointwise [val_main_v122, val_main_v121, val_main_v120, val_main_v118, val_main_v117, val_main_v116, val_main_v115, val_main_v114, val_main_cst_20]

/-! ## The results -/

theorem x1_eq : val_main_v103 (F := Ideal) hl hc yf yb z al ac xl xc g w nw lg lb
    = Out.x1At (Out.both hl hc yf yb z al ac xl xc g sc sh) w nw lg lb := by
  funext i
  idx_vars i
  show _ = Out.x1 w nw lg lb (Out.both hl hc yf yb z al ac xl xc g sc sh i0) i1
  have hm := lat_x1 hl hc yf yb z al ac xl xc g sc sh w nw lg lb
  have hx := ctx_x1 hl hc yf yb z al ac xl xc g sc sh w nw lg lb
  have hr := i0.isLt
  unfold val_main_v103
  generalize val_main_v72 (F := Ideal) hl hc yf yb z al ac xl g w nw lg lb = p at hm ⊢
  generalize val_main_v102 (F := Ideal) hl hc yf yb z al ac xc g w nw lg lb = q at hx ⊢
  pointwise
  simp only [hm, hx]
  by_cases h : i0.val < 16384
  · exact dif_pos h
  · refine (dif_neg h).trans ?_
    exact congrArg (fun s => Out.x1 w nw lg lb (Out.both hl hc yf yb z al ac xl xc g sc sh s) i1)
      (Fin.ext (by show 16384 + (i0.val - 16384) = i0.val; omega))

theorem h2_eq : val_main_v125 (F := Ideal) hl hc yf yb z al ac xl xc g sc sh w nw lg lb
    = Out.h2At (Out.both hl hc yf yb z al ac xl xc g sc sh) w nw lg lb := by
  funext i
  idx_vars i
  show _ = Out.h2 w nw lg lb (Out.both hl hc yf yb z al ac xl xc g sc sh i0) i1
  have hm := lat_h2 hl hc yf yb z al ac xl xc g sc sh w nw lg lb
  have hx := ctx_h2 hl hc yf yb z al ac xl xc g sc sh w nw lg lb
  have hr := i0.isLt
  unfold val_main_v125 val_main_v124
  generalize val_main_v113 (F := Ideal) hl hc yf yb z al ac xl g sc sh w nw lg lb = p at hm ⊢
  generalize val_main_v123 (F := Ideal) hl hc yf yb z al ac xc g sc sh w nw lg lb = q at hx ⊢
  pointwise
  simp only [hm, hx]
  by_cases h : i0.val < 16384
  · exact dif_pos h
  · refine (dif_neg h).trans ?_
    exact congrArg (fun s => Out.h2 w nw lg lb (Out.both hl hc yf yb z al ac xl xc g sc sh s) i1)
      (Fin.ext (by show 16384 + (i0.val - 16384) = i0.val; omega))

end Cert.Reference6Ideal.RefVal

end
-- ==== Proof.OutIdx.lean ====
/-
  The output projection's body, a block's row at a time.
-/
module

public import proofs.«01_k».proof.Proof.Gen.Kernel7Ideal.Value
public import proofs.«01_k».proof.Proof.Out

@[expose] public section

set_option maxRecDepth 16384
set_option backward.proofsInPublic true

noncomputable section

namespace Cert.Kernel7Ideal.Idx

open Cert.Kernel7Ideal Cert.Kernel7Ideal.Gen

open Idealize.ShloMosaic

/-- The state-space part of a block, normed by groups. -/
def ssd (yf yb z : FVec Ideal S256x512 .f32) (nw : FVec Ideal S1x512 .f32) : FVec Ideal S256x512 .f32 :=
  mulf (concatenate S256x512 1 [⟨S256x256, k0_pay5 yf yb z⟩, ⟨S256x256, mulf (k0_pay6 yf yb z) (broadcastTo S256x256
      (rsqrt (addf (divf (k0_pay7 yf yb z) k0_pay8) (broadcast S256x1 (Scalar.ofBits .f32 0x358637BD#32)))) broadcasts_S256x1_S256x256)⟩]
      concatenates_S256x256_S256x256_S256x512_d1)
    (broadcastTo S256x512 nw broadcasts_S1x512_S256x512)

/-- A block before the norm. -/
def lin (hy att : FVec Ideal S256x256 .f32) (x : FVec Ideal S256x1024 .f32) (p : FVec Ideal S256x512 .f32) (g : FVec Ideal S1x1x1024 .f32)
    (w0 : FVec Ideal S256x1024 .bf16) (w1 : FVec Ideal S512x1024 .bf16) (w2 : FVec Ideal S256x1024 .bf16) : FVec Ideal S256x1024 .f32 :=
  addf (mulf (broadcast S256x1024 (Scalar.ofBits .f32 0x3FB504F3#32)) x)
    (mulf (broadcastTo S256x1024 (shapeCast S1x1024 g shapeCasts_S1x1x1024_S1x1024) broadcasts_S1x1024_S256x1024)
      (addf (addf (k0_pay3 hy w0)
          (matmul dot_S256x512_S512x1024_S256x1024_1_0_0_1_n_n none (truncf .bf16 p bitsLt_bf16_f32) w1 (constant S256x1024 .f32 0x00000000#32)))
        (matmul dot_S256x256_S256x1024_S256x1024_1_0_0_1_n_n none (truncf .bf16 att bitsLt_bf16_f32) w2 (constant S256x1024 .f32 0x00000000#32))))

/-- The mean of each row. -/
def mean (x : FVec Ideal S256x1024 .f32) : FVec Ideal S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

/-- Each row less its mean. -/
def cent (x : FVec Ideal S256x1024 .f32) : FVec Ideal S256x1024 .f32 := subf x (broadcastTo S256x1024 (mean x) broadcasts_S256x1_S256x1024)

/-- The layer norm of each row. -/
def normed (x : FVec Ideal S256x1024 .f32) (lg lb : FVec Ideal S1x1024 .f32) : FVec Ideal S256x1024 .f32 :=
  k0_pay1 lg lb (cent x) (mean (mulf (cent x) (cent x))) (Scalar.ofBits .f32 0x358637BD#32)

/-- The rows for the feed-forward. -/
def shifted (x : FVec Ideal S256x1024 .f32) (sc sh : FVec Ideal S1x1x1024 .f32) : FVec Ideal S256x1024 .bf16 :=
  truncf .bf16 (addf (mulf x (broadcastTo S256x1024 (addf (broadcast S1x1024 (Scalar.ofBits .f32 0x3F800000#32))
      (shapeCast S1x1024 sc shapeCasts_S1x1x1024_S1x1024)) broadcasts_S1x1024_S256x1024))
    (broadcastTo S256x1024 (shapeCast S1x1024 sh shapeCasts_S1x1x1024_S1x1024) broadcasts_S1x1024_S256x1024)) bitsLt_bf16_f32

section
variable (hy att : FVec Ideal S256x256 .f32) (x : FVec Ideal S256x1024 .f32) (yf yb z : FVec Ideal S256x512 .f32) (g sc sh : FVec Ideal S1x1x1024 .f32)
  (w0 : FVec Ideal S256x1024 .bf16) (w1 : FVec Ideal S512x1024 .bf16) (w2 : FVec Ideal S256x1024 .bf16) (nw : FVec Ideal S1x512 .f32)
  (lg lb : FVec Ideal S1x1024 .f32)

theorem pay9_eq : k0_pay9 (F := Ideal) att x (k0_pay3 hy w0) (k0_pay5 yf yb z) (k0_pay6 yf yb z) (k0_pay7 yf yb z) k0_pay8 nw w1 w2 g
    = cent (lin hy att x (ssd yf yb z nw) g w0 w1 w2) := rfl

theorem pay1_eq : k0_pay1 (F := Ideal) lg lb (k0_pay9 att x (k0_pay3 hy w0) (k0_pay5 yf yb z) (k0_pay6 yf yb z) (k0_pay7 yf yb z) k0_pay8 nw w1 w2 g)
      (k0_pay10 att x (k0_pay3 hy w0) (k0_pay5 yf yb z) (k0_pay6 yf yb z) (k0_pay7 yf yb z) k0_pay8 nw w1 w2 g) (Scalar.ofBits .f32 0x358637BD#32)
    = normed (lin hy att x (ssd yf yb z nw) g w0 w1 w2) lg lb := rfl

theorem pay2_eq : k0_pay2 (F := Ideal) lg lb (k0_pay9 att x (k0_pay3 hy w0) (k0_pay5 yf yb z) (k0_pay6 yf yb z) (k0_pay7 yf yb z) k0_pay8 nw w1 w2 g)
      (k0_pay10 att x (k0_pay3 hy w0) (k0_pay5 yf yb z) (k0_pay6 yf yb z) (k0_pay7 yf yb z) k0_pay8 nw w1 w2 g) (Scalar.ofBits .f32 0x358637BD#32) sc sh
    = shifted (normed (lin hy att x (ssd yf yb z nw) g w0 w1 w2) lg lb) sc sh := rfl

/-- What the body takes for row `r` of a block. -/
def row (r : Fin 256) : Out.Row where
  hy k := hy (ix2 k r)
  yf j := yf (ix2 r j)
  yb j := yb (ix2 r j)
  z j := z (ix2 r j)
  att k := att (ix2 r k)
  x d := x (ix2 r d)
  g d := g (ix3 0 0 d)
  sc d := sc (ix3 0 0 d)
  sh d := sh (ix3 0 0 d)

theorem mean_apply (r : Fin 256) : mean x (ix2 r 0) = Ffn.mean fun k => x (ix2 r k) := by
  unfold Ffn.mean
  pointwise [mean]

theorem cent_apply (r : Fin 256) (d : Fin 1024) : cent x (ix2 r d) = x (ix2 r d) - Ffn.mean fun k => x (ix2 r k) := by
  rw [← mean_apply]
  unfold cent
  generalize mean x = m
  pointwise

theorem normed_apply (r : Fin 256) (d : Fin 1024) : normed x lg lb (ix2 r d) = Ffn.norm lg lb (fun k => x (ix2 r k)) d := by
  have hv : mean (mulf (cent x) (cent x)) (ix2 r 0)
      = Ffn.mean fun k => (x (ix2 r k) - Ffn.mean fun k => x (ix2 r k)) * (x (ix2 r k) - Ffn.mean fun k => x (ix2 r k)) := by
    rw [mean_apply]
    simp only [← cent_apply]
    rfl
  unfold Ffn.norm
  rw [← hv, ← cent_apply]
  unfold normed
  generalize mean (mulf (cent x) (cent x)) = v
  generalize cent x = y
  pointwise [k0_pay1]

theorem shifted_apply (r : Fin 256) (d : Fin 1024) : shifted x sc sh (ix2 r d) = x (ix2 r d) * (1 + sc (ix3 0 0 d)) + sh (ix3 0 0 d) := by
  pointwise [shifted]

theorem gated_apply (r : Fin 256) (j : Fin 512) : k0_pay4 (F := Ideal) yf yb z (ix2 r j) = Out.gated (row hy att x yf yb z g sc sh r) j := by
  unfold Out.gated Ffn.silu row
  simp only [← zero_sub]
  pointwise [k0_pay4]

theorem lo_apply (r k : Fin 256) :
    k0_pay5 (F := Ideal) yf yb z (ix2 r k) = Out.lo (row hy att x yf yb z g sc sh r) k * Out.rms (Out.lo (row hy att x yf yb z g sc sh r)) := by
  unfold Out.rms Out.lo
  simp only [← gated_apply]
  unfold k0_pay5
  generalize k0_pay4 (F := Ideal) yf yb z = p
  pointwise

theorem hi_apply (r k : Fin 256) : k0_pay6 (F := Ideal) yf yb z (ix2 r k) = Out.hi (row hy att x yf yb z g sc sh r) k := by
  unfold Out.hi
  simp only [← gated_apply]
  unfold k0_pay6
  generalize k0_pay4 (F := Ideal) yf yb z = p
  pointwise

theorem ssd_apply (r : Fin 256) (j : Fin 512) : ssd yf yb z nw (ix2 r j) = Out.ssd nw (row hy att x yf yb z g sc sh r) j := by
  have hlo := lo_apply hy att x yf yb z g sc sh r
  have hhi := hi_apply hy att x yf yb z g sc sh r
  unfold Out.ssd
  unfold ssd k0_pay7
  generalize k0_pay5 (F := Ideal) yf yb z = a at hlo ⊢
  generalize k0_pay6 (F := Ideal) yf yb z = b at hhi ⊢
  pointwise [k0_pay8]
  simp only [hlo, hhi]
  by_cases h : j.val < 256
  · rw [dif_pos h, if_pos h]
    rfl
  · rw [dif_neg h, if_neg h]
    have e : Out.hi (row hy att x yf yb z g sc sh r) ⟨j.val - 256, by omega⟩ = Out.gated (row hy att x yf yb z g sc sh r) j :=
      congrArg (Out.gated _) (Fin.ext (by show 256 + (j.val - 256) = j.val; omega))
    rw [e]
    rfl

variable (w : Out.Wt) (hw0 : ∀ (k : Fin 256) d, w0 (ix2 k d) = w (ix2 ⟨k.val, by omega⟩ d)) (hw1 : ∀ (k : Fin 512) d, w1 (ix2 k d) = w (ix2 ⟨256 + k.val, by omega⟩ d))
  (hw2 : ∀ (k : Fin 256) d, w2 (ix2 k d) = w (ix2 ⟨768 + k.val, by omega⟩ d))
include hw0 hw1 hw2

theorem lin_apply (r : Fin 256) (d : Fin 1024) :
    lin hy att x (ssd yf yb z nw) g w0 w1 w2 (ix2 r d) = Out.lin w nw (row hy att x yf yb z g sc sh r) d := by
  unfold Out.lin
  rw [← Out.prod_split]
  simp only [← hw0, ← hw1, ← hw2, ← ssd_apply]
  generalize ssd yf yb z nw = p
  unfold row
  pointwise [lin, k0_pay3]

theorem x1_apply (r : Fin 256) (d : Fin 1024) :
    normed (lin hy att x (ssd yf yb z nw) g w0 w1 w2) lg lb (ix2 r d) = Out.x1 w nw lg lb (row hy att x yf yb z g sc sh r) d := by
  rw [normed_apply]
  simp only [lin_apply hy att x yf yb z g sc sh w0 w1 w2 nw w hw0 hw1 hw2]
  rfl

theorem h2_apply (r : Fin 256) (d : Fin 1024) :
    shifted (normed (lin hy att x (ssd yf yb z nw) g w0 w1 w2) lg lb) sc sh (ix2 r d) = Out.h2 w nw lg lb (row hy att x yf yb z g sc sh r) d := by
  rw [shifted_apply, x1_apply hy att x yf yb z g sc sh w0 w1 w2 nw lg lb w hw0 hw1 hw2]
  rfl

end

end Cert.Kernel7Ideal.Idx

end
-- ==== Proof.OutFinal.lean ====
/-
  The last layer's output projection: its arrays after the run.
-/
module

public import proofs.«01_k».proof.Proof.OutIdx
public import Idealize.ShloMosaic.Lib.Pipeline.ValueKit.Point

@[expose] public section

set_option maxRecDepth 16384
set_option backward.proofsInPublic true

noncomputable section

namespace Cert.Kernel7Ideal.Final

open Cert.Kernel7Ideal Cert.Kernel7Ideal.Gen Cert.Kernel7Ideal.Idx

open Idealize.ShloMosaic Idealize.ShloMosaic.TcCoe

/-! ## The weights' three parts -/

theorem w0_apply (w : Vec Ideal S1024x1024 .bf16) (k : Fin 256) (d : Fin 1024) : View.ld w r0_2 (ix2 k d) = w (ix2 ⟨k.val, by omega⟩ d) := by
  pointwise

theorem w1_apply (w : Vec Ideal S1024x1024 .bf16) (k : Fin 512) (d : Fin 1024) : View.ld w r0_5 (ix2 k d) = w (ix2 ⟨256 + k.val, by omega⟩ d) := by
  pointwise

theorem w2_apply (w : Vec Ideal S1024x1024 .bf16) (k : Fin 256) (d : Fin 1024) : View.ld w r0_6 (ix2 k d) = w (ix2 ⟨768 + k.val, by omega⟩ d) := by
  pointwise

/-! ## The arrays after the run -/

theorem idx : ∀ t : Fin cfg0.N, win0_0.index t = ![0, t.val] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0, 0] ∧ win0_7.index t = ![0, 0, 0] ∧ win0_8.index t = ![0, 0, 0]
    ∧ win0_9.index t = ![0, 0] ∧ win0_10.index t = ![0, 0] ∧ win0_11.index t = ![0, 0] ∧ win0_12.index t = ![0, 0]
    ∧ win0_13.index t = ![t.val, 0] ∧ win0_14.index t = ![t.val, 0] ∧ t.val < 64 :=
  (by decide +kernel : ∀ t : Fin grid0.N, _)

variable (m : (ℓ : Loc nD τ sig) → Buf (Elt Ideal) ℓ) (c : Dev nD) (t : Fin cfg0.N)

theorem iblk9 : iblk m c 9 t = (m ((c : Thread nD τ).loc main_arg9) : Out.Wt) := by
  funext y
  blk_ext [iblk, V_main_arg9, idx t]

theorem iblk10 : iblk m c 10 t = (m ((c : Thread nD τ).loc main_arg10) : Out.Nt) := by
  funext y
  blk_ext [iblk, V_main_arg10, idx t]

theorem iblk11 : iblk m c 11 t = (m ((c : Thread nD τ).loc main_arg11) : Out.Lt) := by
  funext y
  blk_ext [iblk, V_main_arg11, idx t]

theorem iblk12 : iblk m c 12 t = (m ((c : Thread nD τ).loc main_arg12) : Out.Lt) := by
  funext y
  blk_ext [iblk, V_main_arg12, idx t]

section
variable (r : Fin 256) (hb : 256 * t.val + r.val < 16384)

theorem x0_apply (k : Fin 256) : (iblk m c 0 t : FVec Ideal S256x256 .f32) (ix2 k r)
    = (m ((c : Thread nD τ).loc main_arg0) : Out.Hl) (ix2 k ⟨256 * t.val + r.val, hb⟩) := by
  blk_ext [iblk, V_main_arg0, idx t]

theorem x1_apply (k : Fin 512) : (iblk m c 1 t : FVec Ideal S256x512 .f32) (ix2 r k)
    = (m ((c : Thread nD τ).loc main_arg1) : Out.St) (ix2 ⟨256 * t.val + r.val, by omega⟩ k) := by
  blk_ext [iblk, V_main_arg1, idx t]

theorem x2_apply (k : Fin 512) : (iblk m c 2 t : FVec Ideal S256x512 .f32) (ix2 r k)
    = (m ((c : Thread nD τ).loc main_arg2) : Out.St) (ix2 ⟨256 * t.val + r.val, by omega⟩ k) := by
  blk_ext [iblk, V_main_arg2, idx t]

theorem x3_apply (k : Fin 512) : (iblk m c 3 t : FVec Ideal S256x512 .f32) (ix2 r k)
    = (m ((c : Thread nD τ).loc main_arg3) : Out.St) (ix2 ⟨256 * t.val + r.val, by omega⟩ k) := by
  blk_ext [iblk, V_main_arg3, idx t]

theorem x4_apply (k : Fin 256) : (iblk m c 4 t : FVec Ideal S256x256 .f32) (ix2 r k)
    = (m ((c : Thread nD τ).loc main_arg4) : Out.Al) (ix2 ⟨256 * t.val + r.val, hb⟩ k) := by
  blk_ext [iblk, V_main_arg4, idx t]

theorem x5_apply (k : Fin 1024) : (iblk m c 5 t : FVec Ideal S256x1024 .f32) (ix2 r k)
    = (m ((c : Thread nD τ).loc main_arg5) : Out.Xt) (ix2 ⟨256 * t.val + r.val, by omega⟩ k) := by
  blk_ext [iblk, V_main_arg5, idx t]

end

theorem x6_apply (k : Fin 1024) : (iblk m c 6 t : FVec Ideal S1x1x1024 .f32) (ix3 0 0 k) = (m ((c : Thread nD τ).loc main_arg6) : Out.Mt) (ix3 0 0 k) := by
  blk_ext [iblk, V_main_arg6, idx t]

theorem x7_apply (k : Fin 1024) : (iblk m c 7 t : FVec Ideal S1x1x1024 .f32) (ix3 0 0 k) = (m ((c : Thread nD τ).loc main_arg7) : Out.Mt) (ix3 0 0 k) := by
  blk_ext [iblk, V_main_arg7, idx t]

theorem x8_apply (k : Fin 1024) : (iblk m c 8 t : FVec Ideal S1x1x1024 .f32) (ix3 0 0 k) = (m ((c : Thread nD τ).loc main_arg8) : Out.Mt) (ix3 0 0 k) := by
  blk_ext [iblk, V_main_arg8, idx t]

/-- The rows, the weights and the norms' parameters that the call was given. -/
abbrev rows : Fin 16384 → Out.Row :=
  Out.latent (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
abbrev weights : Out.Wt := m ((c : Thread nD τ).loc main_arg9)
abbrev group : Out.Nt := m ((c : Thread nD τ).loc main_arg10)
abbrev gain : Out.Lt := m ((c : Thread nD τ).loc main_arg11)
abbrev bias : Out.Lt := m ((c : Thread nD τ).loc main_arg12)

/-- A block's row is a row of the arrays. -/
theorem row_eq (r : Fin 256) (R : Fin 16384) (hR : R.val = 256 * t.val + r.val) :
    row (iblk m c 0 t) (iblk m c 4 t) (iblk m c 5 t) (iblk m c 1 t) (iblk m c 2 t) (iblk m c 3 t) (iblk m c 6 t) (iblk m c 7 t) (iblk m c 8 t) r
      = rows m c R := by
  have ht := (idx t).2.2.2.2.2.2.2.2.2.2.2.2.2.2.2
  have hr := r.isLt
  have hb : 256 * t.val + r.val < 16384 := by omega
  obtain rfl : R = ⟨256 * t.val + r.val, hb⟩ := Fin.ext hR
  unfold row rows Out.latent
  simp only [x0_apply m c t r hb, x1_apply m c t r hb, x2_apply m c t r hb, x3_apply m c t r hb, x4_apply m c t r hb, x5_apply m c t r hb,
    x6_apply, x7_apply, x8_apply]

theorem x1_final : (dats m 0 c).arrAt 13 cfg0.N = Out.x1At (rows m c) (weights m c) (group m c) (gain m c) (bias m c) := by
  refine (dats m 0 c).arrAt_eq_of_covers 13 _ (by decide +kernel) fun t _ y => ?_
  blk_simp
  rw [after0_13]
  unfold_out out0_13
  frame_out
  idx_vars y
  rw [iblk9, iblk10, iblk11, iblk12, pay1_eq]
  refine (Idx.x1_apply _ _ _ _ _ _ _ (iblk m c 7 t) (iblk m c 8 t) _ _ _ _ _ _ _ (w0_apply _) (w1_apply _) (w2_apply _) _ _).trans ?_
  refine congrArg₂ (Out.x1 (weights m c) (group m c) (gain m c) (bias m c)) (row_eq m c t _ _ ?_) ?_
  · blk_simp [idx t]
    dsimp only
    omega
  · blk_simp [idx t]

theorem h2_final : (dats m 0 c).arrAt 14 cfg0.N = Out.h2At (rows m c) (weights m c) (group m c) (gain m c) (bias m c) := by
  refine (dats m 0 c).arrAt_eq_of_covers 14 _ (by decide +kernel) fun t _ y => ?_
  blk_simp
  rw [after0_14]
  unfold_out out0_14
  frame_out
  idx_vars y
  rw [iblk9, iblk10, iblk11, iblk12, pay2_eq]
  refine (Idx.h2_apply _ _ _ _ _ _ _ _ _ _ _ _ _ _ _ _ (w0_apply _) (w1_apply _) (w2_apply _) _ _).trans ?_
  refine congrArg₂ (Out.h2 (weights m c) (group m c) (gain m c) (bias m c)) (row_eq m c t _ _ ?_) ?_
  · blk_simp [idx t]
    dsimp only
    omega
  · blk_simp [idx t]

end Cert.Kernel7Ideal.Final

end
-- ==== Proof.OutSplit.lean ====
/-
  The first layer's output projection: its body is the last layer's after the choice between the two sequences' arrays.
-/
module

public import proofs.«01_k».proof.Proof.Gen.Kernel6Ideal.Value
public import proofs.«01_k».proof.Proof.OutFinal

@[expose] public section

set_option maxRecDepth 16384
set_option backward.proofsInPublic true

noncomputable section

namespace Cert.Kernel6Ideal.Final

open Cert.Kernel6Ideal Cert.Kernel6Ideal.Gen

open Idealize.ShloMosaic Idealize.ShloMosaic.TcCoe

open Cert.Kernel7Ideal.Idx (ssd lin normed shifted row)
open Cert.Kernel7Ideal.Final (w0_apply w1_apply w2_apply)

theorem idx : ∀ t : Fin cfg0.N, win0_0.index t = ![0, min t.val 63] ∧ win0_1.index t = ![0, 0] ∧ win0_2.index t = ![t.val, 0]
    ∧ win0_3.index t = ![t.val, 0] ∧ win0_4.index t = ![t.val, 0] ∧ win0_5.index t = ![min t.val 63, 0] ∧ win0_6.index t = ![0, 0]
    ∧ win0_7.index t = ![min t.val 63, 0] ∧ win0_8.index t = ![0, 0] ∧ win0_9.index t = ![t.val / 64, 0, 0] ∧ win0_10.index t = ![t.val / 64, 0, 0]
    ∧ win0_11.index t = ![t.val / 64, 0, 0] ∧ win0_12.index t = ![0, 0] ∧ win0_13.index t = ![0, 0] ∧ win0_14.index t = ![0, 0] ∧ win0_15.index t = ![0, 0]
    ∧ win0_16.index t = ![t.val, 0] ∧ win0_17.index t = ![t.val, 0] ∧ t.val < 65 :=
  (by decide +kernel : ∀ t : Fin grid0.N, _)

/-- The condition of the choice: the last tile is the context's. -/
theorem ctx : ∀ t : Fin cfg0.N, Scalar.cmpi .eq (BitVec.ofNat 32 (grid0.coords t 0).val) 64#32 = if t.val < 64 then 0#1 else 1#1 :=
  (by decide +kernel : ∀ t : Fin grid0.N, _)

/-- The block that the body works on: the latent tokens' or, in the last tile, the context's. -/
def pick {s : Shape} (t : Fin cfg0.N) (xm xc : FVec Ideal s .f32) : FVec Ideal s .f32 :=
  Scalar.select (Scalar.cmpi .eq (BitVec.ofNat 32 (grid0.coords t 0).val) 64#32) xc xm

theorem pick_lat {s : Shape} (t : Fin cfg0.N) (xm xc : FVec Ideal s .f32) (h : t.val < 64) : pick t xm xc = xm := by
  unfold pick
  rw [ctx, if_pos h]
  rfl

theorem pick_ctx {s : Shape} (t : Fin cfg0.N) (xm xc : FVec Ideal s .f32) (h : ¬t.val < 64) : pick t xm xc = xc := by
  unfold pick
  rw [ctx, if_neg h]
  rfl

section
variable (t : Fin cfg0.N) (hm hc am ac : FVec Ideal S256x256 .f32) (xm xc : FVec Ideal S256x1024 .f32) (yf yb z : FVec Ideal S256x512 .f32)
  (g sc sh : FVec Ideal S1x1x1024 .f32) (w0 : FVec Ideal S256x1024 .bf16) (w1 : FVec Ideal S512x1024 .bf16) (w2 : FVec Ideal S256x1024 .bf16)
  (nw : FVec Ideal S1x512 .f32) (lg lb : FVec Ideal S1x1024 .f32)

theorem pay1_eq : k0_pay1 (F := Ideal)
      (k0_pay10 (k0_pay3 (grid0.coords t) am ac) (k0_pay4 (grid0.coords t) xm xc) (k0_pay5 (grid0.coords t) hm hc w0) (k0_pay6 yf yb z) (k0_pay7 yf yb z)
        (k0_pay8 yf yb z) k0_pay9 nw w1 w2 g) lg lb
      (k0_pay11 (k0_pay3 (grid0.coords t) am ac) (k0_pay4 (grid0.coords t) xm xc) (k0_pay5 (grid0.coords t) hm hc w0) (k0_pay6 yf yb z) (k0_pay7 yf yb z)
        (k0_pay8 yf yb z) k0_pay9 nw w1 w2 g)
    = normed (lin (pick t hm hc) (pick t am ac) (pick t xm xc) (ssd yf yb z nw) g w0 w1 w2) lg lb := rfl

theorem pay2_eq : k0_pay2 (F := Ideal)
      (k0_pay10 (k0_pay3 (grid0.coords t) am ac) (k0_pay4 (grid0.coords t) xm xc) (k0_pay5 (grid0.coords t) hm hc w0) (k0_pay6 yf yb z) (k0_pay7 yf yb z)
        (k0_pay8 yf yb z) k0_pay9 nw w1 w2 g) lg lb
      (k0_pay11 (k0_pay3 (grid0.coords t) am ac) (k0_pay4 (grid0.coords t) xm xc) (k0_pay5 (grid0.coords t) hm hc w0) (k0_pay6 yf yb z) (k0_pay7 yf yb z)
        (k0_pay8 yf yb z) k0_pay9 nw w1 w2 g) sc sh
    = shifted (normed (lin (pick t hm hc) (pick t am ac) (pick t xm xc) (ssd yf yb z nw) g w0 w1 w2) lg lb) sc sh := rfl

end

/-! ## The arrays after the run -/

variable (m : (ℓ : Loc nD τ sig) → Buf (Elt Ideal) ℓ) (c : Dev nD) (t : Fin cfg0.N)

theorem iblk12 : iblk m c 12 t = (m ((c : Thread nD τ).loc main_arg12) : Out.Wt) := by
  funext y
  blk_ext [iblk, V_main_arg12, idx t]

theorem iblk13 : iblk m c 13 t = (m ((c : Thread nD τ).loc main_arg13) : Out.Nt) := by
  funext y
  blk_ext [iblk, V_main_arg13, idx t]

theorem iblk14 : iblk m c 14 t = (m ((c : Thread nD τ).loc main_arg14) : Out.Lt) := by
  funext y
  blk_ext [iblk, V_main_arg14, idx t]

theorem iblk15 : iblk m c 15 t = (m ((c : Thread nD τ).loc main_arg15) : Out.Lt) := by
  funext y
  blk_ext [iblk, V_main_arg15, idx t]

section
variable (r : Fin 256) (hb : 256 * t.val + r.val < 16640)

theorem x2_apply (k : Fin 512) : (iblk m c 2 t : FVec Ideal S256x512 .f32) (ix2 r k)
    = (m ((c : Thread nD τ).loc main_arg2) : Out.St) (ix2 ⟨256 * t.val + r.val, hb⟩ k) := by
  blk_ext [iblk, V_main_arg2, idx t]

theorem x3_apply (k : Fin 512) : (iblk m c 3 t : FVec Ideal S256x512 .f32) (ix2 r k)
    = (m ((c : Thread nD τ).loc main_arg3) : Out.St) (ix2 ⟨256 * t.val + r.val, hb⟩ k) := by
  blk_ext [iblk, V_main_arg3, idx t]

theorem x4_apply (k : Fin 512) : (iblk m c 4 t : FVec Ideal S256x512 .f32) (ix2 r k)
    = (m ((c : Thread nD τ).loc main_arg4) : Out.St) (ix2 ⟨256 * t.val + r.val, hb⟩ k) := by
  blk_ext [iblk, V_main_arg4, idx t]

end

section
variable (r : Fin 256) (h0 : t.val < 64) (hb : 256 * t.val + r.val < 16384)
include h0

theorem x0_apply (k : Fin 256) : (iblk m c 0 t : FVec Ideal S256x256 .f32) (ix2 k r)
    = (m ((c : Thread nD τ).loc main_arg0) : Out.Hl) (ix2 k ⟨256 * t.val + r.val, hb⟩) := by
  blk_ext [iblk, V_main_arg0, idx t]

theorem x5_apply (k : Fin 256) : (iblk m c 5 t : FVec Ideal S256x256 .f32) (ix2 r k)
    = (m ((c : Thread nD τ).loc main_arg5) : Out.Al) (ix2 ⟨256 * t.val + r.val, hb⟩ k) := by
  blk_ext [iblk, V_main_arg5, idx t]

theorem x7_apply (k : Fin 1024) : (iblk m c 7 t : FVec Ideal S256x1024 .f32) (ix2 r k)
    = (m ((c : Thread nD τ).loc main_arg7) : Out.Xl) (ix2 ⟨256 * t.val + r.val, hb⟩ k) := by
  blk_ext [iblk, V_main_arg7, idx t]

end

theorem iblk1 : iblk m c 1 t = (m ((c : Thread nD τ).loc main_arg1) : Out.Hc) := by
  funext y
  blk_ext [iblk, V_main_arg1, idx t]

theorem iblk6 : iblk m c 6 t = (m ((c : Thread nD τ).loc main_arg6) : Out.Ac) := by
  funext y
  blk_ext [iblk, V_main_arg6, idx t]

theorem iblk8 : iblk m c 8 t = (m ((c : Thread nD τ).loc main_arg8) : Out.Xc) := by
  funext y
  blk_ext [iblk, V_main_arg8, idx t]

section
variable (k : Fin 1024) (hb : t.val / 64 < 2)

theorem x9_apply : (iblk m c 9 t : FVec Ideal S1x1x1024 .f32) (ix3 0 0 k)
    = (m ((c : Thread nD τ).loc main_arg9) : Out.Mt) (ix3 ⟨t.val / 64, hb⟩ 0 k) := by
  blk_ext [iblk, V_main_arg9, idx t]

theorem x10_apply : (iblk m c 10 t : FVec Ideal S1x1x1024 .f32) (ix3 0 0 k)
    = (m ((c : Thread nD τ).loc main_arg10) : Out.Mt) (ix3 ⟨t.val / 64, hb⟩ 0 k) := by
  blk_ext [iblk, V_main_arg10, idx t]

theorem x11_apply : (iblk m c 11 t : FVec Ideal S1x1x1024 .f32) (ix3 0 0 k)
    = (m ((c : Thread nD τ).loc main_arg11) : Out.Mt) (ix3 ⟨t.val / 64, hb⟩ 0 k) := by
  blk_ext [iblk, V_main_arg11, idx t]

end

/-- The rows, the weights and the norms' parameters that the call was given. -/
abbrev rows : Fin 16640 → Out.Row :=
  Out.both (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
abbrev weights : Out.Wt := m ((c : Thread nD τ).loc main_arg12)
abbrev group : Out.Nt := m ((c : Thread nD τ).loc main_arg13)
abbrev gain : Out.Lt := m ((c : Thread nD τ).loc main_arg14)
abbrev bias : Out.Lt := m ((c : Thread nD τ).loc main_arg15)

/-- A block's row is a row of the arrays. -/
theorem row_eq (r : Fin 256) (R : Fin 16640) (hR : R.val = 256 * t.val + r.val) :
    row (pick (s := S256x256) t (iblk m c 0 t) (iblk m c 1 t)) (pick (s := S256x256) t (iblk m c 5 t) (iblk m c 6 t))
      (pick (s := S256x1024) t (iblk m c 7 t) (iblk m c 8 t))
      (iblk m c 2 t) (iblk m c 3 t) (iblk m c 4 t) (iblk m c 9 t) (iblk m c 10 t) (iblk m c 11 t) r
      = rows m c R := by
  have ht := (idx t).2.2.2.2.2.2.2.2.2.2.2.2.2.2.2.2.2.2
  have hr := r.isLt
  have hb : 256 * t.val + r.val < 16640 := by omega
  have hd : t.val / 64 < 2 := by omega
  obtain rfl : R = ⟨256 * t.val + r.val, hb⟩ := Fin.ext hR
  have hs : ∀ s : Fin 2, s.val = t.val / 64 → (⟨t.val / 64, hd⟩ : Fin 2) = s := fun s h => Fin.ext h.symm
  unfold row rows Out.both
  by_cases h : t.val < 64
  · have hl : 256 * t.val + r.val < 16384 := by omega
    simp only [pick_lat t _ _ h, dif_pos hl, if_pos hl, x2_apply m c t r hb, x3_apply m c t r hb, x4_apply m c t r hb, x0_apply m c t r h hl,
      x5_apply m c t r h hl, x7_apply m c t r h hl, x9_apply m c t _ hd, x10_apply m c t _ hd, x11_apply m c t _ hd,
      hs 0 (by show 0 = t.val / 64; omega)]
  · have hl : ¬256 * t.val + r.val < 16384 := by omega
    have e : (⟨256 * t.val + r.val - 16384, by omega⟩ : Fin 256) = r := Fin.ext (by show 256 * t.val + r.val - 16384 = r.val; omega)
    simp only [pick_ctx t _ _ h, dif_neg hl, if_neg hl, x2_apply m c t r hb, x3_apply m c t r hb, x4_apply m c t r hb, iblk1, iblk6, iblk8,
      x9_apply m c t _ hd, x10_apply m c t _ hd, x11_apply m c t _ hd, hs 1 (by show 1 = t.val / 64; omega), e]

theorem x1_final : (dats m 0 c).arrAt 16 cfg0.N = Out.x1At (rows m c) (weights m c) (group m c) (gain m c) (bias m c) := by
  refine (dats m 0 c).arrAt_eq_of_covers 16 _ (by decide +kernel) fun t _ y => ?_
  blk_simp
  rw [after0_16]
  unfold_out out0_16
  frame_out
  idx_vars y
  rw [iblk12, iblk13, iblk14, iblk15, pay1_eq]
  refine (Kernel7Ideal.Idx.x1_apply _ _ _ _ _ _ _ (iblk m c 10 t) (iblk m c 11 t) _ _ _ _ _ _ _ (w0_apply _) (w1_apply _) (w2_apply _) _ _).trans ?_
  refine congrArg₂ (Out.x1 (weights m c) (group m c) (gain m c) (bias m c)) (row_eq m c t _ _ ?_) ?_
  · blk_simp [idx t]
    dsimp only
    omega
  · blk_simp [idx t]

theorem h2_final : (dats m 0 c).arrAt 17 cfg0.N = Out.h2At (rows m c) (weights m c) (group m c) (gain m c) (bias m c) := by
  refine (dats m 0 c).arrAt_eq_of_covers 17 _ (by decide +kernel) fun t _ y => ?_
  blk_simp
  rw [after0_17]
  unfold_out out0_17
  frame_out
  idx_vars y
  rw [iblk12, iblk13, iblk14, iblk15, pay2_eq]
  refine (Kernel7Ideal.Idx.h2_apply _ _ _ _ _ _ _ _ _ _ _ _ _ _ _ _ (w0_apply _) (w1_apply _) (w2_apply _) _ _).trans ?_
  refine congrArg₂ (Out.h2 (weights m c) (group m c) (gain m c) (bias m c)) (row_eq m c t _ _ ?_) ?_
  · blk_simp [idx t]
    dsimp only
    omega
  · blk_simp [idx t]

end Cert.Kernel6Ideal.Final

end
-- ==== Proof.Mod.lean ====
/-
  The modulation of a layer: each vector gated by its own sigmoid, its product with the layer's weights, and the bias.
-/
module

public import proofs.«01_k».proof.Proof.Ffn

@[expose] public section

set_option backward.proofsInPublic true

noncomputable section

namespace Cert.Mod

open Idealize.ShloMosaic

abbrev Ct := FVec Ideal (⟨2, ![8, 1024]⟩ : Shape) .f32
abbrev Wt := FVec Ideal (⟨3, ![2, 1024, 6144]⟩ : Shape) .f32
abbrev Bt := FVec Ideal (⟨2, ![2, 6144]⟩ : Shape) .f32

/-- Vector `r`'s modulation in layer `l`, at column `j`. -/
def entry (c : Ct) (w : Wt) (b : Bt) (l : Fin 2) (r : Fin 8) (j : Fin 6144) : EReal :=
  (∑ k : Fin 1024, Ffn.silu (c (ix2 r k)) * w (ix3 l k j)) + b (ix2 l j)

/-- The call's array. -/
def array (c : Ct) (w : Wt) (b : Bt) (i : (⟨3, ![2, 8, 6144]⟩ : Shape).Idx) : EReal :=
  entry c w b ⟨(i 0).val, (i 0).isLt⟩ ⟨(i 1).val, (i 1).isLt⟩ ⟨(i 2).val, (i 2).isLt⟩

/-- An entry of the array from its three numbers. -/
theorem entry_of (c : Ct) (w : Wt) (b : Bt) {l : Fin 2} {r : Fin 8} {j : Fin 6144} {i : (⟨3, ![2, 8, 6144]⟩ : Shape).Idx} (hl : (i 0).val = l.val)
    (hr : (i 1).val = r.val) (hj : (i 2).val = j.val) : entry c w b l r j = array c w b i := by
  unfold array
  rw [show (⟨(i 0).val, (i 0).isLt⟩ : Fin 2) = l from Fin.ext hl, show (⟨(i 1).val, (i 1).isLt⟩ : Fin 8) = r from Fin.ext hr,
    show (⟨(i 2).val, (i 2).isLt⟩ : Fin 6144) = j from Fin.ext hj]

end Cert.Mod

end
-- ==== Proof.ModFinal.lean ====
/-
  The modulation: a block of its result by row and column, and its array after the run.
-/
module

public import proofs.«01_k».proof.Proof.Gen.Kernel8Ideal.Value
public import proofs.«01_k».proof.Proof.Mod
public import Idealize.ShloMosaic.Lib.StableHlo.RunRead
public import Idealize.ShloMosaic.Lib.Pipeline.ValueKit.Point

@[expose] public section

set_option maxRecDepth 16384
set_option backward.proofsInPublic true

noncomputable section

namespace Cert.Kernel8Ideal.Final

open Cert.Kernel8Ideal Cert.Kernel8Ideal.Gen

open Idealize.ShloMosaic Idealize.ShloMosaic.TcCoe

/-- The vectors, each gated by its own sigmoid. -/
def gate (c : FVec Ideal S8x1024 .f32) : FVec Ideal S8x1024 .f32 :=
  mulf c (divf (broadcast S8x1024 (Scalar.ofBits .f32 0x3F800000#32)) (addf (broadcast S8x1024 (Scalar.ofBits .f32 0x3F800000#32))
    (exp (subf (broadcast S8x1024 (Scalar.ofBits .f32 0x00000000#32)) c))))

/-- A block from the gated vectors. -/
def block (s : FVec Ideal S8x1024 .f32) (w : FVec Ideal S1x1024x1536 .f32) (b : FVec Ideal S1x1x1536 .f32) : FVec Ideal S1x8x1536 .f32 :=
  shapeCast S1x8x1536 (addf (matmul dot_S8x1024_S1024x1536_S8x1536_1_0_0_1_n_n none (truncf .bf16 s bitsLt_bf16_f32)
      (truncf .bf16 (shapeCast S1024x1536 w shapeCasts_S1x1024x1536_S1024x1536) bitsLt_bf16_f32) (constant S8x1536 .f32 0x00000000#32))
    (broadcastTo S8x1536 (shapeCast S1x1536 b shapeCasts_S1x1x1536_S1x1536) broadcasts_S1x1536_S8x1536)) shapeCasts_S8x1536_S1x8x1536

theorem pay1_eq (c : FVec Ideal S8x1024 .f32) (w : FVec Ideal S1x1024x1536 .f32) (b : FVec Ideal S1x1x1536 .f32) :
    k0_pay1 (F := Ideal) c w b = block (gate c) w b := rfl

theorem gate_apply (c : FVec Ideal S8x1024 .f32) (r : Fin 8) (k : Fin 1024) : gate c (ix2 r k) = Ffn.silu (c (ix2 r k)) := by
  unfold Ffn.silu
  simp only [← zero_sub]
  pointwise [gate]

theorem block_apply (c : FVec Ideal S8x1024 .f32) (w : FVec Ideal S1x1024x1536 .f32) (b : FVec Ideal S1x1x1536 .f32) (z : Fin 1) (r : Fin 8) (j : Fin 1536) :
    block (gate c) w b (ix3 z r j) = (∑ k : Fin 1024, Ffn.silu (c (ix2 r k)) * w (ix3 0 k j)) + b (ix3 0 0 j) := by
  simp only [← gate_apply]
  generalize gate c = s
  pointwise [block]

/-! ## The array after the run -/

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] ∧ t.val < 8 :=
  (by decide +kernel : ∀ t : Fin grid0.N, _)

variable (m : (ℓ : Loc nD τ sig) → Buf (Elt Ideal) ℓ) (c : Dev nD) (t : Fin cfg0.N)

/-- The vectors, the weights and the biases that the call was given. -/
abbrev vecs : Mod.Ct := m ((c : Thread nD τ).loc main_arg0)
abbrev weights : Mod.Wt := m ((c : Thread nD τ).loc main_arg1)
abbrev biases : Mod.Bt := m ((c : Thread nD τ).loc main_arg2)

theorem entry_bias : (V m c main_v0 : FVec Ideal S2x1x6144 .f32) = shapeCast S2x1x6144 (biases m c) shapeCasts_S2x6144_S2x1x6144 := by
  simp only [V, hostOps0, List.flatten_cons, List.flatten_nil, List.append_nil, List.cons_append, List.nil_append]
  after_reads_simp
  rfl

theorem iblk0 : iblk m c 0 t = vecs m c := by
  funext y
  blk_ext [iblk, V_main_arg0, idx t]

theorem x1_apply (k : Fin 1024) (j : Fin 1536) (hl : t.val / 4 < 2) (hj : 1536 * (t.val % 4) + j.val < 6144) :
    (iblk m c 1 t : FVec Ideal S1x1024x1536 .f32) (ix3 0 k j) = weights m c (ix3 ⟨t.val / 4, hl⟩ k ⟨1536 * (t.val % 4) + j.val, hj⟩) := by
  blk_ext [iblk, V_main_arg1, idx t]

theorem x2_apply (j : Fin 1536) (hl : t.val / 4 < 2) (hj : 1536 * (t.val % 4) + j.val < 6144) :
    (iblk m c 2 t : FVec Ideal S1x1x1536 .f32) (ix3 0 0 j) = biases m c (ix2 ⟨t.val / 4, hl⟩ ⟨1536 * (t.val % 4) + j.val, hj⟩) := by
  trans (shapeCast S2x1x6144 (biases m c) shapeCasts_S2x6144_S2x1x6144) (ix3 ⟨t.val / 4, hl⟩ 0 ⟨1536 * (t.val % 4) + j.val, hj⟩)
  · rw [← entry_bias]
    blk_ext [iblk, idx t]
  · generalize biases m c = b
    pointwise

/-- A block's entry is an entry of the array. -/
theorem block_entry (z : Fin 1) (r : Fin 8) (j : Fin 1536) (hl : t.val / 4 < 2) (hj : 1536 * (t.val % 4) + j.val < 6144) :
    block (gate (vecs m c)) (iblk m c 1 t) (iblk m c 2 t) (ix3 z r j)
      = Mod.entry (vecs m c) (weights m c) (biases m c) ⟨t.val / 4, hl⟩ r ⟨1536 * (t.val % 4) + j.val, hj⟩ := by
  rw [block_apply, x2_apply m c t j hl hj]
  simp only [x1_apply m c t _ j hl hj]
  rfl

theorem final : (dats m 0 c).arrAt 3 cfg0.N = Mod.array (vecs m c) (weights m c) (biases m c) := by
  refine (dats m 0 c).arrAt_eq_of_covers 3 _ (by decide +kernel) fun t _ y => ?_
  have ht := (idx t).2.2.2.2
  blk_simp
  rw [after0_3]
  frame_out
  idx_vars y
  rw [iblk0, pay1_eq]
  refine (block_entry m c t _ _ _ (by omega) (by omega)).trans (Mod.entry_of _ _ _ ?_ ?_ ?_)
  · blk_simp [idx t]
  · blk_simp [idx t]
  · blk_simp [idx t]
    dsimp only
    omega

end Cert.Kernel8Ideal.Final

end
-- ==== Proof.ModRef.lean ====
/-
  The reference of the modulation: its result by row and column.
-/
module

public import proofs.«01_k».proof.Proof.Gen.Reference8Ideal.Read
public import proofs.«01_k».proof.Proof.Mod

@[expose] public section

set_option maxRecDepth 16384
set_option backward.proofsInPublic true

noncomputable section

open Idealize.ShloMosaic

namespace Cert.Reference8Ideal.RefVal

open Cert.Reference8Ideal Cert.Reference8Ideal.Gen Cert.Reference8Ideal.Read

variable (c : Mod.Ct) (w : Mod.Wt) (b : Mod.Bt)

theorem gate_apply (r : Fin 8) (k : Fin 1024) : val_main_v6 (F := Ideal) c (ix2 r k) = Ffn.silu (c (ix2 r k)) := by
  unfold Ffn.silu
  pointwise [val_main_v6, val_main_v5, val_main_v4, val_main_v3, val_main_v2, val_main_v1, val_main_v0, val_main_cst, val_main_cst_0]

theorem first_apply (r : Fin 8) (j : Fin 6144) : val_main_v14 (F := Ideal) c w b (ix2 r j) = Mod.entry c w b 0 r j := by
  unfold Mod.entry
  simp only [← gate_apply]
  unfold val_main_v14 val_main_v9
  generalize val_main_v6 (F := Ideal) c = s
  pointwise [val_main_v13, val_main_v12, val_main_v11, val_main_v10, val_main_v8, val_main_v7]

theorem last_apply (r : Fin 8) (j : Fin 6144) : val_main_v22 (F := Ideal) c w b (ix2 r j) = Mod.entry c w b 1 r j := by
  unfold Mod.entry
  simp only [← gate_apply]
  unfold val_main_v22 val_main_v17
  generalize val_main_v6 (F := Ideal) c = s
  pointwise [val_main_v21, val_main_v20, val_main_v19, val_main_v18, val_main_v16, val_main_v15]

theorem array_apply (l : Fin 2) (r : Fin 8) (j : Fin 6144) : val_main_v25 (F := Ideal) c w b (ix3 l r j) = Mod.entry c w b l r j := by
  have h0 := first_apply c w b r j
  have h1 := last_apply c w b r j
  unfold val_main_v25 val_main_v24 val_main_v23
  generalize val_main_v14 (F := Ideal) c w b = p at h0 ⊢
  generalize val_main_v22 (F := Ideal) c w b = q at h1 ⊢
  fin_cases l
  · refine Eq.trans ?_ h0
    pointwise
  · refine Eq.trans ?_ h1
    pointwise

theorem array_eq : val_main_v25 (F := Ideal) c w b = Mod.array c w b := by
  funext i
  idx_vars i
  exact array_apply c w b _ _ _

end Cert.Reference8Ideal.RefVal

end
-- ==== Proof.Filt.lean ====
/-
  The implicit filters of the long convolutions: a small sine network of the position features, under a decaying window.
-/
module

public import proofs.«01_k».proof.Proof.Ffn

@[expose] public section

set_option backward.proofsInPublic true

noncomputable section

namespace Cert.Filt

open Idealize.ShloMosaic

abbrev W1t := FVec Ideal (⟨2, ![33, 64]⟩ : Shape) .f32
abbrev Bt := FVec Ideal (⟨1, ![64]⟩ : Shape) .f32
abbrev W2t := FVec Ideal (⟨2, ![64, 64]⟩ : Shape) .f32
abbrev W3t := FVec Ideal (⟨2, ![64, 1024]⟩ : Shape) .f32

/-! ## The constants -/

/-- The lowest frequency. -/
theorem low_word : Ideal.ofBits .f32 0x38D1B717#32 = ((13743895 / 137438953472 : ℝ) : EReal) := by
  simp [Ideal.ofBits, Ideal.ieee, -EReal.coe_mul]; norm_num

/-- The slowest and the fastest rate of decay. -/
theorem min_word : Ideal.ofBits .f32 0xC0447CBD#32 = ((-(12876989 / 4194304) : ℝ) : EReal) := by
  simp [Ideal.ofBits, Ideal.ieee, -EReal.coe_mul]; norm_num

theorem max_word : Ideal.ofBits .f32 0xC1759BEC#32 = ((-(16096236 / 1048576) : ℝ) : EReal) := by
  simp [Ideal.ofBits, Ideal.ieee, -EReal.coe_mul]; norm_num

theorem word_0 : Ideal.ofBits .f32 0x00000000#32 = ((0 : ℝ) : EReal) := by
  rw [Ideal.ofBits_zero_f32, EReal.coe_zero]

theorem word_1 : Ideal.ofBits .f32 0x3F800000#32 = ((1 : ℝ) : EReal) := by
  simp [Ideal.ofBits, Ideal.ieee, -EReal.coe_mul]; norm_num

theorem word_15 : Ideal.ofBits .f32 0x41700000#32 = ((15 : ℝ) : EReal) := by
  simp [Ideal.ofBits, Ideal.ieee, -EReal.coe_mul]; norm_num

theorem word_255 : Ideal.ofBits .f32 0x437F0000#32 = ((255 : ℝ) : EReal) := by
  simp [Ideal.ofBits, Ideal.ieee, -EReal.coe_mul]; norm_num

theorem word_16383 : Ideal.ofBits .f32 0x467FFC00#32 = ((16383 : ℝ) : EReal) := by
  simp [Ideal.ofBits, Ideal.ieee, -EReal.coe_mul]; norm_num

/-! ## The filters -/

/-- Position `k` as a share of the length; `u` is one over the last position. -/
def time (u : ℝ) (k : Nat) : EReal := ((k : ℝ) : EReal) * (u : EReal)

/-- Band `b`'s frequency: equal steps from the lowest to fifteen. -/
def band (b : Nat) : EReal := Ideal.ofBits .f32 0x38D1B717#32 + ((b : ℝ) : EReal) * ((412314111637 / 412316860416 : ℝ) : EReal)

/-- Band `b`'s angle at position `k`; `w` is the turn per position. -/
def angle (w : EReal) (k b : Nat) : EReal := band b * (((k : ℝ) : EReal) * w)

/-- The features of a position: its time, the cosines of its angles, and their sines negated. -/
def feat (u : ℝ) (w : EReal) (k f : Nat) : EReal :=
  if f = 0 then time u k else if f < 17 then Ideal.cos (angle w k (f - 1)) else -Ideal.sin (angle w k (f - 17))

/-- The first sine layer. -/
def hid1 (u : ℝ) (w : EReal) (w1 : W1t) (b1 fr : Bt) (k : Nat) (j : Fin 64) : EReal :=
  Ideal.sin (fr (ix1 j) * ((∑ f : Fin 33, feat u w k f.val * w1 (ix2 f j)) + b1 (ix1 j)))

/-- The second sine layer. -/
def hid2 (u : ℝ) (w : EReal) (w1 : W1t) (b1 : Bt) (w2 : W2t) (b2 fr : Bt) (k : Nat) (j : Fin 64) : EReal :=
  Ideal.sin (fr (ix1 j) * ((∑ i : Fin 64, hid1 u w w1 b1 fr k i * w2 (ix2 i j)) + b2 (ix1 j)))

/-- Channel `c`'s rate of decay: equal steps from the slowest to the fastest. -/
def rate (c : Nat) : EReal := Ideal.ofBits .f32 0xC0447CBD#32 + ((c : ℝ) : EReal) * ((-10301591 / 213909504 : ℝ) : EReal)

/-- The window of channel `c` at position `k`. -/
def window (u : ℝ) (k c : Nat) : EReal := Ideal.exp (-time u k * max (rate c) (-rate c))

theorem col_lt (q : Fin 4) (c : Fin 256) : 256 * q.val + c.val < 1024 := by omega

/-- Filter `q`, channel `c`, at position `k`. -/
def entry (u : ℝ) (w : EReal) (w1 : W1t) (b1 : Bt) (w2 : W2t) (b2 : Bt) (w3 : W3t) (fr : Bt) (q : Fin 4) (c : Fin 256) (k : Nat) : EReal :=
  (∑ i : Fin 64, hid2 u w w1 b1 w2 b2 fr k i * w3 (ix2 i ⟨256 * q.val + c.val, col_lt q c⟩)) * window u k c.val

/-- The array of a call over `n` positions. -/
def array (n : Nat) (u : ℝ) (w : EReal) (w1 : W1t) (b1 : Bt) (w2 : W2t) (b2 : Bt) (w3 : W3t) (fr : Bt) (i : (⟨3, ![4, 256, n]⟩ : Shape).Idx) : EReal :=
  entry u w w1 b1 w2 b2 w3 fr ⟨(i 0).val, (i 0).isLt⟩ ⟨(i 1).val, (i 1).isLt⟩ (i 2).val

/-- An entry of the array from its three numbers. -/
theorem entry_of (n : Nat) (u : ℝ) (w : EReal) (w1 : W1t) (b1 : Bt) (w2 : W2t) (b2 : Bt) (w3 : W3t) (fr : Bt) {q : Fin 4} {c : Fin 256} {k : Nat}
    {i : (⟨3, ![4, 256, n]⟩ : Shape).Idx} (hq : (i 0).val = q.val) (hc : (i 1).val = c.val) (hk : (i 2).val = k) :
    entry u w w1 b1 w2 b2 w3 fr q c k = array n u w w1 b1 w2 b2 w3 fr i := by
  unfold array
  rw [show (⟨(i 0).val, (i 0).isLt⟩ : Fin 4) = q from Fin.ext hq, show (⟨(i 1).val, (i 1).isLt⟩ : Fin 256) = c from Fin.ext hc, hk]

/-! ## The kernel's order of the features -/

/-- The features as the kernel stacks them: cosines, negated sines, the time, and rows of zeros. -/
def kfeat (u : ℝ) (w : EReal) (k r : Nat) : EReal :=
  if r < 16 then Ideal.cos (angle w k r) else if r < 32 then -Ideal.sin (angle w k (r - 16)) else if r = 32 then time u k else 0

/-- A sum over the padded rows with the time last is a sum over the features with the time first. -/
theorem sum_rows (h : Fin 128 → EReal) (p : Fin 33 → EReal) (h32 : h 32 = p 0) (hs : ∀ r : Fin 32, h ⟨r.val, by omega⟩ = p r.succ)
    (h0 : ∀ r : Fin 128, 33 ≤ r.val → h r = 0) : ∑ r, h r = ∑ f, p f := by
  have e := Fin.sum_univ_add (a := 33) (b := 95) h
  rw [show (∑ r, h r) = ∑ r : Fin (33 + 95), h r from rfl, e, Finset.sum_eq_zero (s := (Finset.univ : Finset (Fin 95))) (fun r _ => h0 _ (by simp)), add_zero,
    Fin.sum_univ_castSucc, Fin.sum_univ_succ (f := p), add_comm]
  congr 1
  exact Finset.sum_congr rfl fun r _ => hs r

/-- The first layer's product in the kernel's order. -/
theorem first_sum (u : ℝ) (w : EReal) (w1 : W1t) (k : Nat) (j : Fin 64) (v : Fin 128 → EReal) (hv : ∀ r : Fin 32, v ⟨r.val, by omega⟩ = w1 (ix2 r.succ j))
    (hv0 : v 32 = w1 (ix2 0 j)) : ∑ r : Fin 128, v r * kfeat u w k r.val = ∑ f : Fin 33, feat u w k f.val * w1 (ix2 f j) := by
  refine sum_rows _ _ ?_ (fun r => ?_) (fun r hr => ?_)
  · show v 32 * kfeat u w k 32 = _
    rw [hv0, mul_comm]
    rfl
  · dsimp only
    rw [hv, mul_comm]
    congr 1
    have hr := r.isLt
    unfold kfeat feat
    simp only [Fin.val_succ, Nat.add_eq_zero_iff, one_ne_zero, and_false, if_false, Nat.add_sub_cancel]
    by_cases h : r.val < 16
    · rw [if_pos h, if_pos (by omega)]
    · rw [if_neg h, if_pos hr, if_neg (by omega), show r.val + 1 - 17 = r.val - 16 by omega]
  · unfold kfeat
    rw [if_neg (by omega), if_neg (by omega), if_neg (by omega), mul_zero]

/-! ## Equal steps between two numbers -/

/-- A point weighed between two ends is the first end and a share of the steps. -/
theorem step (a b n : ℝ) (hn : n ≠ 0) (i : ℝ) : (a : EReal) * ((1 : ℝ) - Ideal.div (i : EReal) (n : EReal)) + (b : EReal) * Ideal.div (i : EReal) (n : EReal)
    = (a : EReal) + (i : EReal) * (((b - a) / n : ℝ) : EReal) := by
  rw [Ideal.div_coe hn]
  simp only [← EReal.coe_sub, ← EReal.coe_mul, ← EReal.coe_add]
  congr 1
  field_simp
  ring

end Cert.Filt

end
-- ==== Proof.FiltFinal.lean ====
/-
  The filters of the long sequence: a block of the call's result by filter, channel and position.
-/
module

public import proofs.«01_k».proof.Proof.Gen.Kernel9Ideal.Value
public import proofs.«01_k».proof.Proof.Filt
public import Idealize.ShloMosaic.Lib.StableHlo.RunRead
public import Idealize.ShloMosaic.Lib.Pipeline.ValueKit.Point

@[expose] public section

set_option maxRecDepth 16384
set_option backward.proofsInPublic true

noncomputable section

namespace Cert.Kernel9Ideal.Final

open Cert.Kernel9Ideal Cert.Kernel9Ideal.Gen

open Idealize.ShloMosaic Idealize.ShloMosaic.TcCoe

/-! ## The named constants -/

theorem unit_eq : Named.named (F := Ideal) κ "unit" (φ := .f32) 0x38800200#32 = ((1 / 16383 : ℝ) : EReal) :=
  IdealRules.named_const.ideal_named_scalar _ _ _ _ rfl

theorem band_eq : Named.named (F := Ideal) κ "band" (φ := .f32) 0x3F7FFF90#32 = ((412314111637 / 412316860416 : ℝ) : EReal) :=
  IdealRules.named_const.ideal_named_scalar _ _ _ _ rfl

theorem decay_eq : Named.named (F := Ideal) κ "decay" (φ := .f32) 0xBD4541FF#32 = ((-10301591 / 213909504 : ℝ) : EReal) :=
  IdealRules.named_const.ideal_named_scalar _ _ _ _ rfl

/-! ## The positions -/

/-- The word of a position read as an integer. -/
theorem word_pos (l t : Nat) (hl : l < 2048) (ht : t < 8) : (BitVec.ofNat 32 l + BitVec.ofNat 32 t * 2048#32).toInt = ((2048 * t + l : Nat) : Int) := by
  have e : (BitVec.ofNat 32 l + BitVec.ofNat 32 t * 2048#32).toNat = 2048 * t + l := by
    simp only [BitVec.toNat_add, BitVec.toNat_mul, BitVec.toNat_ofNat]
    omega
  rw [BitVec.toInt_eq_toNat_of_lt (by omega), e]

theorem word_nat (l : Nat) (hl : l < 2048) : (BitVec.ofNat 32 l).toInt = (l : Int) := by
  have e : (BitVec.ofNat 32 l).toNat = l := by
    simp only [BitVec.toNat_ofNat]
    omega
  rw [BitVec.toInt_eq_toNat_of_lt (by omega), e]

theorem pos_apply (i : grid0.Coords) (z : Fin 1) (l : Fin 2048) : k0_pay3 (F := Ideal) i (ix2 z l) = (((2048 * (i 0).val + l.val : Nat) : ℝ) : EReal) := by
  have h := word_pos l.val (i 0).val l.isLt (i 0).isLt
  trans (((BitVec.ofNat 32 l.val + BitVec.ofNat 32 (i 0).val * 2048#32).toInt : ℝ) : EReal)
  · pointwise [k0_pay3]
    rfl
  · rw [h]
    norm_cast

theorem time_apply (i : grid0.Coords) (z : Fin 1) (l : Fin 2048) : k0_pay4 (F := Ideal) i (ix2 z l) = Filt.time (1 / 16383) (2048 * (i 0).val + l.val) := by
  have h := pos_apply i z l
  unfold k0_pay4 Filt.time
  rw [unit_eq, ← h]
  generalize k0_pay3 (F := Ideal) i = p
  pointwise

/-! ## The features -/

/-- The angles of the bands. -/
def angles (p : FVec Ideal S1x2048 .f32) : FVec Ideal S16x2048 .f32 :=
  mulf (addf (broadcast S16x2048 (Scalar.ofBits .f32 0x38D1B717#32))
    (mulf (sitofp .f32 (iota .tc S16x2048 32 [0] iota_S16x2048_d0_w32)) (broadcast S16x2048 (Named.named κ "band" 0x3F7FFF90#32))))
    (broadcastTo S16x2048 (mulf p (broadcast S1x2048 (Scalar.ofBits .f32 0x39C90FDB#32))) broadcasts_S1x2048_S16x2048)

/-- Four pieces stacked. -/
def stack (a b : FVec Ideal S16x2048 .f32) (t : FVec Ideal S8x2048 .f32) (z : FVec Ideal S88x2048 .f32) : FVec Ideal S128x2048 .f32 :=
  concatenate S128x2048 0 [⟨S16x2048, a⟩, ⟨S16x2048, b⟩, ⟨S8x2048, t⟩, ⟨S88x2048, z⟩] concatenates_S16x2048_S16x2048_S8x2048_S88x2048_S128x2048_d0

/-- The angles' sines negated. -/
def sines (a : FVec Ideal S16x2048 .f32) : FVec Ideal S16x2048 .f32 :=
  subf (broadcast S16x2048 (Scalar.ofBits .f32 0x00000000#32)) (sin a)

/-- The time over seven rows of zeros. -/
def times (t : FVec Ideal S1x2048 .f32) : FVec Ideal S8x2048 .f32 :=
  select (cmpi .eq (iota .tc S8x2048 32 [0] iota_S8x2048_d0_w32) (broadcast S8x2048 0#32))
    (broadcastTo S8x2048 (shapeCast S1x2048 t shapeCasts_S1x2048_S1x2048) broadcasts_S1x2048_S8x2048) (broadcast S8x2048 (Scalar.ofBits .f32 0x00000000#32))

/-- The stacked features. -/
def feats (a : FVec Ideal S16x2048 .f32) (t : FVec Ideal S1x2048 .f32) : FVec Ideal S128x2048 .f32 :=
  stack (cos a) (sines a) (times t) (broadcast S88x2048 (Scalar.ofBits .f32 0x00000000#32))

/-- The first sine layer. -/
def lay1 (w : FVec Ideal S64x128 .f32) (f : FVec Ideal S128x2048 .f32) (b fr : FVec Ideal S64x1 .f32) : FVec Ideal S64x2048 .f32 :=
  sin (mulf (broadcastTo S64x2048 fr broadcasts_S64x1_S64x2048) (addf (matmul dot_S64x128_S128x2048_S64x2048_1_0_0_1_n_n (some .fp32)
    (shapeCast S64x128 w shapeCasts_S64x128_S64x128) f (constant S64x2048 .f32 0x00000000#32))
    (broadcastTo S64x2048 (shapeCast S64x1 b shapeCasts_S64x1_S64x1) broadcasts_S64x1_S64x2048)))

/-- The second sine layer. -/
def lay2 (w : FVec Ideal S64x64 .f32) (f : FVec Ideal S64x2048 .f32) (b fr : FVec Ideal S64x1 .f32) : FVec Ideal S64x2048 .f32 :=
  sin (mulf (broadcastTo S64x2048 fr broadcasts_S64x1_S64x2048) (addf (matmul dot_S64x64_S64x2048_S64x2048_1_0_0_1_n_n (some .fp32)
    (shapeCast S64x64 w shapeCasts_S64x64_S64x64) f (constant S64x2048 .f32 0x00000000#32))
    (broadcastTo S64x2048 (shapeCast S64x1 b shapeCasts_S64x1_S64x1) broadcasts_S64x1_S64x2048)))

/-- The last product. -/
def prod (w : FVec Ideal S1024x64 .f32) (f : FVec Ideal S64x2048 .f32) : FVec Ideal S1024x2048 .f32 :=
  matmul dot_S1024x64_S64x2048_S1024x2048_1_0_0_1_n_n none (truncf .bf16 (shapeCast S1024x64 w shapeCasts_S1024x64_S1024x64) bitsLt_bf16_f32)
    (truncf .bf16 f bitsLt_bf16_f32) (constant S1024x2048 .f32 0x00000000#32)

theorem pay6_eq (i : grid0.Coords) (fr : FVec Ideal S64x1 .f32) (w : FVec Ideal S64x128 .f32) (b : FVec Ideal S64x1 .f32) :
    k0_pay6 (F := Ideal) i fr w b = lay1 w (feats (angles (k0_pay3 i)) (k0_pay4 i)) b (k0_pay5 fr) := rfl

theorem pay7_eq (fr : FVec Ideal S64x1 .f32) (h : FVec Ideal S64x2048 .f32) (w : FVec Ideal S64x64 .f32) (b : FVec Ideal S64x1 .f32) (w3 : FVec Ideal S1024x64 .f32) :
    k0_pay7 (F := Ideal) fr h w b w3 = prod w3 (lay2 w h b fr) := rfl

theorem pay5_eq (fr : FVec Ideal S64x1 .f32) : k0_pay5 (F := Ideal) fr = fr := by
  funext y
  idx_vars y
  pointwise [k0_pay5]

theorem angles_apply (i : grid0.Coords) (b : Fin 16) (l : Fin 2048) :
    angles (k0_pay3 (F := Ideal) i) (ix2 b l) = Filt.angle (Ideal.ofBits .f32 0x39C90FDB#32) (2048 * (i 0).val + l.val) b.val := by
  have h := pos_apply i 0 l
  have hb := word_nat b.val (by omega)
  unfold angles Filt.angle Filt.band
  rw [band_eq, ← h, show ((b.val : ℝ) : EReal) = (((BitVec.ofNat 32 b.val).toInt : ℝ) : EReal) by rw [hb]; norm_cast]
  generalize k0_pay3 (F := Ideal) i = p
  pointwise
  rfl

/-- Of the eight rows after the sines only the first is kept. -/
theorem row_select : ∀ (x : Fin 8) (a : EReal), Scalar.select (IntOp.cmpi CmpIPredicate.eq (BitVec.ofNat 32 x.val) 0#32) a (0 : EReal) = if x.val = 0 then a else 0 := by
  intro x a
  fin_cases x <;> rfl

theorem stack_apply (a b : FVec Ideal S16x2048 .f32) (t : FVec Ideal S8x2048 .f32) (z : FVec Ideal S88x2048 .f32) (r : Fin 128) (l : Fin 2048) :
    stack a b t z (ix2 r l) = if h : r.val < 16 then a (ix2 ⟨r.val, h⟩ l) else if h : r.val - 16 < 16 then b (ix2 ⟨r.val - 16, h⟩ l)
      else if h : r.val - 16 - 16 < 8 then t (ix2 ⟨r.val - 16 - 16, h⟩ l) else z (ix2 ⟨r.val - 16 - 16 - 8, by omega⟩ l) := by
  pointwise [stack]

theorem cosines_apply (a : FVec Ideal S16x2048 .f32) (r : Fin 16) (l : Fin 2048) : (cos a : FVec Ideal S16x2048 .f32) (ix2 r l) = Ideal.cos (a (ix2 r l)) := rfl

theorem sines_apply (a : FVec Ideal S16x2048 .f32) (r : Fin 16) (l : Fin 2048) : sines a (ix2 r l) = -Ideal.sin (a (ix2 r l)) := by
  rw [← zero_sub]
  pointwise [sines]

theorem times_apply (t : FVec Ideal S1x2048 .f32) (r : Fin 8) (l : Fin 2048) : times t (ix2 r l) = if r.val = 0 then t (ix2 0 l) else 0 := by
  rw [← row_select r (t (ix2 0 l))]
  pointwise [times]

theorem zeros_apply (r : Fin 88) (l : Fin 2048) : (broadcast S88x2048 (Scalar.ofBits .f32 0x00000000#32) : FVec Ideal S88x2048 .f32) (ix2 r l) = 0 := by
  pointwise

theorem feats_apply (i : grid0.Coords) (r : Fin 128) (l : Fin 2048) : feats (angles (k0_pay3 (F := Ideal) i)) (k0_pay4 (F := Ideal) i) (ix2 r l)
    = Filt.kfeat (1 / 16383) (Ideal.ofBits .f32 0x39C90FDB#32) (2048 * (i 0).val + l.val) r.val := by
  have ha := fun b => angles_apply i b l
  have ht := time_apply i 0 l
  unfold Filt.kfeat feats
  rw [← ht]
  generalize angles (k0_pay3 (F := Ideal) i) = a at ha ⊢
  generalize k0_pay4 (F := Ideal) i = t
  rw [stack_apply]
  by_cases h1 : r.val < 16
  · rw [dif_pos h1, if_pos h1, cosines_apply, ha]
  · rw [dif_neg h1, if_neg h1]
    by_cases h2 : r.val - 16 < 16
    · rw [dif_pos h2, if_pos (by omega), sines_apply, ha]
    · rw [dif_neg h2, if_neg (by omega)]
      by_cases h3 : r.val - 16 - 16 < 8
      · rw [dif_pos h3, times_apply]
        dsimp only
        by_cases h4 : r.val = 32
        · rw [if_pos h4, if_pos (by omega)]
        · rw [if_neg h4, if_neg (by omega)]
      · rw [dif_neg h3, if_neg (by omega), zeros_apply]

theorem lay1_apply (w : FVec Ideal S64x128 .f32) (f : FVec Ideal S128x2048 .f32) (b fr : FVec Ideal S64x1 .f32) (j : Fin 64) (l : Fin 2048) :
    lay1 w f b fr (ix2 j l) = Ideal.sin (fr (ix2 j 0) * ((∑ r : Fin 128, w (ix2 j r) * f (ix2 r l)) + b (ix2 j 0))) := by
  pointwise [lay1]

theorem lay2_apply (w : FVec Ideal S64x64 .f32) (f : FVec Ideal S64x2048 .f32) (b fr : FVec Ideal S64x1 .f32) (j : Fin 64) (l : Fin 2048) :
    lay2 w f b fr (ix2 j l) = Ideal.sin (fr (ix2 j 0) * ((∑ r : Fin 64, w (ix2 j r) * f (ix2 r l)) + b (ix2 j 0))) := by
  pointwise [lay2]

theorem prod_apply (w : FVec Ideal S1024x64 .f32) (f : FVec Ideal S64x2048 .f32) (j : Fin 1024) (l : Fin 2048) :
    prod w f (ix2 j l) = ∑ r : Fin 64, w (ix2 j r) * f (ix2 r l) := by
  pointwise [prod]

theorem window_apply (i : grid0.Coords) (d : Fin 256) (l : Fin 2048) :
    k0_pay8 (F := Ideal) (k0_pay4 i) (ix2 d l) = Filt.window (1 / 16383) (2048 * (i 0).val + l.val) d.val := by
  have h := time_apply i 0 l
  have hb := word_nat d.val (by omega)
  unfold k0_pay8 Filt.window Filt.rate
  rw [decay_eq, ← h, show ((d.val : ℝ) : EReal) = (((BitVec.ofNat 32 d.val).toInt : ℝ) : EReal) by rw [hb]; norm_cast]
  generalize k0_pay4 (F := Ideal) i = p
  simp only [← zero_sub]
  pointwise
  simp only [zero_sub]
  rfl

/-- The four stores, each a slab of the product under the window. -/
theorem slab0_apply (v6 : FVec Ideal S1x2048 .f32) (fr : FVec Ideal S64x1 .f32) (h : FVec Ideal S64x2048 .f32) (w : FVec Ideal S64x64 .f32) (b : FVec Ideal S64x1 .f32)
    (w3 : FVec Ideal S1024x64 .f32) (z : Fin 1) (d : Fin 256) (l : Fin 2048) : k0_pay9 (F := Ideal) v6 fr h w b w3 (ix3 z d l)
      = k0_pay7 fr h w b w3 (ix2 ⟨0 + d.val, by omega⟩ l) * k0_pay8 v6 (ix2 d l) := by
  unfold k0_pay9
  generalize k0_pay7 fr h w b w3 = p
  generalize k0_pay8 v6 = q
  pointwise

theorem slab1_apply (v6 : FVec Ideal S1x2048 .f32) (fr : FVec Ideal S64x1 .f32) (h : FVec Ideal S64x2048 .f32) (w : FVec Ideal S64x64 .f32) (b : FVec Ideal S64x1 .f32)
    (w3 : FVec Ideal S1024x64 .f32) (z : Fin 1) (d : Fin 256) (l : Fin 2048) : k0_pay10 (F := Ideal) v6 fr h w b w3 (ix3 z d l)
      = k0_pay7 fr h w b w3 (ix2 ⟨256 + d.val, by omega⟩ l) * k0_pay8 v6 (ix2 d l) := by
  unfold k0_pay10
  generalize k0_pay7 fr h w b w3 = p
  generalize k0_pay8 v6 = q
  pointwise

theorem slab2_apply (v6 : FVec Ideal S1x2048 .f32) (fr : FVec Ideal S64x1 .f32) (h : FVec Ideal S64x2048 .f32) (w : FVec Ideal S64x64 .f32) (b : FVec Ideal S64x1 .f32)
    (w3 : FVec Ideal S1024x64 .f32) (z : Fin 1) (d : Fin 256) (l : Fin 2048) : k0_pay1 (k0_pay11 (F := Ideal) v6 fr h w b w3) (ix3 z d l)
      = k0_pay7 fr h w b w3 (ix2 ⟨512 + d.val, by omega⟩ l) * k0_pay8 v6 (ix2 d l) := by
  unfold k0_pay1 k0_pay11
  generalize k0_pay7 fr h w b w3 = p
  generalize k0_pay8 v6 = q
  pointwise

theorem slab3_apply (p : FVec Ideal S1024x2048 .f32) (q : FVec Ideal S256x2048 .f32) (z : Fin 1) (d : Fin 256) (l : Fin 2048) :
    k0_pay2 (F := Ideal) p q (ix3 z d l) = p (ix2 ⟨768 + d.val, by omega⟩ l) * q (ix2 d l) := by
  pointwise [k0_pay2]

/-! ## The array after the run -/

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0, t.val] ∧ (grid0.coords t 0).val = t.val ∧ t.val < 8 :=
  (by decide +kernel : ∀ t : Fin grid0.N, _)

variable (m : (ℓ : Loc nD τ sig) → Buf (Elt Ideal) ℓ) (c : Dev nD) (t : Fin cfg0.N)

/-- The weights, biases and frequencies that the call was given. -/
abbrev w1 : Filt.W1t := m ((c : Thread nD τ).loc main_arg0)
abbrev b1 : Filt.Bt := m ((c : Thread nD τ).loc main_arg1)
abbrev w2 : Filt.W2t := m ((c : Thread nD τ).loc main_arg2)
abbrev b2 : Filt.Bt := m ((c : Thread nD τ).loc main_arg3)
abbrev w3 : Filt.W3t := m ((c : Thread nD τ).loc main_arg4)
abbrev fr : Filt.Bt := m ((c : Thread nD τ).loc main_arg5)

/-- The first layer's weights as the host repacks them: the time's row last, transposed, and padded to whole lanes. -/
def packed (w : FVec Ideal S33x64 .f32) : FVec Ideal S64x128 .f32 :=
  pad S64x128 ![0, 0] ![0, 95] ![0, 0] (transpose S64x33 [1, 0] (concatenate S33x64 0
    [⟨S32x64, extractStridedSlice S32x64 ![1, 0] w slices_S33x64_S32x64_1_0⟩, ⟨S1x64, extractStridedSlice S1x64 ![0, 0] w slices_S33x64_S1x64_0_0⟩]
    concatenates_S32x64_S1x64_S33x64_d0) transposes_S33x64_S64x33_1_0) (sitofp .f32 (constantI S_ 32 0#32)) pads_S64x33_S64x128_000_0950 h_S_

theorem packed_row (w : FVec Ideal S33x64 .f32) (j : Fin 64) (r : Fin 32) : packed w (ix2 j ⟨r.val, by omega⟩) = w (ix2 r.succ j) := by
  pointwise [packed]
  rw [dif_pos (by omega)]
  congr 2
  exact Fin.ext (by simp only [Fin.val_succ]; omega)

theorem packed_last (w : FVec Ideal S33x64 .f32) (j : Fin 64) : packed w (ix2 j 32) = w (ix2 0 j) := by
  pointwise [packed]

theorem entry_w1 : (V m c main_v4 : FVec Ideal S64x128 .f32) = packed (w1 m c) := by
  simp only [V, hostOps0, hostOps0_1, hostOps0_2, List.flatten_cons, List.flatten_nil, List.append_nil, List.cons_append, List.nil_append]
  after_reads_simp
  rfl

theorem entry_b1 : (V m c main_v5 : FVec Ideal S64x1 .f32) = broadcastInDim S64x1 ![0] bcast_S64_S64x1_0 (b1 m c) := by
  simp only [V, hostOps0, hostOps0_1, hostOps0_2, List.flatten_cons, List.flatten_nil, List.append_nil, List.cons_append, List.nil_append]
  after_reads_simp

theorem entry_w2 : (V m c main_v6 : FVec Ideal S64x64 .f32) = transpose S64x64 [1, 0] (w2 m c) transposes_S64x64_S64x64_1_0 := by
  simp only [V, hostOps0, hostOps0_1, hostOps0_2, List.flatten_cons, List.flatten_nil, List.append_nil, List.cons_append, List.nil_append]
  after_reads_simp

theorem entry_b2 : (V m c main_v7 : FVec Ideal S64x1 .f32) = broadcastInDim S64x1 ![0] bcast_S64_S64x1_0 (b2 m c) := by
  simp only [V, hostOps0, hostOps0_1, hostOps0_2, List.flatten_cons, List.flatten_nil, List.append_nil, List.cons_append, List.nil_append]
  after_reads_simp

theorem entry_w3 : (V m c main_v8 : FVec Ideal S1024x64 .f32) = transpose S1024x64 [1, 0] (w3 m c) transposes_S64x1024_S1024x64_1_0 := by
  simp only [V, hostOps0, hostOps0_1, hostOps0_2, List.flatten_cons, List.flatten_nil, List.append_nil, List.cons_append, List.nil_append]
  after_reads_simp

theorem entry_fr : (V m c main_v9 : FVec Ideal S64x1 .f32) = broadcastInDim S64x1 ![0] bcast_S64_S64x1_0 (fr m c) := by
  simp only [V, hostOps0, hostOps0_1, hostOps0_2, List.flatten_cons, List.flatten_nil, List.append_nil, List.cons_append, List.nil_append]
  after_reads_simp

theorem x0_eq : (iblk m c 0 t : FVec Ideal S64x128 .f32) = packed (w1 m c) := by
  rw [← entry_w1]
  funext y
  blk_ext [iblk, idx t]

theorem x1_apply (j : Fin 64) : (iblk m c 1 t : FVec Ideal S64x1 .f32) (ix2 j 0) = b1 m c (ix1 j) := by
  trans (broadcastInDim S64x1 ![0] bcast_S64_S64x1_0 (b1 m c) : FVec Ideal S64x1 .f32) (ix2 j 0)
  · rw [← entry_b1]
    blk_ext [iblk, idx t]
  · generalize b1 m c = b
    pointwise

theorem x2_apply (j i : Fin 64) : (iblk m c 2 t : FVec Ideal S64x64 .f32) (ix2 j i) = w2 m c (ix2 i j) := by
  trans (transpose S64x64 [1, 0] (w2 m c) transposes_S64x64_S64x64_1_0 : FVec Ideal S64x64 .f32) (ix2 j i)
  · rw [← entry_w2]
    blk_ext [iblk, idx t]
  · generalize w2 m c = b
    pointwise

theorem x3_apply (j : Fin 64) : (iblk m c 3 t : FVec Ideal S64x1 .f32) (ix2 j 0) = b2 m c (ix1 j) := by
  trans (broadcastInDim S64x1 ![0] bcast_S64_S64x1_0 (b2 m c) : FVec Ideal S64x1 .f32) (ix2 j 0)
  · rw [← entry_b2]
    blk_ext [iblk, idx t]
  · generalize b2 m c = b
    pointwise

theorem x4_apply (j : Fin 1024) (i : Fin 64) : (iblk m c 4 t : FVec Ideal S1024x64 .f32) (ix2 j i) = w3 m c (ix2 i j) := by
  trans (transpose S1024x64 [1, 0] (w3 m c) transposes_S64x1024_S1024x64_1_0 : FVec Ideal S1024x64 .f32) (ix2 j i)
  · rw [← entry_w3]
    blk_ext [iblk, idx t]
  · generalize w3 m c = b
    pointwise

theorem x5_apply (j : Fin 64) : (iblk m c 5 t : FVec Ideal S64x1 .f32) (ix2 j 0) = fr m c (ix1 j) := by
  trans (broadcastInDim S64x1 ![0] bcast_S64_S64x1_0 (fr m c) : FVec Ideal S64x1 .f32) (ix2 j 0)
  · rw [← entry_fr]
    blk_ext [iblk, idx t]
  · generalize fr m c = b
    pointwise

/-- The turn per position. -/
abbrev turn : EReal := Ideal.ofBits .f32 0x39C90FDB#32

theorem hid1_apply (j : Fin 64) (l : Fin 2048) : k0_pay6 (F := Ideal) (grid0.coords t) (iblk m c 5 t) (iblk m c 0 t) (iblk m c 1 t) (ix2 j l)
    = Filt.hid1 (1 / 16383) turn (w1 m c) (b1 m c) (fr m c) (2048 * t.val + l.val) j := by
  rw [pay6_eq, lay1_apply, pay5_eq, x5_apply, x1_apply, x0_eq]
  simp only [feats_apply, (idx t).2.2.2.2.2.2.2.1]
  rw [Filt.first_sum (1 / 16383) turn (w1 m c) (2048 * t.val + l.val) j (fun r => packed (w1 m c) (ix2 j r)) (packed_row (w1 m c) j) (packed_last (w1 m c) j)]
  rfl

theorem prod_entry (j : Fin 1024) (l : Fin 2048) : k0_pay7 (F := Ideal) (k0_pay5 (iblk m c 5 t)) (k0_pay6 (grid0.coords t) (iblk m c 5 t) (iblk m c 0 t) (iblk m c 1 t))
      (iblk m c 2 t) (iblk m c 3 t) (iblk m c 4 t) (ix2 j l)
    = ∑ i : Fin 64, Filt.hid2 (1 / 16383) turn (w1 m c) (b1 m c) (w2 m c) (b2 m c) (fr m c) (2048 * t.val + l.val) i * w3 m c (ix2 i j) := by
  rw [pay7_eq, prod_apply]
  refine Finset.sum_congr rfl fun i _ => ?_
  rw [lay2_apply, pay5_eq, x5_apply, x3_apply, x4_apply, mul_comm]
  congr 1
  unfold Filt.hid2
  congr 3
  refine Finset.sum_congr rfl fun q _ => ?_
  rw [hid1_apply, x2_apply, mul_comm]

theorem slab_entry (q : Fin 4) (d : Fin 256) (l : Fin 2048) (n : Nat) (hn : n + d.val < 1024) (e : n = 256 * q.val) :
    k0_pay7 (F := Ideal) (k0_pay5 (iblk m c 5 t)) (k0_pay6 (grid0.coords t) (iblk m c 5 t) (iblk m c 0 t) (iblk m c 1 t))
      (iblk m c 2 t) (iblk m c 3 t) (iblk m c 4 t) (ix2 ⟨n + d.val, hn⟩ l) * k0_pay8 (F := Ideal) (k0_pay4 (grid0.coords t)) (ix2 d l)
    = Filt.entry (1 / 16383) turn (w1 m c) (b1 m c) (w2 m c) (b2 m c) (w3 m c) (fr m c) q d (2048 * t.val + l.val) := by
  subst e
  rw [prod_entry, window_apply, (idx t).2.2.2.2.2.2.2.1]
  rfl

/-- A block of the array, by its own indices. -/
def blockAt (y : S4x256x2048.Idx) : EReal :=
  Filt.entry (1 / 16383) turn (w1 m c) (b1 m c) (w2 m c) (b2 m c) (w3 m c) (fr m c) ⟨(y 0).val, (y 0).isLt⟩ ⟨(y 1).val, (y 1).isLt⟩ (2048 * t.val + (y 2).val)

theorem blockAt_of {q : Fin 4} {d : Fin 256} {l : Fin 2048} {y : S4x256x2048.Idx} (hq : (y 0).val = q.val) (hd : (y 1).val = d.val) (hl : (y 2).val = l.val) :
    Filt.entry (1 / 16383) turn (w1 m c) (b1 m c) (w2 m c) (b2 m c) (w3 m c) (fr m c) q d (2048 * t.val + l.val) = blockAt m c t y := by
  unfold blockAt
  rw [show (⟨(y 0).val, (y 0).isLt⟩ : Fin 4) = q from Fin.ext hq, show (⟨(y 1).val, (y 1).isLt⟩ : Fin 256) = d from Fin.ext hd, hl]

/-- A store of one filter's slab writes its entries of the block. -/
theorem slab_block (n : Nat) (q : Fin 4) (hq : n = q.val) (pay : FVec Ideal S1x256x2048 .f32)
    (h : ∀ (z : Fin 1) (d : Fin 256) (l : Fin 2048), pay (ix3 z d l) = Filt.entry (1 / 16383) turn (w1 m c) (b1 m c) (w2 m c) (b2 m c) (w3 m c) (fr m c) q d (2048 * t.val + l.val))
    (inb) (x : S1x256x2048.Idx) : pay x = blockAt m c t ((Rect.unit (s := S4x256x2048) ![n, 0, 0] S1x256x2048.size inb).emb x) := by
  have hx : (x 0).val < 1 := (x 0).isLt
  have ex : x = ix3 (⟨(x 0).val, (x 0).isLt⟩ : Fin 1) (⟨(x 1).val, (x 1).isLt⟩ : Fin 256) (⟨(x 2).val, (x 2).isLt⟩ : Fin 2048) := by
    funext a
    match a with
    | ⟨0, _⟩ => rfl
    | ⟨1, _⟩ => rfl
    | ⟨2, _⟩ => rfl
  refine (congrArg pay ex).trans ((h _ _ _).trans (blockAt_of m c t ?_ ?_ ?_))
  · show n + 1 * (x 0).val = q.val
    omega
  · show 0 + 1 * (x 1).val = (x 1).val
    omega
  · show 0 + 1 * (x 2).val = (x 2).val
    omega

theorem final : (dats m 0 c).arrAt 6 cfg0.N = Filt.array 16384 (1 / 16383) turn (w1 m c) (b1 m c) (w2 m c) (b2 m c) (w3 m c) (fr m c) := by
  refine (dats m 0 c).arrAt_eq_of_covers 6 _ (by decide +kernel) fun t _ y => ?_
  have ht := (idx t).2.2.2.2.2.2.2.2
  blk_simp
  rw [after0_6]
  unfold_out out0_6
  frame_out
  refine (View.canon_apply_of_pieces (blockAt m c t) _ ?_ y ?_).trans ?_
  · intro p hp
    rcases List.mem_cons.mp hp with rfl | hp
    · exact slab_block m c t 3 3 rfl _ (fun z d l => (slab3_apply _ _ z d l).trans (slab_entry m c t 3 d l 768 _ rfl)) inb_S4x256x2048_S1x256x2048_3_0_0
    rcases List.mem_cons.mp hp with rfl | hp
    · exact slab_block m c t 2 2 rfl _ (fun z d l => (slab2_apply _ _ _ _ _ _ z d l).trans (slab_entry m c t 2 d l 512 _ rfl)) inb_S4x256x2048_S1x256x2048_2_0_0
    rcases List.mem_cons.mp hp with rfl | hp
    · exact slab_block m c t 1 1 rfl _ (fun z d l => (slab1_apply _ _ _ _ _ _ z d l).trans (slab_entry m c t 1 d l 256 _ rfl)) inb_S4x256x2048_S1x256x2048_1_0_0
    rcases List.mem_cons.mp hp with rfl | hp
    · exact slab_block m c t 0 0 rfl _ (fun z d l => (slab0_apply _ _ _ _ _ _ z d l).trans (slab_entry m c t 0 d l 0 _ rfl)) inb_S4x256x2048_S1x256x2048_0_0_0
    nomatch hp
  · have h0 : (y 0).val < 4 := (y 0).isLt
    have h1 : (y 1).val < 256 := (y 1).isLt
    have h2 : (y 2).val < 2048 := (y 2).isLt
    have hall : ∀ n : Nat, ∀ inb, (y 0).val = n → y ∈ (Rect.unit (s := S4x256x2048) ![n, 0, 0] S1x256x2048.size inb).set := by
      intro n inb hn
      rw [Rect.mem_set_unit]
      intro a
      match a with
      | ⟨0, _⟩ => show n ≤ (y 0).val ∧ (y 0).val < n + 1; omega
      | ⟨1, _⟩ => show 0 ≤ (y 1).val ∧ (y 1).val < 0 + 256; omega
      | ⟨2, _⟩ => show 0 ≤ (y 2).val ∧ (y 2).val < 0 + 2048; omega
    rcases (show (y 0).val = 3 ∨ (y 0).val = 2 ∨ (y 0).val = 1 ∨ (y 0).val = 0 by omega) with h | h | h | h
    · exact ⟨_, List.mem_cons_self, hall 3 inb_S4x256x2048_S1x256x2048_3_0_0 h⟩
    · exact ⟨_, List.mem_cons_of_mem _ List.mem_cons_self, hall 2 inb_S4x256x2048_S1x256x2048_2_0_0 h⟩
    · exact ⟨_, List.mem_cons_of_mem _ (List.mem_cons_of_mem _ List.mem_cons_self), hall 1 inb_S4x256x2048_S1x256x2048_1_0_0 h⟩
    · exact ⟨_, List.mem_cons_of_mem _ (List.mem_cons_of_mem _ (List.mem_cons_of_mem _ List.mem_cons_self)), hall 0 inb_S4x256x2048_S1x256x2048_0_0_0 h⟩
  · unfold blockAt
    idx_vars y
    refine Filt.entry_of _ _ _ _ _ _ _ _ _ ?_ ?_ ?_
    · blk_simp [idx t]
    · blk_simp [idx t]
    · blk_simp [idx t]
      omega

end Cert.Kernel9Ideal.Final

end
-- ==== Proof.FiltCtxFinal.lean ====
/-
  The filters of the context: a block of the call's result by filter, channel and position.
-/
module

public import proofs.«01_k».proof.Proof.Gen.Kernel10Ideal.Value
public import proofs.«01_k».proof.Proof.Filt
public import Idealize.ShloMosaic.Lib.StableHlo.RunRead
public import Idealize.ShloMosaic.Lib.Pipeline.ValueKit.Point

@[expose] public section

set_option maxRecDepth 16384
set_option backward.proofsInPublic true

noncomputable section

namespace Cert.Kernel10Ideal.Final

open Cert.Kernel10Ideal Cert.Kernel10Ideal.Gen

open Idealize.ShloMosaic Idealize.ShloMosaic.TcCoe

/-! ## The named constants -/

theorem unit_eq : Named.named (F := Ideal) κ "unit" (φ := .f32) 0x3B808081#32 = ((1 / 255 : ℝ) : EReal) :=
  IdealRules.named_const.ideal_named_scalar _ _ _ _ rfl

theorem band_eq : Named.named (F := Ideal) κ "band" (φ := .f32) 0x3F7FFF90#32 = ((412314111637 / 412316860416 : ℝ) : EReal) :=
  IdealRules.named_const.ideal_named_scalar _ _ _ _ rfl

theorem decay_eq : Named.named (F := Ideal) κ "decay" (φ := .f32) 0xBD4541FF#32 = ((-10301591 / 213909504 : ℝ) : EReal) :=
  IdealRules.named_const.ideal_named_scalar _ _ _ _ rfl

/-! ## The positions -/

/-- The word of a position read as an integer. -/
theorem word_pos (l t : Nat) (hl : l < 256) (ht : t < 1) : (BitVec.ofNat 32 l + BitVec.ofNat 32 t * 256#32).toInt = ((256 * t + l : Nat) : Int) := by
  have e : (BitVec.ofNat 32 l + BitVec.ofNat 32 t * 256#32).toNat = 256 * t + l := by
    simp only [BitVec.toNat_add, BitVec.toNat_mul, BitVec.toNat_ofNat]
    omega
  rw [BitVec.toInt_eq_toNat_of_lt (by omega), e]

theorem word_nat (l : Nat) (hl : l < 256) : (BitVec.ofNat 32 l).toInt = (l : Int) := by
  have e : (BitVec.ofNat 32 l).toNat = l := by
    simp only [BitVec.toNat_ofNat]
    omega
  rw [BitVec.toInt_eq_toNat_of_lt (by omega), e]

theorem pos_apply (i : grid0.Coords) (z : Fin 1) (l : Fin 256) : k0_pay3 (F := Ideal) i (ix2 z l) = (((256 * (i 0).val + l.val : Nat) : ℝ) : EReal) := by
  have h := word_pos l.val (i 0).val l.isLt (i 0).isLt
  trans (((BitVec.ofNat 32 l.val + BitVec.ofNat 32 (i 0).val * 256#32).toInt : ℝ) : EReal)
  · pointwise [k0_pay3]
    rfl
  · rw [h]
    norm_cast

theorem time_apply (i : grid0.Coords) (z : Fin 1) (l : Fin 256) : k0_pay4 (F := Ideal) i (ix2 z l) = Filt.time (1 / 255) (256 * (i 0).val + l.val) := by
  have h := pos_apply i z l
  unfold k0_pay4 Filt.time
  rw [unit_eq, ← h]
  generalize k0_pay3 (F := Ideal) i = p
  pointwise

/-! ## The features -/

/-- The angles of the bands. -/
def angles (p : FVec Ideal S1x256 .f32) : FVec Ideal S16x256 .f32 :=
  mulf (addf (broadcast S16x256 (Scalar.ofBits .f32 0x38D1B717#32))
    (mulf (sitofp .f32 (iota .tc S16x256 32 [0] iota_S16x256_d0_w32)) (broadcast S16x256 (Named.named κ "band" 0x3F7FFF90#32))))
    (broadcastTo S16x256 (mulf p (broadcast S1x256 (Scalar.ofBits .f32 0x3CC90FDB#32))) broadcasts_S1x256_S16x256)

/-- Four pieces stacked. -/
def stack (a b : FVec Ideal S16x256 .f32) (t : FVec Ideal S8x256 .f32) (z : FVec Ideal S88x256 .f32) : FVec Ideal S128x256 .f32 :=
  concatenate S128x256 0 [⟨S16x256, a⟩, ⟨S16x256, b⟩, ⟨S8x256, t⟩, ⟨S88x256, z⟩] concatenates_S16x256_S16x256_S8x256_S88x256_S128x256_d0

/-- The angles' sines negated. -/
def sines (a : FVec Ideal S16x256 .f32) : FVec Ideal S16x256 .f32 :=
  subf (broadcast S16x256 (Scalar.ofBits .f32 0x00000000#32)) (sin a)

/-- The time over seven rows of zeros. -/
def times (t : FVec Ideal S1x256 .f32) : FVec Ideal S8x256 .f32 :=
  select (cmpi .eq (iota .tc S8x256 32 [0] iota_S8x256_d0_w32) (broadcast S8x256 0#32))
    (broadcastTo S8x256 (shapeCast S1x256 t shapeCasts_S1x256_S1x256) broadcasts_S1x256_S8x256) (broadcast S8x256 (Scalar.ofBits .f32 0x00000000#32))

/-- The stacked features. -/
def feats (a : FVec Ideal S16x256 .f32) (t : FVec Ideal S1x256 .f32) : FVec Ideal S128x256 .f32 :=
  stack (cos a) (sines a) (times t) (broadcast S88x256 (Scalar.ofBits .f32 0x00000000#32))

/-- The first sine layer. -/
def lay1 (w : FVec Ideal S64x128 .f32) (f : FVec Ideal S128x256 .f32) (b fr : FVec Ideal S64x1 .f32) : FVec Ideal S64x256 .f32 :=
  sin (mulf (broadcastTo S64x256 fr broadcasts_S64x1_S64x256) (addf (matmul dot_S64x128_S128x256_S64x256_1_0_0_1_n_n (some .fp32)
    (shapeCast S64x128 w shapeCasts_S64x128_S64x128) f (constant S64x256 .f32 0x00000000#32))
    (broadcastTo S64x256 (shapeCast S64x1 b shapeCasts_S64x1_S64x1) broadcasts_S64x1_S64x256)))

/-- The second sine layer. -/
def lay2 (w : FVec Ideal S64x64 .f32) (f : FVec Ideal S64x256 .f32) (b fr : FVec Ideal S64x1 .f32) : FVec Ideal S64x256 .f32 :=
  sin (mulf (broadcastTo S64x256 fr broadcasts_S64x1_S64x256) (addf (matmul dot_S64x64_S64x256_S64x256_1_0_0_1_n_n (some .fp32)
    (shapeCast S64x64 w shapeCasts_S64x64_S64x64) f (constant S64x256 .f32 0x00000000#32))
    (broadcastTo S64x256 (shapeCast S64x1 b shapeCasts_S64x1_S64x1) broadcasts_S64x1_S64x256)))

/-- The last product. -/
def prod (w : FVec Ideal S1024x64 .f32) (f : FVec Ideal S64x256 .f32) : FVec Ideal S1024x256 .f32 :=
  matmul dot_S1024x64_S64x256_S1024x256_1_0_0_1_n_n none (truncf .bf16 (shapeCast S1024x64 w shapeCasts_S1024x64_S1024x64) bitsLt_bf16_f32)
    (truncf .bf16 f bitsLt_bf16_f32) (constant S1024x256 .f32 0x00000000#32)

theorem pay6_eq (i : grid0.Coords) (fr : FVec Ideal S64x1 .f32) (w : FVec Ideal S64x128 .f32) (b : FVec Ideal S64x1 .f32) :
    k0_pay6 (F := Ideal) i fr w b = lay1 w (feats (angles (k0_pay3 i)) (k0_pay4 i)) b (k0_pay5 fr) := rfl

theorem pay7_eq (fr : FVec Ideal S64x1 .f32) (h : FVec Ideal S64x256 .f32) (w : FVec Ideal S64x64 .f32) (b : FVec Ideal S64x1 .f32) (w3 : FVec Ideal S1024x64 .f32) :
    k0_pay7 (F := Ideal) fr h w b w3 = prod w3 (lay2 w h b fr) := rfl

theorem pay5_eq (fr : FVec Ideal S64x1 .f32) : k0_pay5 (F := Ideal) fr = fr := by
  funext y
  idx_vars y
  pointwise [k0_pay5]

theorem angles_apply (i : grid0.Coords) (b : Fin 16) (l : Fin 256) :
    angles (k0_pay3 (F := Ideal) i) (ix2 b l) = Filt.angle (Ideal.ofBits .f32 0x3CC90FDB#32) (256 * (i 0).val + l.val) b.val := by
  have h := pos_apply i 0 l
  have hb := word_nat b.val (by omega)
  unfold angles Filt.angle Filt.band
  rw [band_eq, ← h, show ((b.val : ℝ) : EReal) = (((BitVec.ofNat 32 b.val).toInt : ℝ) : EReal) by rw [hb]; norm_cast]
  generalize k0_pay3 (F := Ideal) i = p
  pointwise
  rfl

/-- Of the eight rows after the sines only the first is kept. -/
theorem row_select : ∀ (x : Fin 8) (a : EReal), Scalar.select (IntOp.cmpi CmpIPredicate.eq (BitVec.ofNat 32 x.val) 0#32) a (0 : EReal) = if x.val = 0 then a else 0 := by
  intro x a
  fin_cases x <;> rfl

theorem stack_apply (a b : FVec Ideal S16x256 .f32) (t : FVec Ideal S8x256 .f32) (z : FVec Ideal S88x256 .f32) (r : Fin 128) (l : Fin 256) :
    stack a b t z (ix2 r l) = if h : r.val < 16 then a (ix2 ⟨r.val, h⟩ l) else if h : r.val - 16 < 16 then b (ix2 ⟨r.val - 16, h⟩ l)
      else if h : r.val - 16 - 16 < 8 then t (ix2 ⟨r.val - 16 - 16, h⟩ l) else z (ix2 ⟨r.val - 16 - 16 - 8, by omega⟩ l) := by
  pointwise [stack]

theorem cosines_apply (a : FVec Ideal S16x256 .f32) (r : Fin 16) (l : Fin 256) : (cos a : FVec Ideal S16x256 .f32) (ix2 r l) = Ideal.cos (a (ix2 r l)) := rfl

theorem sines_apply (a : FVec Ideal S16x256 .f32) (r : Fin 16) (l : Fin 256) : sines a (ix2 r l) = -Ideal.sin (a (ix2 r l)) := by
  rw [← zero_sub]
  pointwise [sines]

theorem times_apply (t : FVec Ideal S1x256 .f32) (r : Fin 8) (l : Fin 256) : times t (ix2 r l) = if r.val = 0 then t (ix2 0 l) else 0 := by
  rw [← row_select r (t (ix2 0 l))]
  pointwise [times]

theorem zeros_apply (r : Fin 88) (l : Fin 256) : (broadcast S88x256 (Scalar.ofBits .f32 0x00000000#32) : FVec Ideal S88x256 .f32) (ix2 r l) = 0 := by
  pointwise

theorem feats_apply (i : grid0.Coords) (r : Fin 128) (l : Fin 256) : feats (angles (k0_pay3 (F := Ideal) i)) (k0_pay4 (F := Ideal) i) (ix2 r l)
    = Filt.kfeat (1 / 255) (Ideal.ofBits .f32 0x3CC90FDB#32) (256 * (i 0).val + l.val) r.val := by
  have ha := fun b => angles_apply i b l
  have ht := time_apply i 0 l
  unfold Filt.kfeat feats
  rw [← ht]
  generalize angles (k0_pay3 (F := Ideal) i) = a at ha ⊢
  generalize k0_pay4 (F := Ideal) i = t
  rw [stack_apply]
  by_cases h1 : r.val < 16
  · rw [dif_pos h1, if_pos h1, cosines_apply, ha]
  · rw [dif_neg h1, if_neg h1]
    by_cases h2 : r.val - 16 < 16
    · rw [dif_pos h2, if_pos (by omega), sines_apply, ha]
    · rw [dif_neg h2, if_neg (by omega)]
      by_cases h3 : r.val - 16 - 16 < 8
      · rw [dif_pos h3, times_apply]
        dsimp only
        by_cases h4 : r.val = 32
        · rw [if_pos h4, if_pos (by omega)]
        · rw [if_neg h4, if_neg (by omega)]
      · rw [dif_neg h3, if_neg (by omega), zeros_apply]

theorem lay1_apply (w : FVec Ideal S64x128 .f32) (f : FVec Ideal S128x256 .f32) (b fr : FVec Ideal S64x1 .f32) (j : Fin 64) (l : Fin 256) :
    lay1 w f b fr (ix2 j l) = Ideal.sin (fr (ix2 j 0) * ((∑ r : Fin 128, w (ix2 j r) * f (ix2 r l)) + b (ix2 j 0))) := by
  pointwise [lay1]

theorem lay2_apply (w : FVec Ideal S64x64 .f32) (f : FVec Ideal S64x256 .f32) (b fr : FVec Ideal S64x1 .f32) (j : Fin 64) (l : Fin 256) :
    lay2 w f b fr (ix2 j l) = Ideal.sin (fr (ix2 j 0) * ((∑ r : Fin 64, w (ix2 j r) * f (ix2 r l)) + b (ix2 j 0))) := by
  pointwise [lay2]

theorem prod_apply (w : FVec Ideal S1024x64 .f32) (f : FVec Ideal S64x256 .f32) (j : Fin 1024) (l : Fin 256) :
    prod w f (ix2 j l) = ∑ r : Fin 64, w (ix2 j r) * f (ix2 r l) := by
  pointwise [prod]

theorem window_apply (i : grid0.Coords) (d : Fin 256) (l : Fin 256) :
    k0_pay8 (F := Ideal) (k0_pay4 i) (ix2 d l) = Filt.window (1 / 255) (256 * (i 0).val + l.val) d.val := by
  have h := time_apply i 0 l
  have hb := word_nat d.val (by omega)
  unfold k0_pay8 Filt.window Filt.rate
  rw [decay_eq, ← h, show ((d.val : ℝ) : EReal) = (((BitVec.ofNat 32 d.val).toInt : ℝ) : EReal) by rw [hb]; norm_cast]
  generalize k0_pay4 (F := Ideal) i = p
  simp only [← zero_sub]
  pointwise
  simp only [zero_sub]
  rfl

/-- The four stores, each a slab of the product under the window. -/
theorem slab0_apply (v6 : FVec Ideal S1x256 .f32) (fr : FVec Ideal S64x1 .f32) (h : FVec Ideal S64x256 .f32) (w : FVec Ideal S64x64 .f32) (b : FVec Ideal S64x1 .f32)
    (w3 : FVec Ideal S1024x64 .f32) (z : Fin 1) (d : Fin 256) (l : Fin 256) : k0_pay9 (F := Ideal) v6 fr h w b w3 (ix3 z d l)
      = k0_pay7 fr h w b w3 (ix2 ⟨0 + d.val, by omega⟩ l) * k0_pay8 v6 (ix2 d l) := by
  unfold k0_pay9
  generalize k0_pay7 fr h w b w3 = p
  generalize k0_pay8 v6 = q
  pointwise

theorem slab1_apply (v6 : FVec Ideal S1x256 .f32) (fr : FVec Ideal S64x1 .f32) (h : FVec Ideal S64x256 .f32) (w : FVec Ideal S64x64 .f32) (b : FVec Ideal S64x1 .f32)
    (w3 : FVec Ideal S1024x64 .f32) (z : Fin 1) (d : Fin 256) (l : Fin 256) : k0_pay10 (F := Ideal) v6 fr h w b w3 (ix3 z d l)
      = k0_pay7 fr h w b w3 (ix2 ⟨256 + d.val, by omega⟩ l) * k0_pay8 v6 (ix2 d l) := by
  unfold k0_pay10
  generalize k0_pay7 fr h w b w3 = p
  generalize k0_pay8 v6 = q
  pointwise

theorem slab2_apply (v6 : FVec Ideal S1x256 .f32) (fr : FVec Ideal S64x1 .f32) (h : FVec Ideal S64x256 .f32) (w : FVec Ideal S64x64 .f32) (b : FVec Ideal S64x1 .f32)
    (w3 : FVec Ideal S1024x64 .f32) (z : Fin 1) (d : Fin 256) (l : Fin 256) : k0_pay1 (k0_pay11 (F := Ideal) v6 fr h w b w3) (ix3 z d l)
      = k0_pay7 fr h w b w3 (ix2 ⟨512 + d.val, by omega⟩ l) * k0_pay8 v6 (ix2 d l) := by
  unfold k0_pay1 k0_pay11
  generalize k0_pay7 fr h w b w3 = p
  generalize k0_pay8 v6 = q
  pointwise

theorem slab3_apply (p : FVec Ideal S1024x256 .f32) (q : FVec Ideal S256x256 .f32) (z : Fin 1) (d : Fin 256) (l : Fin 256) :
    k0_pay2 (F := Ideal) p q (ix3 z d l) = p (ix2 ⟨768 + d.val, by omega⟩ l) * q (ix2 d l) := by
  pointwise [k0_pay2]

/-! ## The array after the run -/

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0, t.val] ∧ (grid0.coords t 0).val = t.val ∧ t.val < 1 :=
  (by decide +kernel : ∀ t : Fin grid0.N, _)

variable (m : (ℓ : Loc nD τ sig) → Buf (Elt Ideal) ℓ) (c : Dev nD) (t : Fin cfg0.N)

/-- The weights, biases and frequencies that the call was given. -/
abbrev w1 : Filt.W1t := m ((c : Thread nD τ).loc main_arg0)
abbrev b1 : Filt.Bt := m ((c : Thread nD τ).loc main_arg1)
abbrev w2 : Filt.W2t := m ((c : Thread nD τ).loc main_arg2)
abbrev b2 : Filt.Bt := m ((c : Thread nD τ).loc main_arg3)
abbrev w3 : Filt.W3t := m ((c : Thread nD τ).loc main_arg4)
abbrev fr : Filt.Bt := m ((c : Thread nD τ).loc main_arg5)

/-- The first layer's weights as the host repacks them: the time's row last, transposed, and padded to whole lanes. -/
def packed (w : FVec Ideal S33x64 .f32) : FVec Ideal S64x128 .f32 :=
  pad S64x128 ![0, 0] ![0, 95] ![0, 0] (transpose S64x33 [1, 0] (concatenate S33x64 0
    [⟨S32x64, extractStridedSlice S32x64 ![1, 0] w slices_S33x64_S32x64_1_0⟩, ⟨S1x64, extractStridedSlice S1x64 ![0, 0] w slices_S33x64_S1x64_0_0⟩]
    concatenates_S32x64_S1x64_S33x64_d0) transposes_S33x64_S64x33_1_0) (sitofp .f32 (constantI S_ 32 0#32)) pads_S64x33_S64x128_000_0950 h_S_

theorem packed_row (w : FVec Ideal S33x64 .f32) (j : Fin 64) (r : Fin 32) : packed w (ix2 j ⟨r.val, by omega⟩) = w (ix2 r.succ j) := by
  pointwise [packed]
  rw [dif_pos (by omega)]
  congr 2
  exact Fin.ext (by simp only [Fin.val_succ]; omega)

theorem packed_last (w : FVec Ideal S33x64 .f32) (j : Fin 64) : packed w (ix2 j 32) = w (ix2 0 j) := by
  pointwise [packed]

theorem entry_w1 : (V m c main_v4 : FVec Ideal S64x128 .f32) = packed (w1 m c) := by
  simp only [V, hostOps0, hostOps0_1, hostOps0_2, List.flatten_cons, List.flatten_nil, List.append_nil, List.cons_append, List.nil_append]
  after_reads_simp
  rfl

theorem entry_b1 : (V m c main_v5 : FVec Ideal S64x1 .f32) = broadcastInDim S64x1 ![0] bcast_S64_S64x1_0 (b1 m c) := by
  simp only [V, hostOps0, hostOps0_1, hostOps0_2, List.flatten_cons, List.flatten_nil, List.append_nil, List.cons_append, List.nil_append]
  after_reads_simp

theorem entry_w2 : (V m c main_v6 : FVec Ideal S64x64 .f32) = transpose S64x64 [1, 0] (w2 m c) transposes_S64x64_S64x64_1_0 := by
  simp only [V, hostOps0, hostOps0_1, hostOps0_2, List.flatten_cons, List.flatten_nil, List.append_nil, List.cons_append, List.nil_append]
  after_reads_simp

theorem entry_b2 : (V m c main_v7 : FVec Ideal S64x1 .f32) = broadcastInDim S64x1 ![0] bcast_S64_S64x1_0 (b2 m c) := by
  simp only [V, hostOps0, hostOps0_1, hostOps0_2, List.flatten_cons, List.flatten_nil, List.append_nil, List.cons_append, List.nil_append]
  after_reads_simp

theorem entry_w3 : (V m c main_v8 : FVec Ideal S1024x64 .f32) = transpose S1024x64 [1, 0] (w3 m c) transposes_S64x1024_S1024x64_1_0 := by
  simp only [V, hostOps0, hostOps0_1, hostOps0_2, List.flatten_cons, List.flatten_nil, List.append_nil, List.cons_append, List.nil_append]
  after_reads_simp

theorem entry_fr : (V m c main_v9 : FVec Ideal S64x1 .f32) = broadcastInDim S64x1 ![0] bcast_S64_S64x1_0 (fr m c) := by
  simp only [V, hostOps0, hostOps0_1, hostOps0_2, List.flatten_cons, List.flatten_nil, List.append_nil, List.cons_append, List.nil_append]
  after_reads_simp

theorem x0_eq : (iblk m c 0 t : FVec Ideal S64x128 .f32) = packed (w1 m c) := by
  rw [← entry_w1]
  funext y
  blk_ext [iblk, idx t]

theorem x1_apply (j : Fin 64) : (iblk m c 1 t : FVec Ideal S64x1 .f32) (ix2 j 0) = b1 m c (ix1 j) := by
  trans (broadcastInDim S64x1 ![0] bcast_S64_S64x1_0 (b1 m c) : FVec Ideal S64x1 .f32) (ix2 j 0)
  · rw [← entry_b1]
    blk_ext [iblk, idx t]
  · generalize b1 m c = b
    pointwise

theorem x2_apply (j i : Fin 64) : (iblk m c 2 t : FVec Ideal S64x64 .f32) (ix2 j i) = w2 m c (ix2 i j) := by
  trans (transpose S64x64 [1, 0] (w2 m c) transposes_S64x64_S64x64_1_0 : FVec Ideal S64x64 .f32) (ix2 j i)
  · rw [← entry_w2]
    blk_ext [iblk, idx t]
  · generalize w2 m c = b
    pointwise

theorem x3_apply (j : Fin 64) : (iblk m c 3 t : FVec Ideal S64x1 .f32) (ix2 j 0) = b2 m c (ix1 j) := by
  trans (broadcastInDim S64x1 ![0] bcast_S64_S64x1_0 (b2 m c) : FVec Ideal S64x1 .f32) (ix2 j 0)
  · rw [← entry_b2]
    blk_ext [iblk, idx t]
  · generalize b2 m c = b
    pointwise

theorem x4_apply (j : Fin 1024) (i : Fin 64) : (iblk m c 4 t : FVec Ideal S1024x64 .f32) (ix2 j i) = w3 m c (ix2 i j) := by
  trans (transpose S1024x64 [1, 0] (w3 m c) transposes_S64x1024_S1024x64_1_0 : FVec Ideal S1024x64 .f32) (ix2 j i)
  · rw [← entry_w3]
    blk_ext [iblk, idx t]
  · generalize w3 m c = b
    pointwise

theorem x5_apply (j : Fin 64) : (iblk m c 5 t : FVec Ideal S64x1 .f32) (ix2 j 0) = fr m c (ix1 j) := by
  trans (broadcastInDim S64x1 ![0] bcast_S64_S64x1_0 (fr m c) : FVec Ideal S64x1 .f32) (ix2 j 0)
  · rw [← entry_fr]
    blk_ext [iblk, idx t]
  · generalize fr m c = b
    pointwise

/-- The turn per position. -/
abbrev turn : EReal := Ideal.ofBits .f32 0x3CC90FDB#32

theorem hid1_apply (j : Fin 64) (l : Fin 256) : k0_pay6 (F := Ideal) (grid0.coords t) (iblk m c 5 t) (iblk m c 0 t) (iblk m c 1 t) (ix2 j l)
    = Filt.hid1 (1 / 255) turn (w1 m c) (b1 m c) (fr m c) (256 * t.val + l.val) j := by
  rw [pay6_eq, lay1_apply, pay5_eq, x5_apply, x1_apply, x0_eq]
  simp only [feats_apply, (idx t).2.2.2.2.2.2.2.1]
  rw [Filt.first_sum (1 / 255) turn (w1 m c) (256 * t.val + l.val) j (fun r => packed (w1 m c) (ix2 j r)) (packed_row (w1 m c) j) (packed_last (w1 m c) j)]
  rfl

theorem prod_entry (j : Fin 1024) (l : Fin 256) : k0_pay7 (F := Ideal) (k0_pay5 (iblk m c 5 t)) (k0_pay6 (grid0.coords t) (iblk m c 5 t) (iblk m c 0 t) (iblk m c 1 t))
      (iblk m c 2 t) (iblk m c 3 t) (iblk m c 4 t) (ix2 j l)
    = ∑ i : Fin 64, Filt.hid2 (1 / 255) turn (w1 m c) (b1 m c) (w2 m c) (b2 m c) (fr m c) (256 * t.val + l.val) i * w3 m c (ix2 i j) := by
  rw [pay7_eq, prod_apply]
  refine Finset.sum_congr rfl fun i _ => ?_
  rw [lay2_apply, pay5_eq, x5_apply, x3_apply, x4_apply, mul_comm]
  congr 1
  unfold Filt.hid2
  congr 3
  refine Finset.sum_congr rfl fun q _ => ?_
  rw [hid1_apply, x2_apply, mul_comm]

theorem slab_entry (q : Fin 4) (d : Fin 256) (l : Fin 256) (n : Nat) (hn : n + d.val < 1024) (e : n = 256 * q.val) :
    k0_pay7 (F := Ideal) (k0_pay5 (iblk m c 5 t)) (k0_pay6 (grid0.coords t) (iblk m c 5 t) (iblk m c 0 t) (iblk m c 1 t))
      (iblk m c 2 t) (iblk m c 3 t) (iblk m c 4 t) (ix2 ⟨n + d.val, hn⟩ l) * k0_pay8 (F := Ideal) (k0_pay4 (grid0.coords t)) (ix2 d l)
    = Filt.entry (1 / 255) turn (w1 m c) (b1 m c) (w2 m c) (b2 m c) (w3 m c) (fr m c) q d (256 * t.val + l.val) := by
  subst e
  rw [prod_entry, window_apply, (idx t).2.2.2.2.2.2.2.1]
  rfl

/-- A block of the array, by its own indices. -/
def blockAt (y : S4x256x256.Idx) : EReal :=
  Filt.entry (1 / 255) turn (w1 m c) (b1 m c) (w2 m c) (b2 m c) (w3 m c) (fr m c) ⟨(y 0).val, (y 0).isLt⟩ ⟨(y 1).val, (y 1).isLt⟩ (256 * t.val + (y 2).val)

theorem blockAt_of {q : Fin 4} {d : Fin 256} {l : Fin 256} {y : S4x256x256.Idx} (hq : (y 0).val = q.val) (hd : (y 1).val = d.val) (hl : (y 2).val = l.val) :
    Filt.entry (1 / 255) turn (w1 m c) (b1 m c) (w2 m c) (b2 m c) (w3 m c) (fr m c) q d (256 * t.val + l.val) = blockAt m c t y := by
  unfold blockAt
  rw [show (⟨(y 0).val, (y 0).isLt⟩ : Fin 4) = q from Fin.ext hq, show (⟨(y 1).val, (y 1).isLt⟩ : Fin 256) = d from Fin.ext hd, hl]

/-- A store of one filter's slab writes its entries of the block. -/
theorem slab_block (n : Nat) (q : Fin 4) (hq : n = q.val) (pay : FVec Ideal S1x256x256 .f32)
    (h : ∀ (z : Fin 1) (d : Fin 256) (l : Fin 256), pay (ix3 z d l) = Filt.entry (1 / 255) turn (w1 m c) (b1 m c) (w2 m c) (b2 m c) (w3 m c) (fr m c) q d (256 * t.val + l.val))
    (inb) (x : S1x256x256.Idx) : pay x = blockAt m c t ((Rect.unit (s := S4x256x256) ![n, 0, 0] S1x256x256.size inb).emb x) := by
  have hx : (x 0).val < 1 := (x 0).isLt
  have ex : x = ix3 (⟨(x 0).val, (x 0).isLt⟩ : Fin 1) (⟨(x 1).val, (x 1).isLt⟩ : Fin 256) (⟨(x 2).val, (x 2).isLt⟩ : Fin 256) := by
    funext a
    match a with
    | ⟨0, _⟩ => rfl
    | ⟨1, _⟩ => rfl
    | ⟨2, _⟩ => rfl
  refine (congrArg pay ex).trans ((h _ _ _).trans (blockAt_of m c t ?_ ?_ ?_))
  · show n + 1 * (x 0).val = q.val
    omega
  · show 0 + 1 * (x 1).val = (x 1).val
    omega
  · show 0 + 1 * (x 2).val = (x 2).val
    omega

theorem final : (dats m 0 c).arrAt 6 cfg0.N = Filt.array 256 (1 / 255) turn (w1 m c) (b1 m c) (w2 m c) (b2 m c) (w3 m c) (fr m c) := by
  refine (dats m 0 c).arrAt_eq_of_covers 6 _ (by decide +kernel) fun t _ y => ?_
  have ht := (idx t).2.2.2.2.2.2.2.2
  blk_simp
  rw [after0_6]
  unfold_out out0_6
  frame_out
  refine (View.canon_apply_of_pieces (blockAt m c t) _ ?_ y ?_).trans ?_
  · intro p hp
    rcases List.mem_cons.mp hp with rfl | hp
    · exact slab_block m c t 3 3 rfl _ (fun z d l => (slab3_apply _ _ z d l).trans (slab_entry m c t 3 d l 768 _ rfl)) inb_S4x256x256_S1x256x256_3_0_0
    rcases List.mem_cons.mp hp with rfl | hp
    · exact slab_block m c t 2 2 rfl _ (fun z d l => (slab2_apply _ _ _ _ _ _ z d l).trans (slab_entry m c t 2 d l 512 _ rfl)) inb_S4x256x256_S1x256x256_2_0_0
    rcases List.mem_cons.mp hp with rfl | hp
    · exact slab_block m c t 1 1 rfl _ (fun z d l => (slab1_apply _ _ _ _ _ _ z d l).trans (slab_entry m c t 1 d l 256 _ rfl)) inb_S4x256x256_S1x256x256_1_0_0
    rcases List.mem_cons.mp hp with rfl | hp
    · exact slab_block m c t 0 0 rfl _ (fun z d l => (slab0_apply _ _ _ _ _ _ z d l).trans (slab_entry m c t 0 d l 0 _ rfl)) inb_S4x256x256_S1x256x256_0_0_0
    nomatch hp
  · have h0 : (y 0).val < 4 := (y 0).isLt
    have h1 : (y 1).val < 256 := (y 1).isLt
    have h2 : (y 2).val < 256 := (y 2).isLt
    have hall : ∀ n : Nat, ∀ inb, (y 0).val = n → y ∈ (Rect.unit (s := S4x256x256) ![n, 0, 0] S1x256x256.size inb).set := by
      intro n inb hn
      rw [Rect.mem_set_unit]
      intro a
      match a with
      | ⟨0, _⟩ => show n ≤ (y 0).val ∧ (y 0).val < n + 1; omega
      | ⟨1, _⟩ => show 0 ≤ (y 1).val ∧ (y 1).val < 0 + 256; omega
      | ⟨2, _⟩ => show 0 ≤ (y 2).val ∧ (y 2).val < 0 + 256; omega
    rcases (show (y 0).val = 3 ∨ (y 0).val = 2 ∨ (y 0).val = 1 ∨ (y 0).val = 0 by omega) with h | h | h | h
    · exact ⟨_, List.mem_cons_self, hall 3 inb_S4x256x256_S1x256x256_3_0_0 h⟩
    · exact ⟨_, List.mem_cons_of_mem _ List.mem_cons_self, hall 2 inb_S4x256x256_S1x256x256_2_0_0 h⟩
    · exact ⟨_, List.mem_cons_of_mem _ (List.mem_cons_of_mem _ List.mem_cons_self), hall 1 inb_S4x256x256_S1x256x256_1_0_0 h⟩
    · exact ⟨_, List.mem_cons_of_mem _ (List.mem_cons_of_mem _ (List.mem_cons_of_mem _ List.mem_cons_self)), hall 0 inb_S4x256x256_S1x256x256_0_0_0 h⟩
  · unfold blockAt
    idx_vars y
    refine Filt.entry_of _ _ _ _ _ _ _ _ _ ?_ ?_ ?_
    · blk_simp [idx t]
    · blk_simp [idx t]
    · blk_simp [idx t]
      omega

end Cert.Kernel10Ideal.Final

end
-- ==== Proof.FiltRef.lean ====
/-
  The reference of the long sequence's filters: its result by filter, channel and position.
-/
module

public import proofs.«01_k».proof.Proof.Gen.Reference9Ideal.Read
public import proofs.«01_k».proof.Proof.Filt

@[expose] public section

set_option maxRecDepth 16384
set_option backward.proofsInPublic true

noncomputable section

open Idealize.ShloMosaic

namespace Cert.Reference9Ideal.RefVal

open Cert.Reference9Ideal Cert.Reference9Ideal.Gen Cert.Reference9Ideal.Read

/-- The turn per position. -/
abbrev turn : EReal := Ideal.ofBits .f32 0x39C90FDB#32

theorem word_nat (l : Nat) (hl : l < 65536) : (BitVec.ofNat 32 l).toInt = (l : Int) := by
  have e : (BitVec.ofNat 32 l).toNat = l := by
    simp only [BitVec.toNat_ofNat]
    omega
  rw [BitVec.toInt_eq_toNat_of_lt (by omega), e]

/-- A number as a float. -/
theorem float_nat (l : Nat) (hl : l < 65536) : (FloatOps.sitofp .f32 (BitVec.ofNat 32 l) : Ideal .f32) = ((l : ℝ) : EReal) := by
  show (((BitVec.ofNat 32 l).toInt : ℝ) : EReal) = _
  rw [word_nat l hl]
  norm_cast

/-! ## The equal steps -/

theorem times_mid (k : Fin 16383) : val_main_call0_v15 (F := Ideal) (ix1 k) = Filt.time (1 / 16383) k.val := by
  have h : (Ideal.ofBits .f32 0x00000000#32 : EReal) * (Ideal.ofBits .f32 0x3F800000#32 - Ideal.div (FloatOps.sitofp (F := Ideal) .f32 (BitVec.ofNat 32 k.val)) (Ideal.ofBits .f32 0x467FFC00#32))
      + Ideal.ofBits .f32 0x3F800000#32 * Ideal.div (FloatOps.sitofp (F := Ideal) .f32 (BitVec.ofNat 32 k.val)) (Ideal.ofBits .f32 0x467FFC00#32) = Filt.time (1 / 16383) k.val := by
    rw [float_nat _ (by omega), Filt.word_16383, Filt.word_0, Filt.word_1, Filt.step 0 1 16383 (by norm_num)]
    unfold Filt.time
    rw [EReal.coe_zero, zero_add, sub_zero]
  rw [← h]
  pointwise [val_main_call0_v15, val_main_call0_v14, val_main_call0_v13, val_main_call0_v12, val_main_call0_v11, val_main_call0_v10, val_main_call0_v9, val_main_call0_v8,
    val_main_call0_cst_1, val_main_call0_v7, val_main_call0_v6, val_main_call0_v5, val_main_call0_cst_0, val_main_call0_v4, val_main_call0_v1, val_main_call0_v0, val_main_cst, val_main_cst_0, id]

theorem time_apply (k : Fin 16384) : val_main_v0 (F := Ideal) (ix1 k) = Filt.time (1 / 16383) k.val := by
  unfold val_main_v0
  have h := times_mid
  have h1 : ∀ z : Fin 1, val_main_call0_v16 (F := Ideal) (ix1 z) = Filt.time (1 / 16383) 16383 := by
    intro z
    trans Ideal.ofBits .f32 0x3F800000#32
    · pointwise [val_main_call0_v16, val_main_call0_v1, val_main_cst_0, id]
    · rw [Filt.word_1]
      unfold Filt.time
      rw [← EReal.coe_mul]
      norm_num
  generalize val_main_call0_v15 (F := Ideal) = a at h ⊢
  generalize val_main_call0_v16 (F := Ideal) = b at h1 ⊢
  trans (if hk : k.val < 16383 then a (ix1 ⟨k.val, hk⟩) else b (ix1 ⟨k.val - 16383, by omega⟩))
  · pointwise
  · by_cases hk : k.val < 16383
    · rw [dif_pos hk, h]
    · rw [dif_neg hk, h1, show k.val = 16383 by omega]

theorem bands_mid (b : Fin 15) : val_main_call1_v15 (F := Ideal) (ix1 b) = Filt.band b.val := by
  have h : (Ideal.ofBits .f32 0x38D1B717#32 : EReal) * (Ideal.ofBits .f32 0x3F800000#32 - Ideal.div (FloatOps.sitofp (F := Ideal) .f32 (BitVec.ofNat 32 b.val)) (Ideal.ofBits .f32 0x41700000#32))
      + Ideal.ofBits .f32 0x41700000#32 * Ideal.div (FloatOps.sitofp (F := Ideal) .f32 (BitVec.ofNat 32 b.val)) (Ideal.ofBits .f32 0x41700000#32) = Filt.band b.val := by
    unfold Filt.band
    rw [float_nat _ (by omega), Filt.word_15, Filt.low_word, Filt.word_1, Filt.step _ _ 15 (by norm_num)]
    congr 3
    norm_num
  rw [← h]
  pointwise [val_main_call1_v15, val_main_call1_v14, val_main_call1_v13, val_main_call1_v12, val_main_call1_v11, val_main_call1_v10, val_main_call1_v9, val_main_call1_v8,
    val_main_call1_cst_1, val_main_call1_v7, val_main_call1_v6, val_main_call1_v5, val_main_call1_cst_0, val_main_call1_v4, val_main_call1_v1, val_main_call1_v0, val_main_cst_2, val_main_cst_3, id]

theorem band_apply (k : Fin 16) : val_main_v6 (F := Ideal) (ix1 k) = Filt.band k.val := by
  unfold val_main_v6
  have h := bands_mid
  have h1 : ∀ z : Fin 1, val_main_call1_v16 (F := Ideal) (ix1 z) = Filt.band 15 := by
    intro z
    trans Ideal.ofBits .f32 0x41700000#32
    · pointwise [val_main_call1_v16, val_main_call1_v1, val_main_cst_3, id]
    · unfold Filt.band
      rw [Filt.word_15, Filt.low_word, ← EReal.coe_mul, ← EReal.coe_add]
      norm_num
  generalize val_main_call1_v15 (F := Ideal) = a at h ⊢
  generalize val_main_call1_v16 (F := Ideal) = b at h1 ⊢
  trans (if hk : k.val < 15 then a (ix1 ⟨k.val, hk⟩) else b (ix1 ⟨k.val - 15, by omega⟩))
  · pointwise
  · by_cases hk : k.val < 15
    · rw [dif_pos hk, h]
    · rw [dif_neg hk, h1, show k.val = 15 by omega]

theorem rates_mid (b : Fin 255) : val_main_call2_v15 (F := Ideal) (ix1 b) = Filt.rate b.val := by
  have h : (Ideal.ofBits .f32 0xC0447CBD#32 : EReal) * (Ideal.ofBits .f32 0x3F800000#32 - Ideal.div (FloatOps.sitofp (F := Ideal) .f32 (BitVec.ofNat 32 b.val)) (Ideal.ofBits .f32 0x437F0000#32))
      + Ideal.ofBits .f32 0xC1759BEC#32 * Ideal.div (FloatOps.sitofp (F := Ideal) .f32 (BitVec.ofNat 32 b.val)) (Ideal.ofBits .f32 0x437F0000#32) = Filt.rate b.val := by
    unfold Filt.rate
    rw [float_nat _ (by omega), Filt.word_255, Filt.min_word, Filt.max_word, Filt.word_1, Filt.step _ _ 255 (by norm_num)]
    congr 3
    norm_num
  rw [← h]
  pointwise [val_main_call2_v15, val_main_call2_v14, val_main_call2_v13, val_main_call2_v12, val_main_call2_v11, val_main_call2_v10, val_main_call2_v9, val_main_call2_v8,
    val_main_call2_cst_1, val_main_call2_v7, val_main_call2_v6, val_main_call2_v5, val_main_call2_cst_0, val_main_call2_v4, val_main_call2_v1, val_main_call2_v0, val_main_cst_4, val_main_cst_5, id]

theorem rate_apply (k : Fin 256) : val_main_v35 (F := Ideal) (ix1 k) = Filt.rate k.val := by
  unfold val_main_v35
  have h := rates_mid
  have h1 : ∀ z : Fin 1, val_main_call2_v16 (F := Ideal) (ix1 z) = Filt.rate 255 := by
    intro z
    trans Ideal.ofBits .f32 0xC1759BEC#32
    · pointwise [val_main_call2_v16, val_main_call2_v1, val_main_cst_5, id]
    · unfold Filt.rate
      rw [Filt.max_word, Filt.min_word, ← EReal.coe_mul, ← EReal.coe_add]
      norm_num
  generalize val_main_call2_v15 (F := Ideal) = a at h ⊢
  generalize val_main_call2_v16 (F := Ideal) = b at h1 ⊢
  trans (if hk : k.val < 255 then a (ix1 ⟨k.val, hk⟩) else b (ix1 ⟨k.val - 255, by omega⟩))
  · pointwise
  · by_cases hk : k.val < 255
    · rw [dif_pos hk, h]
    · rw [dif_neg hk, h1, show k.val = 255 by omega]

/-! ## The features -/

theorem turns_apply (k : Fin 16384) (z : Fin 1) : val_main_v5 (F := Ideal) (ix2 k z) = ((k.val : ℝ) : EReal) * turn := by
  rw [← float_nat k.val (by omega), mul_comm]
  pointwise [val_main_v5, val_main_v4, val_main_cst_1, val_main_v3, val_main_v2]

theorem angle_apply (k : Fin 16384) (b : Fin 16) : val_main_v10 (F := Ideal) (ix2 k b) = Filt.angle turn k.val b.val := by
  unfold Filt.angle
  rw [← band_apply, ← turns_apply k 0]
  unfold val_main_v10 val_main_v9 val_main_v8 val_main_v7
  generalize val_main_v5 (F := Ideal) = p
  generalize val_main_v6 (F := Ideal) = q
  pointwise

theorem cosine_apply (k : Fin 16384) (b : Fin 16) : val_main_v11 (F := Ideal) (ix2 k b) = Ideal.cos (Filt.angle turn k.val b.val) := by
  rw [← angle_apply]
  rfl

theorem sine_apply (k : Fin 16384) (b : Fin 16) : val_main_v16 (F := Ideal) (ix2 k b) = -Ideal.sin (Filt.angle turn k.val b.val) := by
  rw [← angle_apply]
  rfl

theorem feat_apply (k : Fin 16384) (f : Fin 33) : val_main_v17 (F := Ideal) (ix2 k f) = Filt.feat (1 / 16383) turn k.val f.val := by
  have ht : ∀ z : Fin 1, val_main_v1 (F := Ideal) (ix2 k z) = Filt.time (1 / 16383) k.val := by
    intro z
    rw [← time_apply k]
    unfold val_main_v1
    generalize val_main_v0 (F := Ideal) = y
    pointwise
  have hc := cosine_apply k
  have hs := sine_apply k
  unfold val_main_v17 Filt.feat
  generalize val_main_v1 (F := Ideal) = a at ht ⊢
  generalize val_main_v11 (F := Ideal) = b at hc ⊢
  generalize val_main_v16 (F := Ideal) = d at hs ⊢
  trans (if h : f.val < 1 then a (ix2 k ⟨f.val, h⟩) else if h : f.val - 1 < 16 then b (ix2 k ⟨f.val - 1, h⟩) else d (ix2 k ⟨f.val - 1 - 16, by omega⟩))
  · pointwise
  · by_cases h0 : f.val < 1
    · rw [dif_pos h0, if_pos (by omega), ht]
    · rw [dif_neg h0, if_neg (by omega)]
      by_cases h1 : f.val - 1 < 16
      · rw [dif_pos h1, if_pos (by omega), hc]
      · rw [dif_neg h1, if_neg (by omega), hs]
        dsimp only
        rw [show f.val - 1 - 16 = f.val - 17 by omega]

/-! ## The network -/

variable (w1 : Filt.W1t) (b1 : Filt.Bt) (w2 : Filt.W2t) (b2 : Filt.Bt) (w3 : Filt.W3t) (fr : Filt.Bt)

theorem hid1_apply (k : Fin 16384) (j : Fin 64) : val_main_v25 (F := Ideal) w1 b1 fr (ix2 k j) = Filt.hid1 (1 / 16383) turn w1 b1 fr k.val j := by
  unfold Filt.hid1
  simp only [← feat_apply]
  unfold val_main_v25 val_main_v24 val_main_v21 val_main_v18
  generalize val_main_v17 (F := Ideal) = y
  pointwise [val_main_v23, val_main_v22, val_main_v20, val_main_v19]

theorem hid2_apply (k : Fin 16384) (j : Fin 64) : val_main_v33 (F := Ideal) w1 b1 w2 b2 fr (ix2 k j) = Filt.hid2 (1 / 16383) turn w1 b1 w2 b2 fr k.val j := by
  unfold Filt.hid2
  simp only [← hid1_apply]
  unfold val_main_v33 val_main_v32 val_main_v29 val_main_v26
  generalize val_main_v25 (F := Ideal) w1 b1 fr = y
  pointwise [val_main_v31, val_main_v30, val_main_v28, val_main_v27]

theorem prod_apply (k : Fin 16384) (j : Fin 1024) : val_main_v34 (F := Ideal) w1 b1 w2 b2 w3 fr (ix2 k j)
    = ∑ i : Fin 64, Filt.hid2 (1 / 16383) turn w1 b1 w2 b2 fr k.val i * w3 (ix2 i j) := by
  simp only [← hid2_apply]
  unfold val_main_v34
  generalize val_main_v33 (F := Ideal) w1 b1 w2 b2 fr = y
  pointwise

theorem window_apply (k : Fin 16384) (d : Fin 256) : val_main_v42 (F := Ideal) (ix2 k d) = Filt.window (1 / 16383) k.val d.val := by
  unfold Filt.window
  rw [← rate_apply, ← time_apply]
  unfold val_main_v42 val_main_v41 val_main_v40 val_main_v39 val_main_v38 val_main_v37 val_main_v36 val_main_v1
  generalize val_main_v35 (F := Ideal) = p
  generalize val_main_v0 (F := Ideal) = q
  pointwise
  rfl

theorem array_apply (q : Fin 4) (d : Fin 256) (k : Fin 16384) : val_main_v47 (F := Ideal) w1 b1 w2 b2 w3 fr (ix3 q d k)
    = Filt.entry (1 / 16383) turn w1 b1 w2 b2 w3 fr q d k.val := by
  unfold Filt.entry
  rw [← prod_apply, ← window_apply]
  unfold val_main_v47 val_main_v46 val_main_v45 val_main_v44 val_main_v43
  generalize val_main_v34 (F := Ideal) w1 b1 w2 b2 w3 fr = y
  generalize val_main_v42 (F := Ideal) = z
  pointwise
  simp only [Nat.mul_comm]

theorem array_eq : val_main_v47 (F := Ideal) w1 b1 w2 b2 w3 fr = Filt.array 16384 (1 / 16383) turn w1 b1 w2 b2 w3 fr := by
  funext i
  idx_vars i
  exact array_apply w1 b1 w2 b2 w3 fr _ _ _

end Cert.Reference9Ideal.RefVal

end
-- ==== Proof.FiltCtxRef.lean ====
/-
  The reference of the context's filters: its result by filter, channel and position.
-/
module

public import proofs.«01_k».proof.Proof.Gen.Reference10Ideal.Read
public import proofs.«01_k».proof.Proof.Filt

@[expose] public section

set_option maxRecDepth 16384
set_option backward.proofsInPublic true

noncomputable section

open Idealize.ShloMosaic

namespace Cert.Reference10Ideal.RefVal

open Cert.Reference10Ideal Cert.Reference10Ideal.Gen Cert.Reference10Ideal.Read

/-- The turn per position. -/
abbrev turn : EReal := Ideal.ofBits .f32 0x3CC90FDB#32

theorem word_nat (l : Nat) (hl : l < 65536) : (BitVec.ofNat 32 l).toInt = (l : Int) := by
  have e : (BitVec.ofNat 32 l).toNat = l := by
    simp only [BitVec.toNat_ofNat]
    omega
  rw [BitVec.toInt_eq_toNat_of_lt (by omega), e]

/-- A number as a float. -/
theorem float_nat (l : Nat) (hl : l < 65536) : (FloatOps.sitofp .f32 (BitVec.ofNat 32 l) : Ideal .f32) = ((l : ℝ) : EReal) := by
  show (((BitVec.ofNat 32 l).toInt : ℝ) : EReal) = _
  rw [word_nat l hl]
  norm_cast

/-! ## The equal steps -/

theorem times_mid (k : Fin 255) : val_main_call0_v15 (F := Ideal) (ix1 k) = Filt.time (1 / 255) k.val := by
  have h : (Ideal.ofBits .f32 0x00000000#32 : EReal) * (Ideal.ofBits .f32 0x3F800000#32 - Ideal.div (FloatOps.sitofp (F := Ideal) .f32 (BitVec.ofNat 32 k.val)) (Ideal.ofBits .f32 0x437F0000#32))
      + Ideal.ofBits .f32 0x3F800000#32 * Ideal.div (FloatOps.sitofp (F := Ideal) .f32 (BitVec.ofNat 32 k.val)) (Ideal.ofBits .f32 0x437F0000#32) = Filt.time (1 / 255) k.val := by
    rw [float_nat _ (by omega), Filt.word_255, Filt.word_0, Filt.word_1, Filt.step 0 1 255 (by norm_num)]
    unfold Filt.time
    rw [EReal.coe_zero, zero_add, sub_zero]
  rw [← h]
  pointwise [val_main_call0_v15, val_main_call0_v14, val_main_call0_v13, val_main_call0_v12, val_main_call0_v11, val_main_call0_v10, val_main_call0_v9, val_main_call0_v8,
    val_main_call0_cst_1, val_main_call0_v7, val_main_call0_v6, val_main_call0_v5, val_main_call0_cst_0, val_main_call0_v4, val_main_call0_v1, val_main_call0_v0, val_main_cst, val_main_cst_0, id]

theorem time_apply (k : Fin 256) : val_main_v0 (F := Ideal) (ix1 k) = Filt.time (1 / 255) k.val := by
  unfold val_main_v0
  have h := times_mid
  have h1 : ∀ z : Fin 1, val_main_call0_v16 (F := Ideal) (ix1 z) = Filt.time (1 / 255) 255 := by
    intro z
    trans Ideal.ofBits .f32 0x3F800000#32
    · pointwise [val_main_call0_v16, val_main_call0_v1, val_main_cst_0, id]
    · rw [Filt.word_1]
      unfold Filt.time
      rw [← EReal.coe_mul]
      norm_num
  generalize val_main_call0_v15 (F := Ideal) = a at h ⊢
  generalize val_main_call0_v16 (F := Ideal) = b at h1 ⊢
  trans (if hk : k.val < 255 then a (ix1 ⟨k.val, hk⟩) else b (ix1 ⟨k.val - 255, by omega⟩))
  · pointwise
  · by_cases hk : k.val < 255
    · rw [dif_pos hk, h]
    · rw [dif_neg hk, h1, show k.val = 255 by omega]

theorem bands_mid (b : Fin 15) : val_main_call1_v15 (F := Ideal) (ix1 b) = Filt.band b.val := by
  have h : (Ideal.ofBits .f32 0x38D1B717#32 : EReal) * (Ideal.ofBits .f32 0x3F800000#32 - Ideal.div (FloatOps.sitofp (F := Ideal) .f32 (BitVec.ofNat 32 b.val)) (Ideal.ofBits .f32 0x41700000#32))
      + Ideal.ofBits .f32 0x41700000#32 * Ideal.div (FloatOps.sitofp (F := Ideal) .f32 (BitVec.ofNat 32 b.val)) (Ideal.ofBits .f32 0x41700000#32) = Filt.band b.val := by
    unfold Filt.band
    rw [float_nat _ (by omega), Filt.word_15, Filt.low_word, Filt.word_1, Filt.step _ _ 15 (by norm_num)]
    congr 3
    norm_num
  rw [← h]
  pointwise [val_main_call1_v15, val_main_call1_v14, val_main_call1_v13, val_main_call1_v12, val_main_call1_v11, val_main_call1_v10, val_main_call1_v9, val_main_call1_v8,
    val_main_call1_cst_1, val_main_call1_v7, val_main_call1_v6, val_main_call1_v5, val_main_call1_cst_0, val_main_call1_v4, val_main_call1_v1, val_main_call1_v0, val_main_cst_2, val_main_cst_3, id]

theorem band_apply (k : Fin 16) : val_main_v6 (F := Ideal) (ix1 k) = Filt.band k.val := by
  unfold val_main_v6
  have h := bands_mid
  have h1 : ∀ z : Fin 1, val_main_call1_v16 (F := Ideal) (ix1 z) = Filt.band 15 := by
    intro z
    trans Ideal.ofBits .f32 0x41700000#32
    · pointwise [val_main_call1_v16, val_main_call1_v1, val_main_cst_3, id]
    · unfold Filt.band
      rw [Filt.word_15, Filt.low_word, ← EReal.coe_mul, ← EReal.coe_add]
      norm_num
  generalize val_main_call1_v15 (F := Ideal) = a at h ⊢
  generalize val_main_call1_v16 (F := Ideal) = b at h1 ⊢
  trans (if hk : k.val < 15 then a (ix1 ⟨k.val, hk⟩) else b (ix1 ⟨k.val - 15, by omega⟩))
  · pointwise
  · by_cases hk : k.val < 15
    · rw [dif_pos hk, h]
    · rw [dif_neg hk, h1, show k.val = 15 by omega]

theorem rates_mid (b : Fin 255) : val_main_call2_v15 (F := Ideal) (ix1 b) = Filt.rate b.val := by
  have h : (Ideal.ofBits .f32 0xC0447CBD#32 : EReal) * (Ideal.ofBits .f32 0x3F800000#32 - Ideal.div (FloatOps.sitofp (F := Ideal) .f32 (BitVec.ofNat 32 b.val)) (Ideal.ofBits .f32 0x437F0000#32))
      + Ideal.ofBits .f32 0xC1759BEC#32 * Ideal.div (FloatOps.sitofp (F := Ideal) .f32 (BitVec.ofNat 32 b.val)) (Ideal.ofBits .f32 0x437F0000#32) = Filt.rate b.val := by
    unfold Filt.rate
    rw [float_nat _ (by omega), Filt.word_255, Filt.min_word, Filt.max_word, Filt.word_1, Filt.step _ _ 255 (by norm_num)]
    congr 3
    norm_num
  rw [← h]
  pointwise [val_main_call2_v15, val_main_call2_v14, val_main_call2_v13, val_main_call2_v12, val_main_call2_v11, val_main_call2_v10, val_main_call2_v9, val_main_call2_v8,
    val_main_call2_cst_1, val_main_call2_v7, val_main_call2_v6, val_main_call2_v5, val_main_call2_cst_0, val_main_call2_v4, val_main_call2_v1, val_main_call2_v0, val_main_cst_4, val_main_cst_5, id]

theorem rate_apply (k : Fin 256) : val_main_v35 (F := Ideal) (ix1 k) = Filt.rate k.val := by
  unfold val_main_v35
  have h := rates_mid
  have h1 : ∀ z : Fin 1, val_main_call2_v16 (F := Ideal) (ix1 z) = Filt.rate 255 := by
    intro z
    trans Ideal.ofBits .f32 0xC1759BEC#32
    · pointwise [val_main_call2_v16, val_main_call2_v1, val_main_cst_5, id]
    · unfold Filt.rate
      rw [Filt.max_word, Filt.min_word, ← EReal.coe_mul, ← EReal.coe_add]
      norm_num
  generalize val_main_call2_v15 (F := Ideal) = a at h ⊢
  generalize val_main_call2_v16 (F := Ideal) = b at h1 ⊢
  trans (if hk : k.val < 255 then a (ix1 ⟨k.val, hk⟩) else b (ix1 ⟨k.val - 255, by omega⟩))
  · pointwise
  · by_cases hk : k.val < 255
    · rw [dif_pos hk, h]
    · rw [dif_neg hk, h1, show k.val = 255 by omega]

/-! ## The features -/

theorem turns_apply (k : Fin 256) (z : Fin 1) : val_main_v5 (F := Ideal) (ix2 k z) = ((k.val : ℝ) : EReal) * turn := by
  rw [← float_nat k.val (by omega), mul_comm]
  pointwise [val_main_v5, val_main_v4, val_main_cst_1, val_main_v3, val_main_v2]

theorem angle_apply (k : Fin 256) (b : Fin 16) : val_main_v10 (F := Ideal) (ix2 k b) = Filt.angle turn k.val b.val := by
  unfold Filt.angle
  rw [← band_apply, ← turns_apply k 0]
  unfold val_main_v10 val_main_v9 val_main_v8 val_main_v7
  generalize val_main_v5 (F := Ideal) = p
  generalize val_main_v6 (F := Ideal) = q
  pointwise

theorem cosine_apply (k : Fin 256) (b : Fin 16) : val_main_v11 (F := Ideal) (ix2 k b) = Ideal.cos (Filt.angle turn k.val b.val) := by
  rw [← angle_apply]
  rfl

theorem sine_apply (k : Fin 256) (b : Fin 16) : val_main_v16 (F := Ideal) (ix2 k b) = -Ideal.sin (Filt.angle turn k.val b.val) := by
  rw [← angle_apply]
  rfl

theorem feat_apply (k : Fin 256) (f : Fin 33) : val_main_v17 (F := Ideal) (ix2 k f) = Filt.feat (1 / 255) turn k.val f.val := by
  have ht : ∀ z : Fin 1, val_main_v1 (F := Ideal) (ix2 k z) = Filt.time (1 / 255) k.val := by
    intro z
    rw [← time_apply k]
    unfold val_main_v1
    generalize val_main_v0 (F := Ideal) = y
    pointwise
  have hc := cosine_apply k
  have hs := sine_apply k
  unfold val_main_v17 Filt.feat
  generalize val_main_v1 (F := Ideal) = a at ht ⊢
  generalize val_main_v11 (F := Ideal) = b at hc ⊢
  generalize val_main_v16 (F := Ideal) = d at hs ⊢
  trans (if h : f.val < 1 then a (ix2 k ⟨f.val, h⟩) else if h : f.val - 1 < 16 then b (ix2 k ⟨f.val - 1, h⟩) else d (ix2 k ⟨f.val - 1 - 16, by omega⟩))
  · pointwise
  · by_cases h0 : f.val < 1
    · rw [dif_pos h0, if_pos (by omega), ht]
    · rw [dif_neg h0, if_neg (by omega)]
      by_cases h1 : f.val - 1 < 16
      · rw [dif_pos h1, if_pos (by omega), hc]
      · rw [dif_neg h1, if_neg (by omega), hs]
        dsimp only
        rw [show f.val - 1 - 16 = f.val - 17 by omega]

/-! ## The network -/

variable (w1 : Filt.W1t) (b1 : Filt.Bt) (w2 : Filt.W2t) (b2 : Filt.Bt) (w3 : Filt.W3t) (fr : Filt.Bt)

theorem hid1_apply (k : Fin 256) (j : Fin 64) : val_main_v25 (F := Ideal) w1 b1 fr (ix2 k j) = Filt.hid1 (1 / 255) turn w1 b1 fr k.val j := by
  unfold Filt.hid1
  simp only [← feat_apply]
  unfold val_main_v25 val_main_v24 val_main_v21 val_main_v18
  generalize val_main_v17 (F := Ideal) = y
  pointwise [val_main_v23, val_main_v22, val_main_v20, val_main_v19]

theorem hid2_apply (k : Fin 256) (j : Fin 64) : val_main_v33 (F := Ideal) w1 b1 w2 b2 fr (ix2 k j) = Filt.hid2 (1 / 255) turn w1 b1 w2 b2 fr k.val j := by
  unfold Filt.hid2
  simp only [← hid1_apply]
  unfold val_main_v33 val_main_v32 val_main_v29 val_main_v26
  generalize val_main_v25 (F := Ideal) w1 b1 fr = y
  pointwise [val_main_v31, val_main_v30, val_main_v28, val_main_v27]

theorem prod_apply (k : Fin 256) (j : Fin 1024) : val_main_v34 (F := Ideal) w1 b1 w2 b2 w3 fr (ix2 k j)
    = ∑ i : Fin 64, Filt.hid2 (1 / 255) turn w1 b1 w2 b2 fr k.val i * w3 (ix2 i j) := by
  simp only [← hid2_apply]
  unfold val_main_v34
  generalize val_main_v33 (F := Ideal) w1 b1 w2 b2 fr = y
  pointwise

theorem window_apply (k : Fin 256) (d : Fin 256) : val_main_v42 (F := Ideal) (ix2 k d) = Filt.window (1 / 255) k.val d.val := by
  unfold Filt.window
  rw [← rate_apply, ← time_apply]
  unfold val_main_v42 val_main_v41 val_main_v40 val_main_v39 val_main_v38 val_main_v37 val_main_v36 val_main_v1
  generalize val_main_v35 (F := Ideal) = p
  generalize val_main_v0 (F := Ideal) = q
  pointwise
  rfl

theorem array_apply (q : Fin 4) (d : Fin 256) (k : Fin 256) : val_main_v47 (F := Ideal) w1 b1 w2 b2 w3 fr (ix3 q d k)
    = Filt.entry (1 / 255) turn w1 b1 w2 b2 w3 fr q d k.val := by
  unfold Filt.entry
  rw [← prod_apply, ← window_apply]
  unfold val_main_v47 val_main_v46 val_main_v45 val_main_v44 val_main_v43
  generalize val_main_v34 (F := Ideal) w1 b1 w2 b2 w3 fr = y
  generalize val_main_v42 (F := Ideal) = z
  pointwise
  simp only [Nat.mul_comm]

theorem array_eq : val_main_v47 (F := Ideal) w1 b1 w2 b2 w3 fr = Filt.array 256 (1 / 255) turn w1 b1 w2 b2 w3 fr := by
  funext i
  idx_vars i
  exact array_apply w1 b1 w2 b2 w3 fr _ _ _

end Cert.Reference10Ideal.RefVal

end
-- ==== Proof.lean ====
/-
  The certificate. The attention, both layers' feed-forward, both layers' input projection and both layers' output projection: the
  frame of each, the frame of its ideal program, and its value against its reference.
-/
module

public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel2.Frame
public import proofs.«01_k».proof.Proof.Gen.Kernel2Ideal.Frame
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel3.Frame
public import proofs.«01_k».proof.Proof.Gen.Kernel3Ideal.Frame
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel4.Frame
public import proofs.«01_k».proof.Proof.Gen.Kernel4Ideal.Frame
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel5.Frame
public import proofs.«01_k».proof.Proof.Gen.Kernel5Ideal.Frame
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Kernel6.Frame
public import proofs.«01_k».proof.Proof.Gen.Kernel6Ideal.Frame
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel7.Frame
public import proofs.«01_k».proof.Proof.Gen.Kernel7Ideal.Frame
public import proofs.«01_k».proof.Proof.Gen.Reference8Ideal.Run
public import proofs.«01_k».proof.Proof.Gen.Reference8Ideal.Read
public import proofs.«01_k».proof.Proof.Gen.Kernel8Ideal.Value
public import proofs.«01_k».proof.Proof.Gen.Kernel8.Frame
public import proofs.«01_k».proof.Proof.Gen.Kernel8Ideal.Frame
public import proofs.«01_k».proof.Proof.Gen.Reference9Ideal.Run
public import proofs.«01_k».proof.Proof.Gen.Reference9Ideal.Read
public import proofs.«01_k».proof.Proof.Gen.Kernel9Ideal.Value
public import proofs.«01_k».proof.Proof.Gen.Kernel9.Frame
public import proofs.«01_k».proof.Proof.Gen.Kernel9Ideal.Frame
public import proofs.«01_k».proof.Proof.Gen.Reference10Ideal.Run
public import proofs.«01_k».proof.Proof.Gen.Reference10Ideal.Read
public import proofs.«01_k».proof.Proof.Gen.Kernel10Ideal.Value
public import proofs.«01_k».proof.Proof.Gen.Kernel10.Frame
public import proofs.«01_k».proof.Proof.Gen.Kernel10Ideal.Frame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunKernel
public import proofs.«01_k».proof.Proof.Final
public import proofs.«01_k».proof.Proof.RefVal
public import proofs.«01_k».proof.Proof.PreRead
public import proofs.«01_k».proof.Proof.FfnFinal
public import proofs.«01_k».proof.Proof.FfnRef
public import proofs.«01_k».proof.Proof.FfnLast
public import proofs.«01_k».proof.Proof.FfnLastRef
public import proofs.«01_k».proof.Proof.InProjRef
public import proofs.«01_k».proof.Proof.InProjFinal
public import proofs.«01_k».proof.Proof.InProjSplit
public import proofs.«01_k».proof.Proof.OutRef
public import proofs.«01_k».proof.Proof.OutRefSplit
public import proofs.«01_k».proof.Proof.OutFinal
public import proofs.«01_k».proof.Proof.OutSplit
public import proofs.«01_k».proof.Proof.ModFinal
public import proofs.«01_k».proof.Proof.ModRef
public import proofs.«01_k».proof.Proof.FiltFinal
public import proofs.«01_k».proof.Proof.FiltCtxFinal
public import proofs.«01_k».proof.Proof.FiltRef
public import proofs.«01_k».proof.Proof.FiltCtxRef
public import Idealize.ShloMosaic.Lib.Quiescent
public import Idealize.ShloMosaic.Lib.Pipeline.Quiescent
public import Idealize.ShloMosaic.Adequacy
public import Idealize.ShloMosaic.Init

@[expose] public section

noncomputable section

namespace Cert.Proof

open Idealize.ShloMosaic Idealize.ShloMosaic.TcCoe Idealize.SL.Sem

/-- The attention's frame: nothing is said of what its result holds. -/
theorem frame_Kernel : quiescent_Kernel := fun m ρ _ =>
  (θ_run Cert.Kernel.defs _ _).mono (fun r h => ⟨fun c =>
      ⟨(h.1.arr_in c 0 rfl).trans (Cert.Kernel.Gen.V_main_arg0 m c), (h.1.arr_in c 1 rfl).trans (Cert.Kernel.Gen.V_main_arg1 m c),
        (h.1.arr_in c 2 rfl).trans (Cert.Kernel.Gen.V_main_arg2 m c), (h.1.arr_in c 3 rfl).trans (Cert.Kernel.Gen.V_main_arg3 m c)⟩, h.2⟩)
    (Cert.Kernel.Run.run_forget m ρ fun _ _ _ => FloatOps.ofBits (F := Bits) .f32 0)

/-- The attention's ideal program's frame. -/
theorem frame_KernelIdeal : quiescent_KernelIdeal := fun m ρ _ =>
  θ_run_with_sems (Cert.KernelIdeal.Gen.frame_of m ρ (Cert.KernelIdeal.Run.dats m (Cert.KernelIdeal.Final.out m)) fun _ _ => rfl)
      (Cert.KernelIdeal.Run.run_main m ρ (Cert.KernelIdeal.Final.out m) (Cert.KernelIdeal.Final.out_found m))

/-- A reference has no semaphores, so its counters stay at zero. -/
theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The attention computes the softmax of the scores, applied to the values. -/
theorem value : algebraic_KernelIdeal_ReferenceIdeal_pre_finite_scores_and_ones := by
  intro m ρ m' ρ' hpre hin
  have hp := fun c => Cert.Pre_finite_scores_and_ones.read _ _ _ _ (hpre c)
  refine ⟨fun c => Cert.Online.attnAt (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)), ?_, ?_⟩
  · refine (θ_run Cert.KernelIdeal.defs _ _).mono (fun r h c => ?_)
      (Cert.KernelIdeal.Run.run_main m ρ (Cert.KernelIdeal.Final.out m) (Cert.KernelIdeal.Final.out_found m))
    have h1 := (h.1 c).1
    refine ⟨(h1 4).trans (Cert.KernelIdeal.Final.final m c (hp c).1 (hp c).2.1 (hp c).2.2), ?_, ?_, ?_, ?_⟩
    · exact (h1 0).trans (((Cert.KernelIdeal.Run.dats m _ 0 c).arrAt_in 0 rfl _).trans (Cert.KernelIdeal.Gen.V_main_arg0 m c))
    · exact (h1 1).trans (((Cert.KernelIdeal.Run.dats m _ 0 c).arrAt_in 1 rfl _).trans (Cert.KernelIdeal.Gen.V_main_arg1 m c))
    · exact (h1 2).trans (((Cert.KernelIdeal.Run.dats m _ 0 c).arrAt_in 2 rfl _).trans (Cert.KernelIdeal.Gen.V_main_arg2 m c))
    · exact (h1 3).trans (((Cert.KernelIdeal.Run.dats m _ 0 c).arrAt_in 3 rfl _).trans (Cert.KernelIdeal.Gen.V_main_arg3 m c))
  · refine (θ_run Cert.ReferenceIdeal.defs _ _).mono (fun r h c => ⟨(h c).1.trans ?_, (h c).2⟩) (Cert.ReferenceIdeal.Value.run m' ρ')
    obtain ⟨e0, e1, e2, e3⟩ := hin c
    rw [Cert.ReferenceIdeal.Read.val_main_v85_eq, e0, e1, e2, e3]
    exact Cert.ReferenceIdeal.RefVal.result_eq _ _ _ _ (hp c).1

/-- The feed-forward's reference's frame. -/
theorem frame_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The feed-forward computes the norm of the scaled residual and the gated product of the activation. -/
theorem value2 : algebraic_Kernel2Ideal_Reference2Ideal := by
  intro m ρ m' ρ' hpre hin
  refine ⟨fun c => Cert.Ffn.ffnAt (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2))
    (m ((c : Thread Cert.Kernel2Ideal.nD Cert.Kernel2Ideal.τ).loc Cert.Kernel2Ideal.main_arg3))
    (m ((c : Thread Cert.Kernel2Ideal.nD Cert.Kernel2Ideal.τ).loc Cert.Kernel2Ideal.main_arg4))
    (m ((c : Thread Cert.Kernel2Ideal.nD Cert.Kernel2Ideal.τ).loc Cert.Kernel2Ideal.main_arg5))
    (m ((c : Thread Cert.Kernel2Ideal.nD Cert.Kernel2Ideal.τ).loc Cert.Kernel2Ideal.main_arg6))
    (m ((c : Thread Cert.Kernel2Ideal.nD Cert.Kernel2Ideal.τ).loc Cert.Kernel2Ideal.main_arg7))
    (m ((c : Thread Cert.Kernel2Ideal.nD Cert.Kernel2Ideal.τ).loc Cert.Kernel2Ideal.main_arg8)), ?_, ?_⟩
  · exact (θ_run Cert.Kernel2Ideal.defs _ _).mono (fun r h c => ⟨(h c).1.trans (Cert.Kernel2Ideal.Final.final m c), (h c).2⟩)
      (Cert.Kernel2Ideal.Value.run_blocks m ρ)
  · refine (θ_run Cert.Reference2Ideal.defs _ _).mono (fun r h c => ⟨(h c).1.trans ?_, (h c).2⟩) (Cert.Reference2Ideal.Value.run m' ρ')
    obtain ⟨e0, e1, e2, e3, e4, e5, e6, e7, e8⟩ := hin c
    rw [Cert.Reference2Ideal.Read.val_main_v73_eq, e0, e1, e2, e3, e4, e5, e6, e7, e8]
    exact Cert.Reference2Ideal.RefVal.result_eq _ _ _ _ _ _ _ _ _

/-- The last layer's feed-forward's reference's frame. -/
theorem frame_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The last layer's feed-forward computes the same over the latent rows alone. -/
theorem value3 : algebraic_Kernel3Ideal_Reference3Ideal := by
  intro m ρ m' ρ' hpre hin
  refine ⟨fun c => Cert.Ffn.lastAt (m ((c : Thread Cert.Kernel3Ideal.nD Cert.Kernel3Ideal.τ).loc Cert.Kernel3Ideal.main_arg0))
    (m ((c : Thread Cert.Kernel3Ideal.nD Cert.Kernel3Ideal.τ).loc Cert.Kernel3Ideal.main_arg1))
    (m ((c : Thread Cert.Kernel3Ideal.nD Cert.Kernel3Ideal.τ).loc Cert.Kernel3Ideal.main_arg2))
    (m ((c : Thread Cert.Kernel3Ideal.nD Cert.Kernel3Ideal.τ).loc Cert.Kernel3Ideal.main_arg3))
    (m ((c : Thread Cert.Kernel3Ideal.nD Cert.Kernel3Ideal.τ).loc Cert.Kernel3Ideal.main_arg4))
    (m ((c : Thread Cert.Kernel3Ideal.nD Cert.Kernel3Ideal.τ).loc Cert.Kernel3Ideal.main_arg5))
    (m ((c : Thread Cert.Kernel3Ideal.nD Cert.Kernel3Ideal.τ).loc Cert.Kernel3Ideal.main_arg6))
    (m ((c : Thread Cert.Kernel3Ideal.nD Cert.Kernel3Ideal.τ).loc Cert.Kernel3Ideal.main_arg7))
    (m ((c : Thread Cert.Kernel3Ideal.nD Cert.Kernel3Ideal.τ).loc Cert.Kernel3Ideal.main_arg8)), ?_, ?_⟩
  · exact (θ_run Cert.Kernel3Ideal.defs _ _).mono (fun r h c => ⟨(h c).1.trans (Cert.Kernel3Ideal.Final.final m c), (h c).2⟩)
      (Cert.Kernel3Ideal.Value.run_blocks m ρ)
  · refine (θ_run Cert.Reference3Ideal.defs _ _).mono (fun r h c => ⟨(h c).1.trans ?_, (h c).2⟩) (Cert.Reference3Ideal.Value.run m' ρ')
    obtain ⟨e0, e1, e2, e3, e4, e5, e6, e7, e8⟩ := hin c
    rw [Cert.Reference3Ideal.Read.val_main_v67_eq, e0, e1, e2, e3, e4, e5, e6, e7, e8]
    exact Cert.Reference3Ideal.RefVal.result_eq _ _ _ _ _ _ _ _ _

/-- The first layer's input projection's reference's frame. -/
theorem frame_Reference4Ideal : quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

/-- The first layer's input projection computes the five groups of columns of the product of the scaled and shifted rows with the weights. -/
theorem value4 : algebraic_Kernel4Ideal_Reference4Ideal := by
  intro m ρ m' ρ' hpre hin
  refine ⟨fun c => Cert.InProj.hy (Cert.Kernel4Ideal.Final.rows m c) (Cert.Kernel4Ideal.Final.weights m c),
    fun c => Cert.InProj.z (Cert.Kernel4Ideal.Final.rows m c) (Cert.Kernel4Ideal.Final.weights m c),
    fun c => Cert.InProj.xbc (Cert.Kernel4Ideal.Final.rows m c) (Cert.Kernel4Ideal.Final.weights m c),
    fun c => Cert.InProj.dt (Cert.Kernel4Ideal.Final.rows m c) (Cert.Kernel4Ideal.Final.weights m c),
    fun c => Cert.InProj.qkv (Cert.Kernel4Ideal.Final.rows m c) (Cert.Kernel4Ideal.Final.weights m c), ?_, ?_⟩
  · refine (θ_run Cert.Kernel4Ideal.defs _ _).mono (fun r h c => ?_) (Cert.Kernel4Ideal.Value.run_blocks m ρ)
    obtain ⟨h0, h1, h2, h3, h4, h⟩ := h c
    exact ⟨h0.trans (Cert.Kernel4Ideal.Final.hy_final m c), h1.trans (Cert.Kernel4Ideal.Final.z_final m c), h2.trans (Cert.Kernel4Ideal.Final.xbc_final m c),
      h3.trans (Cert.Kernel4Ideal.Final.dt_final m c), h4.trans (Cert.Kernel4Ideal.Final.qkv_final m c), h⟩
  · refine (θ_run Cert.Reference4Ideal.defs _ _).mono (fun r h c => ?_) (Cert.Reference4Ideal.Value.run m' ρ')
    obtain ⟨e0, e1, e2, e3, e4⟩ := hin c
    obtain ⟨h0, h1, h2, h3, h4, h⟩ := h c
    refine ⟨h0.trans ?_, h1.trans ?_, h2.trans ?_, h3.trans ?_, h4.trans ?_, h⟩
    · rw [Cert.Reference4Ideal.Read.val_main_v26_eq, e0, e1, e2, e3, e4]
      exact Cert.Reference4Ideal.RefVal.hy_eq _ _ _ _ _
    · rw [Cert.Reference4Ideal.Read.val_main_v27_eq, e0, e1, e2, e3, e4]
      exact Cert.Reference4Ideal.RefVal.z_eq _ _ _ _ _
    · rw [Cert.Reference4Ideal.Read.val_main_v28_eq, e0, e1, e2, e3, e4]
      exact Cert.Reference4Ideal.RefVal.xbc_eq _ _ _ _ _
    · rw [Cert.Reference4Ideal.Read.val_main_v24_eq, e0, e1, e2, e3, e4]
      exact Cert.Reference4Ideal.RefVal.dt_eq _ _ _ _ _
    · rw [Cert.Reference4Ideal.Read.val_main_v29_eq, e0, e1, e2, e3, e4]
      exact Cert.Reference4Ideal.RefVal.qkv_eq _ _ _ _ _

/-- The last layer's input projection's reference's frame. -/
theorem frame_Reference5Ideal : quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run m ρ)

/-- The last layer's input projection computes the five groups of columns of the product of the scaled and shifted rows with the weights. -/
theorem value5 : algebraic_Kernel5Ideal_Reference5Ideal := by
  intro m ρ m' ρ' hpre hin
  refine ⟨fun c => Cert.InProj.hy (Cert.Kernel5Ideal.Final.rows m c) (Cert.Kernel5Ideal.Final.weights m c),
    fun c => Cert.InProj.z (Cert.Kernel5Ideal.Final.rows m c) (Cert.Kernel5Ideal.Final.weights m c),
    fun c => Cert.InProj.xbc (Cert.Kernel5Ideal.Final.rows m c) (Cert.Kernel5Ideal.Final.weights m c),
    fun c => Cert.InProj.dt (Cert.Kernel5Ideal.Final.rows m c) (Cert.Kernel5Ideal.Final.weights m c),
    fun c => Cert.InProj.qkv (Cert.Kernel5Ideal.Final.rows m c) (Cert.Kernel5Ideal.Final.weights m c), ?_, ?_⟩
  · refine (θ_run Cert.Kernel5Ideal.defs _ _).mono (fun r h c => ?_) (Cert.Kernel5Ideal.Value.run_blocks m ρ)
    obtain ⟨h0, h1, h2, h3, h4, h⟩ := h c
    exact ⟨h0.trans (Cert.Kernel5Ideal.Final.hy_final m c), h1.trans (Cert.Kernel5Ideal.Final.z_final m c), h2.trans (Cert.Kernel5Ideal.Final.xbc_final m c),
      h3.trans (Cert.Kernel5Ideal.Final.dt_final m c), h4.trans (Cert.Kernel5Ideal.Final.qkv_final m c), h⟩
  · refine (θ_run Cert.Reference5Ideal.defs _ _).mono (fun r h c => ?_) (Cert.Reference5Ideal.Value.run m' ρ')
    obtain ⟨e0, e1, e2, e3⟩ := hin c
    obtain ⟨h0, h1, h2, h3, h4, h⟩ := h c
    refine ⟨h0.trans ?_, h1.trans ?_, h2.trans ?_, h3.trans ?_, h4.trans ?_, h⟩
    · rw [Cert.Reference5Ideal.Read.val_main_v28_eq, e0, e1, e2, e3]
      exact Cert.Reference5Ideal.RefVal.hy_eq _ _ _ _
    · rw [Cert.Reference5Ideal.Read.val_main_v29_eq, e0, e1, e2, e3]
      exact Cert.Reference5Ideal.RefVal.z_eq _ _ _ _
    · rw [Cert.Reference5Ideal.Read.val_main_v30_eq, e0, e1, e2, e3]
      exact Cert.Reference5Ideal.RefVal.xbc_eq _ _ _ _
    · rw [Cert.Reference5Ideal.Read.val_main_v26_eq, e0, e1, e2, e3]
      exact Cert.Reference5Ideal.RefVal.dt_eq _ _ _ _
    · rw [Cert.Reference5Ideal.Read.val_main_v31_eq, e0, e1, e2, e3]
      exact Cert.Reference5Ideal.RefVal.qkv_eq _ _ _ _

/-- The first layer's output projection's reference's frame. -/
theorem frame_Reference6Ideal : quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The first layer's output projection computes the norm of the scaled residual and the gated product of the three parts, and its scaled and shifted rows. -/
theorem value6 : algebraic_Kernel6Ideal_Reference6Ideal := by
  intro m ρ m' ρ' hpre hin
  refine ⟨fun c => Cert.Out.x1At (Cert.Kernel6Ideal.Final.rows m c) (Cert.Kernel6Ideal.Final.weights m c) (Cert.Kernel6Ideal.Final.group m c) (Cert.Kernel6Ideal.Final.gain m c) (Cert.Kernel6Ideal.Final.bias m c),
    fun c => Cert.Out.h2At (Cert.Kernel6Ideal.Final.rows m c) (Cert.Kernel6Ideal.Final.weights m c) (Cert.Kernel6Ideal.Final.group m c) (Cert.Kernel6Ideal.Final.gain m c) (Cert.Kernel6Ideal.Final.bias m c), ?_, ?_⟩
  · refine (θ_run Cert.Kernel6Ideal.defs _ _).mono (fun r h c => ?_) (Cert.Kernel6Ideal.Value.run_blocks m ρ)
    obtain ⟨h0, h1, h⟩ := h c
    exact ⟨h0.trans (Cert.Kernel6Ideal.Final.x1_final m c), h1.trans (Cert.Kernel6Ideal.Final.h2_final m c), h⟩
  · refine (θ_run Cert.Reference6Ideal.defs _ _).mono (fun r h c => ?_) (Cert.Reference6Ideal.Value.run m' ρ')
    obtain ⟨e0, e1, e2, e3, e4, e5, e6, e7, e8, e9, e10, e11, e12, e13, e14, e15⟩ := hin c
    obtain ⟨h0, h1, h⟩ := h c
    refine ⟨h0.trans ?_, h1.trans ?_, h⟩
    · rw [Cert.Reference6Ideal.Read.val_main_v103_eq, e0, e1, e2, e3, e4, e5, e6, e7, e8, e9, e12, e13, e14, e15]
      exact Cert.Reference6Ideal.RefVal.x1_eq _ _ _ _ _ _ _ _ _ _ _ _ _ _ _ _
    · rw [Cert.Reference6Ideal.Read.val_main_v125_eq, e0, e1, e2, e3, e4, e5, e6, e7, e8, e9, e10, e11, e12, e13, e14, e15]
      exact Cert.Reference6Ideal.RefVal.h2_eq _ _ _ _ _ _ _ _ _ _ _ _ _ _ _ _

/-- The last layer's output projection's reference's frame. -/
theorem frame_Reference7Ideal : quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

/-- The last layer's output projection computes the norm of the scaled residual and the gated product of the three parts, and its scaled and shifted rows. -/
theorem value7 : algebraic_Kernel7Ideal_Reference7Ideal := by
  intro m ρ m' ρ' hpre hin
  refine ⟨fun c => Cert.Out.x1At (Cert.Kernel7Ideal.Final.rows m c) (Cert.Kernel7Ideal.Final.weights m c) (Cert.Kernel7Ideal.Final.group m c) (Cert.Kernel7Ideal.Final.gain m c) (Cert.Kernel7Ideal.Final.bias m c),
    fun c => Cert.Out.h2At (Cert.Kernel7Ideal.Final.rows m c) (Cert.Kernel7Ideal.Final.weights m c) (Cert.Kernel7Ideal.Final.group m c) (Cert.Kernel7Ideal.Final.gain m c) (Cert.Kernel7Ideal.Final.bias m c), ?_, ?_⟩
  · refine (θ_run Cert.Kernel7Ideal.defs _ _).mono (fun r h c => ?_) (Cert.Kernel7Ideal.Value.run_blocks m ρ)
    obtain ⟨h0, h1, h⟩ := h c
    exact ⟨h0.trans (Cert.Kernel7Ideal.Final.x1_final m c), h1.trans (Cert.Kernel7Ideal.Final.h2_final m c), h⟩
  · refine (θ_run Cert.Reference7Ideal.defs _ _).mono (fun r h c => ?_) (Cert.Reference7Ideal.Value.run m' ρ')
    obtain ⟨e0, e1, e2, e3, e4, e5, e6, e7, e8, e9, e10, e11, e12⟩ := hin c
    obtain ⟨h0, h1, h⟩ := h c
    refine ⟨h0.trans ?_, h1.trans ?_, h⟩
    · rw [Cert.Reference7Ideal.Read.val_main_v73_eq, e0, e1, e2, e3, e4, e5, e6, e9, e10, e11, e12]
      exact Cert.Reference7Ideal.RefVal.x1_eq _ _ _ _ _ _ _ _ _ _ _ _ _
    · rw [Cert.Reference7Ideal.Read.val_main_v84_eq, e0, e1, e2, e3, e4, e5, e6, e7, e8, e9, e10, e11, e12]
      exact Cert.Reference7Ideal.RefVal.h2_eq _ _ _ _ _ _ _ _ _ _ _ _ _

/-- The modulation's reference's frame. -/
theorem frame_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The modulation computes the products of the gated vectors with each layer's weights, and the biases added. -/
theorem value8 : algebraic_Kernel8Ideal_Reference8Ideal := by
  intro m ρ m' ρ' hpre hin
  refine ⟨fun c => Cert.Mod.array (Cert.Kernel8Ideal.Final.vecs m c) (Cert.Kernel8Ideal.Final.weights m c) (Cert.Kernel8Ideal.Final.biases m c), ?_, ?_⟩
  · refine (θ_run Cert.Kernel8Ideal.defs _ _).mono (fun r h c => ?_) (Cert.Kernel8Ideal.Value.run_blocks m ρ)
    obtain ⟨h0, h⟩ := h c
    exact ⟨h0.trans (Cert.Kernel8Ideal.Final.final m c), h⟩
  · refine (θ_run Cert.Reference8Ideal.defs _ _).mono (fun r h c => ?_) (Cert.Reference8Ideal.Value.run m' ρ')
    obtain ⟨e0, e1, e2⟩ := hin c
    obtain ⟨h0, h⟩ := h c
    refine ⟨h0.trans ?_, h⟩
    rw [Cert.Reference8Ideal.Read.val_main_v25_eq, e0, e1, e2]
    exact Cert.Reference8Ideal.RefVal.array_eq _ _ _

/-- The frame of the filters' reference for the long sequence. -/
theorem frame_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The filters' three named constants of the long sequence: one over the last position, and the steps of the bands and of the decays. -/
theorem named9 : preserves_Kernel9_Kernel9Ideal :=
  ⟨IdealRules.named_const.statement Cert.Kernel9Ideal.κ "unit" .f32 0x38800200#32 ((1 / 16383 : ℝ) : EReal) rfl,
    IdealRules.named_const.statement Cert.Kernel9Ideal.κ "band" .f32 0x3F7FFF90#32 ((412314111637 / 412316860416 : ℝ) : EReal) rfl,
    IdealRules.named_const.statement Cert.Kernel9Ideal.κ "decay" .f32 0xBD4541FF#32 ((-10301591 / 213909504 : ℝ) : EReal) rfl⟩

/-- The filters of the long sequence: the sine network of the positions, under the decaying window. -/
theorem value9 : algebraic_Kernel9Ideal_Reference9Ideal := by
  intro m ρ m' ρ' hpre hin
  refine ⟨fun c => Cert.Filt.array 16384 (1 / 16383) Cert.Kernel9Ideal.Final.turn (Cert.Kernel9Ideal.Final.w1 m c) (Cert.Kernel9Ideal.Final.b1 m c) (Cert.Kernel9Ideal.Final.w2 m c)
    (Cert.Kernel9Ideal.Final.b2 m c) (Cert.Kernel9Ideal.Final.w3 m c) (Cert.Kernel9Ideal.Final.fr m c), ?_, ?_⟩
  · refine (θ_run Cert.Kernel9Ideal.defs _ _).mono (fun r h c => ?_) (Cert.Kernel9Ideal.Value.run_blocks m ρ)
    obtain ⟨h0, h⟩ := h c
    exact ⟨h0.trans (Cert.Kernel9Ideal.Final.final m c), h⟩
  · refine (θ_run Cert.Reference9Ideal.defs _ _).mono (fun r h c => ?_) (Cert.Reference9Ideal.Value.run m' ρ')
    obtain ⟨e0, e1, e2, e3, e4, e5⟩ := hin c
    obtain ⟨h0, h⟩ := h c
    refine ⟨h0.trans ?_, h⟩
    rw [Cert.Reference9Ideal.Read.val_main_v47_eq, e0, e1, e2, e3, e4, e5]
    exact Cert.Reference9Ideal.RefVal.array_eq _ _ _ _ _ _

/-- The frame of the filters' reference for the context. -/
theorem frame_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- The filters' three named constants of the context: one over the last position, and the steps of the bands and of the decays. -/
theorem named10 : preserves_Kernel10_Kernel10Ideal :=
  ⟨IdealRules.named_const.statement Cert.Kernel10Ideal.κ "unit" .f32 0x3B808081#32 ((1 / 255 : ℝ) : EReal) rfl,
    IdealRules.named_const.statement Cert.Kernel10Ideal.κ "band" .f32 0x3F7FFF90#32 ((412314111637 / 412316860416 : ℝ) : EReal) rfl,
    IdealRules.named_const.statement Cert.Kernel10Ideal.κ "decay" .f32 0xBD4541FF#32 ((-10301591 / 213909504 : ℝ) : EReal) rfl⟩

/-- The filters of the context: the sine network of the positions, under the decaying window. -/
theorem value10 : algebraic_Kernel10Ideal_Reference10Ideal := by
  intro m ρ m' ρ' hpre hin
  refine ⟨fun c => Cert.Filt.array 256 (1 / 255) Cert.Kernel10Ideal.Final.turn (Cert.Kernel10Ideal.Final.w1 m c) (Cert.Kernel10Ideal.Final.b1 m c) (Cert.Kernel10Ideal.Final.w2 m c)
    (Cert.Kernel10Ideal.Final.b2 m c) (Cert.Kernel10Ideal.Final.w3 m c) (Cert.Kernel10Ideal.Final.fr m c), ?_, ?_⟩
  · refine (θ_run Cert.Kernel10Ideal.defs _ _).mono (fun r h c => ?_) (Cert.Kernel10Ideal.Value.run_blocks m ρ)
    obtain ⟨h0, h⟩ := h c
    exact ⟨h0.trans (Cert.Kernel10Ideal.Final.final m c), h⟩
  · refine (θ_run Cert.Reference10Ideal.defs _ _).mono (fun r h c => ?_) (Cert.Reference10Ideal.Value.run m' ρ')
    obtain ⟨e0, e1, e2, e3, e4, e5⟩ := hin c
    obtain ⟨h0, h⟩ := h c
    refine ⟨h0.trans ?_, h⟩
    rw [Cert.Reference10Ideal.Read.val_main_v47_eq, e0, e1, e2, e3, e4, e5]
    exact Cert.Reference10Ideal.RefVal.array_eq _ _ _ _ _ _

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_scores_and_ones.facts,
    frame_Kernel, frame_KernelIdeal, fun m ρ _ => frame_KernelIdeal m ρ trivial, frame_ReferenceIdeal,
    fun m ρ _ => frame_ReferenceIdeal m ρ trivial, fun m ρ _ => Cert.Kernel2.Gen.frame m ρ, fun m ρ _ => Cert.Kernel2Ideal.Gen.frame m ρ,
    frame_Reference2Ideal, fun m ρ _ => Cert.Kernel3.Gen.frame m ρ, fun m ρ _ => Cert.Kernel3Ideal.Gen.frame m ρ,
    frame_Reference3Ideal, fun m ρ _ => Cert.Kernel4.Gen.frame m ρ, fun m ρ _ => Cert.Kernel4Ideal.Gen.frame m ρ,
    frame_Reference4Ideal, fun m ρ _ => Cert.Kernel5.Gen.frame m ρ, fun m ρ _ => Cert.Kernel5Ideal.Gen.frame m ρ,
    frame_Reference5Ideal, fun m ρ _ => Cert.Kernel6.Gen.frame m ρ, fun m ρ _ => Cert.Kernel6Ideal.Gen.frame m ρ,
    frame_Reference6Ideal, fun m ρ _ => Cert.Kernel7.Gen.frame m ρ, fun m ρ _ => Cert.Kernel7Ideal.Gen.frame m ρ,
    frame_Reference7Ideal, fun m ρ _ => Cert.Kernel8.Gen.frame m ρ, fun m ρ _ => Cert.Kernel8Ideal.Gen.frame m ρ,
    frame_Reference8Ideal, fun m ρ _ => Cert.Kernel9.Gen.frame m ρ, fun m ρ _ => Cert.Kernel9Ideal.Gen.frame m ρ,
    frame_Reference9Ideal, fun m ρ _ => Cert.Kernel10.Gen.frame m ρ, fun m ρ _ => Cert.Kernel10Ideal.Gen.frame m ρ,
    frame_Reference10Ideal, trivial, value, trivial, value2, trivial, value3, trivial, value4, trivial, value5,
    trivial, value6, trivial, value7, trivial, value8, named9, value9, named10, value10⟩

end Cert.Proof

end
